-- ==== Defs.lean ====
def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Moe [hPre_experts_exist : Cert.Pre_experts_exist.Facts] (m : (ℓ : Loc Cert.Moe.nD Cert.Moe.τ Cert.Moe.sig) → Buf (Elt Bits) ℓ) : Prop :=
  ∀ c : Dev Cert.Moe.nD,
    (Cert.Pre_experts_exist.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))) = (fun _ => 1#1)

def Pre_MoeIdeal [hPre_experts_exist : Cert.Pre_experts_exist.Facts] (m : (ℓ : Loc Cert.MoeIdeal.nD Cert.MoeIdeal.τ Cert.MoeIdeal.sig) → Buf (Elt Ideal) ℓ) : Prop :=
  ∀ c : Dev Cert.MoeIdeal.nD,
    (Cert.Pre_experts_exist.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))) = (fun _ => 1#1)

def Pre_MoeRefIdeal [hPre_experts_exist : Cert.Pre_experts_exist.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_experts_exist.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Na (m : (ℓ : Loc Cert.Na.nD Cert.Na.τ Cert.Na.sig) → Buf (Elt Bits) ℓ) : Prop :=
  True

def Pre_NaIdeal (m : (ℓ : Loc Cert.NaIdeal.nD Cert.NaIdeal.τ Cert.NaIdeal.sig) → Buf (Elt Ideal) ℓ) : Prop :=
  True

def Pre_NaIdeal_finite_na [hPre_finite_na : Cert.Pre_finite_na.Facts] (m : (ℓ : Loc Cert.NaIdeal.nD Cert.NaIdeal.τ Cert.NaIdeal.sig) → Buf (Elt Ideal) ℓ) : Prop :=
  ∀ c : Dev Cert.NaIdeal.nD,
    (Cert.Pre_finite_na.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1))).1 = (fun _ => 1#1)
    ∧ (Cert.Pre_finite_na.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1))).2 = (fun _ => 1#1)

def Pre_NaRefIdeal (m : (ℓ : Loc Cert.NaRefIdeal.nD Cert.NaRefIdeal.τ Cert.NaRefIdeal.sig) → Buf (Elt Ideal) ℓ) : Prop :=
  True

def Pre_NaRefIdeal_finite_na [hPre_finite_na : Cert.Pre_finite_na.Facts] (m : (ℓ : Loc Cert.NaRefIdeal.nD Cert.NaRefIdeal.τ Cert.NaRefIdeal.sig) → Buf (Elt Ideal) ℓ) : Prop :=
  ∀ c : Dev Cert.NaRefIdeal.nD,
    (Cert.Pre_finite_na.fn (F := Ideal) (m ((c.tc : Thread Cert.NaRefIdeal.nD Cert.NaRefIdeal.τ).loc Cert.NaRefIdeal.main_arg0)) (m ((c.tc : Thread Cert.NaRefIdeal.nD Cert.NaRefIdeal.τ).loc Cert.NaRefIdeal.main_arg1))).1 = (fun _ => 1#1)
    ∧ (Cert.Pre_finite_na.fn (F := Ideal) (m ((c.tc : Thread Cert.NaRefIdeal.nD Cert.NaRefIdeal.τ).loc Cert.NaRefIdeal.main_arg0)) (m ((c.tc : Thread Cert.NaRefIdeal.nD Cert.NaRefIdeal.τ).loc Cert.NaRefIdeal.main_arg1))).2 = (fun _ => 1#1)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3))
      ∧ r.2.sem = fun _ => 0)

def quiescent_Moe [hMoe : Cert.Moe.Facts] [hPre_experts_exist : Cert.Pre_experts_exist.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] [hPre_experts_exist : Cert.Pre_experts_exist.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] [hPre_experts_exist : Cert.Pre_experts_exist.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_Na [hNa : Cert.Na.Facts] : Prop :=
  ∀ (m : (ℓ : Loc Cert.Na.nD Cert.Na.τ Cert.Na.sig) → Buf (Elt Bits) ℓ) (g : Dev Cert.Na.nD → PrngReg), Pre_Na m →
    θ_run (Cert.Na.defs (F := Bits)) (onTc (τ := Cert.Na.τ) (Cert.Na.main (F := Bits))) ⟨m, fun _ => 0, g⟩ (fun r => (∀ c : Dev Cert.Na.nD,
      r.2.mem ((c.tc : Thread Cert.Na.nD Cert.Na.τ).loc Cert.Na.main_arg0) = m ((c.tc : Thread Cert.Na.nD Cert.Na.τ).loc Cert.Na.main_arg0)
      ∧ r.2.mem ((c.tc : Thread Cert.Na.nD Cert.Na.τ).loc Cert.Na.main_arg1) = m ((c.tc : Thread Cert.Na.nD Cert.Na.τ).loc Cert.Na.main_arg1))
      ∧ r.2.sem = fun _ => 0)

def quiescent_NaIdeal [hNaIdeal : Cert.NaIdeal.Facts] : Prop :=
  ∀ (m : (ℓ : Loc Cert.NaIdeal.nD Cert.NaIdeal.τ Cert.NaIdeal.sig) → Buf (Elt Ideal) ℓ) (g : Dev Cert.NaIdeal.nD → PrngReg), Pre_NaIdeal m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1))
      ∧ r.2.sem = fun _ => 0)

def quiescent_NaIdeal_pre_finite_na [hNaIdeal : Cert.NaIdeal.Facts] [hPre_finite_na : Cert.Pre_finite_na.Facts] : Prop :=
  ∀ (m : (ℓ : Loc Cert.NaIdeal.nD Cert.NaIdeal.τ Cert.NaIdeal.sig) → Buf (Elt Ideal) ℓ) (g : Dev Cert.NaIdeal.nD → PrngReg), Pre_NaIdeal_finite_na m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1))
      ∧ r.2.sem = fun _ => 0)

def quiescent_NaRefIdeal [hNaRefIdeal : Cert.NaRefIdeal.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1))
      ∧ r.2.sem = fun _ => 0)

def quiescent_NaRefIdeal_pre_finite_na [hNaRefIdeal : Cert.NaRefIdeal.Facts] [hPre_finite_na : Cert.Pre_finite_na.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal_finite_na m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1))
      ∧ r.2.sem = fun _ => 0)

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)) →
    ∃ (v0 : (c : Dev Cert.QkvIdeal.nD) → Buf (Elt Ideal) ((c.tc : Thread Cert.QkvIdeal.nD Cert.QkvIdeal.τ).loc Cert.QkvIdeal.main_v2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v55) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3))

def preserves_Moe_MoeIdeal : Prop :=
  True

def algebraic_MoeIdeal_MoeRefIdeal [hMoeIdeal : Cert.MoeIdeal.Facts] [hMoeRefIdeal : Cert.MoeRefIdeal.Facts] [hPre_experts_exist : Cert.Pre_experts_exist.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v2)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v2) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v68) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v8) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)) →
    ∃ (v0 : (c : Dev Cert.InpIdeal.nD) → Buf (Elt Ideal) ((c.tc : Thread Cert.InpIdeal.nD Cert.InpIdeal.τ).loc Cert.InpIdeal.main_v2)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v2) = v0 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v53) = v0 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v3) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v70) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v7)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v7) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v12) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_Na_NaIdeal : Prop :=
  True

def algebraic_NaIdeal_NaRefIdeal_pre_finite_na [hNaIdeal : Cert.NaIdeal.Facts] [hNaRefIdeal : Cert.NaRefIdeal.Facts] [hPre_finite_na : Cert.Pre_finite_na.Facts] : Prop :=
  ∀ (m : (ℓ : Loc Cert.NaIdeal.nD Cert.NaIdeal.τ Cert.NaIdeal.sig) → Buf (Elt Ideal) ℓ) (g : Dev Cert.NaIdeal.nD → PrngReg)
    (m' : (ℓ : Loc Cert.NaRefIdeal.nD Cert.NaRefIdeal.τ Cert.NaRefIdeal.sig) → Buf (Elt Ideal) ℓ) (g' : Dev Cert.NaRefIdeal.nD → PrngReg), Pre_NaIdeal_finite_na m →
    (∀ c : Dev Cert.NaIdeal.nD,
      m' ((c.tc : Thread Cert.NaRefIdeal.nD Cert.NaRefIdeal.τ).loc Cert.NaRefIdeal.main_arg0) = m ((c.tc : Thread Cert.NaIdeal.nD Cert.NaIdeal.τ).loc Cert.NaIdeal.main_arg0)
      ∧ m' ((c.tc : Thread Cert.NaRefIdeal.nD Cert.NaRefIdeal.τ).loc Cert.NaRefIdeal.main_arg1) = m ((c.tc : Thread Cert.NaIdeal.nD Cert.NaIdeal.τ).loc Cert.NaIdeal.main_arg1)) →
    ∃ (v0 : (c : Dev Cert.NaIdeal.nD) → Buf (Elt Ideal) ((c.tc : Thread Cert.NaIdeal.nD Cert.NaIdeal.τ).loc Cert.NaIdeal.main_v255)),
      θ_run (Cert.NaIdeal.defs (F := Ideal)) (onTc (τ := Cert.NaIdeal.τ) (Cert.NaIdeal.main (F := Ideal))) ⟨m, fun _ => 0, g⟩ (fun r => ∀ c : Dev Cert.NaIdeal.nD,
          r.2.mem ((c.tc : Thread Cert.NaIdeal.nD Cert.NaIdeal.τ).loc Cert.NaIdeal.main_v255) = v0 c
          ∧ r.2.mem ((c.tc : Thread Cert.NaIdeal.nD Cert.NaIdeal.τ).loc Cert.NaIdeal.main_arg0) = m ((c.tc : Thread Cert.NaIdeal.nD Cert.NaIdeal.τ).loc Cert.NaIdeal.main_arg0)
          ∧ r.2.mem ((c.tc : Thread Cert.NaIdeal.nD Cert.NaIdeal.τ).loc Cert.NaIdeal.main_arg1) = m ((c.tc : Thread Cert.NaIdeal.nD Cert.NaIdeal.τ).loc Cert.NaIdeal.main_arg1))
      ∧ θ_run (Cert.NaRefIdeal.defs (F := Ideal)) (onTc (τ := Cert.NaRefIdeal.τ) (Cert.NaRefIdeal.main (F := Ideal))) ⟨m', fun _ => 0, g'⟩ (fun r => ∀ c : Dev Cert.NaRefIdeal.nD,
          r.2.mem ((c.tc : Thread Cert.NaRefIdeal.nD Cert.NaRefIdeal.τ).loc Cert.NaRefIdeal.main_v132) = v0 c
          ∧ r.2.mem ((c.tc : Thread Cert.NaRefIdeal.nD Cert.NaRefIdeal.τ).loc Cert.NaRefIdeal.main_arg0) = m' ((c.tc : Thread Cert.NaRefIdeal.nD Cert.NaRefIdeal.τ).loc Cert.NaRefIdeal.main_arg0)
          ∧ r.2.mem ((c.tc : Thread Cert.NaRefIdeal.nD Cert.NaRefIdeal.τ).loc Cert.NaRefIdeal.main_arg1) = m' ((c.tc : Thread Cert.NaRefIdeal.nD Cert.NaRefIdeal.τ).loc Cert.NaRefIdeal.main_arg1))

def Claim : Prop :=
  ∃ (hQkv : Cert.Qkv.Facts) (hQkvIdeal : Cert.QkvIdeal.Facts) (hQkvRefIdeal : Cert.QkvRefIdeal.Facts) (hMoe : Cert.Moe.Facts) (hMoeIdeal : Cert.MoeIdeal.Facts) (hMoeRefIdeal : Cert.MoeRefIdeal.Facts) (hOut : Cert.Out.Facts) (hOutIdeal : Cert.OutIdeal.Facts) (hOutRefIdeal : Cert.OutRefIdeal.Facts) (hInp : Cert.Inp.Facts) (hInpIdeal : Cert.InpIdeal.Facts) (hInpRefIdeal : Cert.InpRefIdeal.Facts) (hMix : Cert.Mix.Facts) (hMixIdeal : Cert.MixIdeal.Facts) (hMixRefIdeal : Cert.MixRefIdeal.Facts) (hAda : Cert.Ada.Facts) (hAdaIdeal : Cert.AdaIdeal.Facts) (hAdaRefIdeal : Cert.AdaRefIdeal.Facts) (hNa : Cert.Na.Facts) (hNaIdeal : Cert.NaIdeal.Facts) (hNaRefIdeal : Cert.NaRefIdeal.Facts) (hPre_experts_exist : Cert.Pre_experts_exist.Facts) (hPre_finite_na : Cert.Pre_finite_na.Facts),
    quiescent_Qkv (hQkv := hQkv)
    ∧ quiescent_QkvIdeal (hQkvIdeal := hQkvIdeal)
    ∧ quiescent_QkvRefIdeal (hQkvRefIdeal := hQkvRefIdeal)
    ∧ quiescent_Moe (hMoe := hMoe) (hPre_experts_exist := hPre_experts_exist)
    ∧ quiescent_MoeIdeal (hMoeIdeal := hMoeIdeal) (hPre_experts_exist := hPre_experts_exist)
    ∧ quiescent_MoeRefIdeal (hMoeRefIdeal := hMoeRefIdeal) (hPre_experts_exist := hPre_experts_exist)
    ∧ quiescent_Out (hOut := hOut)
    ∧ quiescent_OutIdeal (hOutIdeal := hOutIdeal)
    ∧ quiescent_OutRefIdeal (hOutRefIdeal := hOutRefIdeal)
    ∧ quiescent_Inp (hInp := hInp)
    ∧ quiescent_InpIdeal (hInpIdeal := hInpIdeal)
    ∧ quiescent_InpRefIdeal (hInpRefIdeal := hInpRefIdeal)
    ∧ quiescent_Mix (hMix := hMix)
    ∧ quiescent_MixIdeal (hMixIdeal := hMixIdeal)
    ∧ quiescent_MixRefIdeal (hMixRefIdeal := hMixRefIdeal)
    ∧ quiescent_Ada (hAda := hAda)
    ∧ quiescent_AdaIdeal (hAdaIdeal := hAdaIdeal)
    ∧ quiescent_AdaRefIdeal (hAdaRefIdeal := hAdaRefIdeal)
    ∧ quiescent_Na (hNa := hNa)
    ∧ quiescent_NaIdeal (hNaIdeal := hNaIdeal)
    ∧ quiescent_NaIdeal_pre_finite_na (hNaIdeal := hNaIdeal) (hPre_finite_na := hPre_finite_na)
    ∧ quiescent_NaRefIdeal (hNaRefIdeal := hNaRefIdeal)
    ∧ quiescent_NaRefIdeal_pre_finite_na (hNaRefIdeal := hNaRefIdeal) (hPre_finite_na := hPre_finite_na)
    ∧ preserves_Qkv_QkvIdeal
    ∧ algebraic_QkvIdeal_QkvRefIdeal (hQkvIdeal := hQkvIdeal) (hQkvRefIdeal := hQkvRefIdeal)
    ∧ preserves_Moe_MoeIdeal
    ∧ algebraic_MoeIdeal_MoeRefIdeal (hMoeIdeal := hMoeIdeal) (hMoeRefIdeal := hMoeRefIdeal) (hPre_experts_exist := hPre_experts_exist)
    ∧ preserves_Out_OutIdeal
    ∧ algebraic_OutIdeal_OutRefIdeal (hOutIdeal := hOutIdeal) (hOutRefIdeal := hOutRefIdeal)
    ∧ preserves_Inp_InpIdeal
    ∧ algebraic_InpIdeal_InpRefIdeal (hInpIdeal := hInpIdeal) (hInpRefIdeal := hInpRefIdeal)
    ∧ preserves_Mix_MixIdeal
    ∧ algebraic_MixIdeal_MixRefIdeal (hMixIdeal := hMixIdeal) (hMixRefIdeal := hMixRefIdeal)
    ∧ preserves_Ada_AdaIdeal
    ∧ algebraic_AdaIdeal_AdaRefIdeal (hAdaIdeal := hAdaIdeal) (hAdaRefIdeal := hAdaRefIdeal)
    ∧ preserves_Na_NaIdeal
    ∧ algebraic_NaIdeal_NaRefIdeal_pre_finite_na (hNaIdeal := hNaIdeal) (hNaRefIdeal := hNaRefIdeal) (hPre_finite_na := hPre_finite_na)
-- ==== Pre_experts_exist.lean ====
abbrev S288 : Shape := ⟨1, ![288]⟩
abbrev S1 : Shape := ⟨1, ![1]⟩
abbrev S1179648x128 : Shape := ⟨2, ![1179648, 128]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S_ : Shape := ⟨0, ![]⟩

class Facts : Prop where
  bcast_S_S288 : S_.BroadcastsInDim S288 (![] : Fin 0 → Fin S288.rank)

variable [Facts]

def fn {F : FTy → Type} [FloatOps F] (main_arg0 : IVec S288 32) (main_arg1 : IVec S1 32) (main_arg2 : FVec F S1179648x128 .f32) (main_arg3 : FVec F S2x32x1024x2048 .f32) (main_arg4 : FVec F S2x32x2048 .f32) (main_arg5 : FVec F S2x32x1024x1024 .f32) (main_arg6 : FVec F S2x32x1024 .f32) : IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 31#32
  let main_v2 : IVec S288 32 := broadcastInDim S288 ![] bcast_S_S288 main_c_0
  let main_v3 : IVec S288 1 := cmpi .sle main_arg0 main_v2
  let main_v4 : IVec S288 1 := andi main_v1 main_v3
  main_v4
-- ==== Pre_finite_na.lean ====
abbrev S2x16640x3072 : Shape := ⟨3, ![2, 16640, 3072]⟩
abbrev S16x15x31 : Shape := ⟨3, ![16, 15, 31]⟩
abbrev S_ : Shape := ⟨0, ![]⟩

class Facts : Prop where
  bitsLt_bf16_f32 : FTy.bits .bf16 < FTy.bits .f32
  bcast_S_S2x16640x3072 : S_.BroadcastsInDim S2x16640x3072 (![] : Fin 0 → Fin S2x16640x3072.rank)
  bcast_S_S16x15x31 : S_.BroadcastsInDim S16x15x31 (![] : Fin 0 → Fin S16x15x31.rank)

variable [Facts]

def fn {F : FTy → Type} [FloatOps F] (main_arg0 : FVec F S2x16640x3072 .bf16) (main_arg1 : FVec F S16x15x31 .f32) : IVec S2x16640x3072 1 × IVec S16x15x31 1 :=
  let main_v0 : FVec F S2x16640x3072 .f32 := (extf .f32 · bitsLt_bf16_f32) main_arg0
  let main_v1 : FVec F S2x16640x3072 .f32 := Host.absf main_v0
  let main_cst : FVec F S_ .f32 := constant S_ .f32 0x7F800000#32
  let main_v2 : FVec F S2x16640x3072 .f32 := broadcastInDim S2x16640x3072 ![] bcast_S_S2x16640x3072 main_cst
  let main_v3 : IVec S2x16640x3072 1 := cmpf .olt main_v1 main_v2
  let main_v4 : FVec F S16x15x31 .f32 := Host.absf main_arg1
  let main_cst_0 : FVec F S_ .f32 := constant S_ .f32 0x7F800000#32
  let main_v5 : FVec F S16x15x31 .f32 := broadcastInDim S16x15x31 ![] bcast_S_S16x15x31 main_cst_0
  let main_v6 : IVec S16x15x31 1 := cmpf .olt main_v4 main_v5
  (main_v3, main_v6)
-- ==== Qkv.lean ====
abbrev S2x16640x1024 : Shape := ⟨3, ![2, 16640, 1024]⟩
abbrev S3x8x1024 : Shape := ⟨3, ![3, 8, 1024]⟩
abbrev S1024 : Shape := ⟨1, ![1024]⟩
abbrev S1024x3072 : Shape := ⟨2, ![1024, 3072]⟩
abbrev S1x1024 : Shape := ⟨2, ![1, 1024]⟩
abbrev S2x16640x3072 : Shape := ⟨3, ![2, 16640, 3072]⟩
abbrev S1x256x1024 : Shape := ⟨3, ![1, 256, 1024]⟩
abbrev S1x8x1024 : Shape := ⟨3, ![1, 8, 1024]⟩
abbrev S1x256x3072 : Shape := ⟨3, ![1, 256, 3072]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S256x3072 : Shape := ⟨2, ![256, 3072]⟩

abbrev nBuf : Space → Nat
  | .hbm => 7
  | .vmem => 8
  | .smem => 0
  | _ => 0

abbrev bufTy : (tb : Table) → Fin (tcTables nBuf tb) → BufTy
  | .hbm, ⟨0, _⟩ => ⟨S2x16640x1024, .f32⟩
  | .hbm, ⟨1, _⟩ => ⟨S3x8x1024, .f32⟩
  | .hbm, ⟨2, _⟩ => ⟨S1024, .f32⟩
  | .hbm, ⟨3, _⟩ => ⟨S1024x3072, .f32⟩
  | .hbm, ⟨4, _⟩ => ⟨S1x1024, .f32⟩
  | .hbm, ⟨5, _⟩ => ⟨S1024x3072, .bf16⟩
  | .hbm, ⟨6, _⟩ => ⟨S2x16640x3072, .bf16⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x3072, .bf16⟩
  | .local _ .vmem, ⟨6, _⟩ => ⟨S1x256x3072, .bf16⟩
  | .local _ .vmem, ⟨7, _⟩ => ⟨S1x256x3072, .bf16⟩
  | _, _ => ⟨S2x16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 65], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 1 := Scalar.cmpi .sge arg1 c64_i32
  let c2_i32 : BitVec 32 := 2#32
  let v1 : BitVec 32 := Scalar.select v0 c2_i32 arg0
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkvRefIdeal.lean ====
abbrev S2x16640x1024 : Shape := ⟨3, ![2, 16640, 1024]⟩
abbrev S3x8x1024 : Shape := ⟨3, ![3, 8, 1024]⟩
abbrev S1024 : Shape := ⟨1, ![1024]⟩
abbrev S1024x3072 : Shape := ⟨2, ![1024, 3072]⟩
abbrev S2x16384x1024 : Shape := ⟨3, ![2, 16384, 1024]⟩
abbrev S2x256x1024 : Shape := ⟨3, ![2, 256, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x1x1024 : Shape := ⟨3, ![2, 1, 1024]⟩
abbrev S2x1024 : Shape := ⟨2, ![2, 1024]⟩
abbrev S2x256 : Shape := ⟨2, ![2, 256]⟩
abbrev S2x256x1 : Shape := ⟨3, ![2, 256, 1]⟩
abbrev S2x16384x3072 : Shape := ⟨3, ![2, 16384, 3072]⟩
abbrev S2x256x3072 : Shape := ⟨3, ![2, 256, 3072]⟩
abbrev S2x16640x3072 : Shape := ⟨3, ![2, 16640, 3072]⟩

abbrev nBuf : Space → Nat
  | .hbm => 68
  | .vmem => 0
  | .smem => 0
  | _ => 0

abbrev bufTy : (tb : Table) → Fin (tcTables nBuf tb) → BufTy
  | .hbm, ⟨0, _⟩ => ⟨S2x16640x1024, .f32⟩
  | .hbm, ⟨1, _⟩ => ⟨S3x8x1024, .f32⟩
  | .hbm, ⟨2, _⟩ => ⟨S1024, .f32⟩
  | .hbm, ⟨3, _⟩ => ⟨S1024x3072, .f32⟩
  | .hbm, ⟨4, _⟩ => ⟨S2x16384x1024, .f32⟩
  | .hbm, ⟨5, _⟩ => ⟨S2x256x1024, .f32⟩
  | .hbm, ⟨6, _⟩ => ⟨S2x16384x1024, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x1024, .f32⟩
  | .hbm, ⟨18, _⟩ => ⟨S2x16384x1024, .f32⟩
  | .hbm, ⟨19, _⟩ => ⟨S1x1x1024, .f32⟩
  | .hbm, ⟨20, _⟩ => ⟨S2x16384x1024, .f32⟩
  | .hbm, ⟨21, _⟩ => ⟨S2x16384x1024, .f32⟩
  | .hbm, ⟨22, _⟩ => ⟨S2x1x1024, .f32⟩
  | .hbm, ⟨23, _⟩ => ⟨S2x1024, .f32⟩
  | .hbm, ⟨24, _⟩ => ⟨S2x1x1024, .f32⟩
  | .hbm, ⟨25, _⟩ => ⟨S2x1x1024, .f32⟩
  | .hbm, ⟨26, _⟩ => ⟨S2x1024, .f32⟩
  | .hbm, ⟨27, _⟩ => ⟨S2x1x1024, .f32⟩
  | .hbm, ⟨28, _⟩ => ⟨S_, .f32⟩
  | .hbm, ⟨29, _⟩ => ⟨S2x1x1024, .f32⟩
  | .hbm, ⟨30, _⟩ => ⟨S2x1x1024, .f32⟩
  | .hbm, ⟨31, _⟩ => ⟨S2x16384x1024, .f32⟩
  | .hbm, ⟨32, _⟩ => ⟨S2x16384x1024, .f32⟩
  | .hbm, ⟨33, _⟩ => ⟨S2x16384x1024, .f32⟩
  | .hbm, ⟨34, _⟩ => ⟨S2x16384x1024, .f32⟩
  | .hbm, ⟨35, _⟩ => ⟨S2x256x1024, .f32⟩
  | .hbm, ⟨36, _⟩ => ⟨S_, .f32⟩
  | .hbm, ⟨37, _⟩ => ⟨S2x256, .f32⟩
  | .hbm, ⟨38, _⟩ => ⟨S2x256x1, .f32⟩
  | .hbm, ⟨39, _⟩ => ⟨S_, .f32⟩
  | .hbm, ⟨40, _⟩ => ⟨S2x256x1, .f32⟩
  | .hbm, ⟨41, _⟩ => ⟨S2x256x1, .f32⟩
  | .hbm, ⟨42, _⟩ => ⟨S_, .f32⟩
  | .hbm, ⟨43, _⟩ => ⟨S2x256x1, .f32⟩
  | .hbm, ⟨44, _⟩ => ⟨S2x256x1, .f32⟩
  | .hbm, ⟨45, _⟩ => ⟨S2x256x1, .f32⟩
  | .hbm, ⟨46, _⟩ => ⟨S2x256x1024, .f32⟩
  | .hbm, ⟨47, _⟩ => ⟨S2x256x1024, .f32⟩
  | .hbm, ⟨48, _⟩ => ⟨S1x1x1024, .f32⟩
  | .hbm, ⟨49, _⟩ => ⟨S2x256x1024, .f32⟩
  | .hbm, ⟨50, _⟩ => ⟨S2x256x1024, .f32⟩
  | .hbm, ⟨51, _⟩ => ⟨S1x1x1024, .f32⟩
  | .hbm, ⟨52, _⟩ => ⟨S1024, .f32⟩
  | .hbm, ⟨53, _⟩ => ⟨S1x1x1024, .f32⟩
  | .hbm, ⟨54, _⟩ => ⟨S1024, .f32⟩
  | .hbm, ⟨55, _⟩ => ⟨S_, .f32⟩
  | .hbm, ⟨56, _⟩ => ⟨S1024, .f32⟩
  | .hbm, ⟨57, _⟩ => ⟨S1024, .f32⟩
  | .hbm, ⟨58, _⟩ => ⟨S1x1x1024, .f32⟩
  | .hbm, ⟨59, _⟩ => ⟨S2x256x1024, .f32⟩
  | .hbm, ⟨60, _⟩ => ⟨S2x256x1024, .f32⟩
  | .hbm, ⟨61, _⟩ => ⟨S1x1x1024, .f32⟩
  | .hbm, ⟨62, _⟩ => ⟨S2x256x1024, .f32⟩
  | .hbm, ⟨63, _⟩ => ⟨S2x256x1024, .f32⟩
  | .hbm, ⟨64, _⟩ => ⟨S2x16384x3072, .f32⟩
  | .hbm, ⟨65, _⟩ => ⟨S2x256x3072, .f32⟩
  | .hbm, ⟨66, _⟩ => ⟨S2x16640x3072, .f32⟩
  | .hbm, ⟨67, _⟩ => ⟨S2x16640x3072, .bf16⟩
  | _, _ => ⟨S2x16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩

abbrev nD : Nat := 1
abbrev τ : Topo := Topo.v7x

variable {F : FTy → Type} [FloatOps F]
-- ==== Moe.lean ====
abbrev S288 : Shape := ⟨1, ![288]⟩
abbrev S1 : Shape := ⟨1, ![1]⟩
abbrev S1179648x128 : Shape := ⟨2, ![1179648, 128]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S2x32x1x2048 : Shape := ⟨4, ![2, 32, 1, 2048]⟩
abbrev S2x32x1x1024 : Shape := ⟨4, ![2, 32, 1, 1024]⟩
abbrev S4096x128 : Shape := ⟨2, ![4096, 128]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S1024x1024 : Shape := ⟨2, ![1024, 1024]⟩
abbrev S512x128 : Shape := ⟨2, ![512, 128]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 8
  | .vmem => 14
  | .smem => 2
  | _ => 0

abbrev bufTy : (tb : Table) → Fin (tcTables nBuf tb) → BufTy
  | .hbm, ⟨0, _⟩ => ⟨S1179648x128, .f32⟩
  | .hbm, ⟨1, _⟩ => ⟨S2x32x1024x2048, .f32⟩
  | .hbm, ⟨2, _⟩ => ⟨S2x32x2048, .f32⟩
  | .hbm, ⟨3, _⟩ => ⟨S2x32x1024x1024, .f32⟩
  | .hbm, ⟨4, _⟩ => ⟨S2x32x1024, .f32⟩
  | .hbm, ⟨5, _⟩ => ⟨S2x32x1x2048, .f32⟩
  | .hbm, ⟨6, _⟩ => ⟨S2x32x1x1024, .f32⟩
  | .hbm, ⟨7, _⟩ => ⟨S1179648x128, .f32⟩
  | .local _ .vmem, ⟨0, _⟩ => ⟨S4096x128, .f32⟩
  | .local _ .vmem, ⟨1, _⟩ => ⟨S4096x128, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S4096x128, .f32⟩
  | .local _ .vmem, ⟨11, _⟩ => ⟨S4096x128, .f32⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S1, .i32⟩
  | _, _ => ⟨S1179648x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let v1 : BitVec 1 := Scalar.cmpi .slt arg0 v0
  let c0_i32 : BitVec 32 := 0#32
  let v2 : BitVec 32 := Scalar.select v1 arg0 c0_i32
  let c0_i32_0 : BitVec 32 := 0#32
  let c0_i32_1 : BitVec 32 := 0#32
  ![v2.toNat, c0_i32_0.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MoeRefIdeal.lean ====
abbrev S288 : Shape := ⟨1, ![288]⟩
abbrev S1 : Shape := ⟨1, ![1]⟩
abbrev S1179648x128 : Shape := ⟨2, ![1179648, 128]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S1x32x1024x2048 : Shape := ⟨4, ![1, 32, 1024, 2048]⟩
abbrev S32x1024x2048 : Shape := ⟨3, ![32, 1024, 2048]⟩
abbrev S1x32x2048 : Shape := ⟨3, ![1, 32, 2048]⟩
abbrev S32x2048 : Shape := ⟨2, ![32, 2048]⟩
abbrev S1x32x1024x1024 : Shape := ⟨4, ![1, 32, 1024, 1024]⟩
abbrev S32x1024x1024 : Shape := ⟨3, ![32, 1024, 1024]⟩
abbrev S1x32x1024 : Shape := ⟨3, ![1, 32, 1024]⟩
abbrev S32x1024 : Shape := ⟨2, ![32, 1024]⟩
abbrev S288x512x1024 : Shape := ⟨3, ![288, 512, 1024]⟩
abbrev S_ : Shape := ⟨0, ![]⟩
abbrev S288x1 : Shape := ⟨2, ![288, 1]⟩
abbrev S288x1024x2048 : Shape := ⟨3, ![288, 1024, 2048]⟩
abbrev S288x512x2048 : Shape := ⟨3, ![288, 512, 2048]⟩
abbrev S288x2048 : Shape := ⟨2, ![288, 2048]⟩
abbrev S288x1x2048 : Shape := ⟨3, ![288, 1, 2048]⟩
abbrev S288x1024x1024 : Shape := ⟨3, ![288, 1024, 1024]⟩
abbrev S288x1024 : Shape := ⟨2, ![288, 1024]⟩
abbrev S288x1x1024 : Shape := ⟨3, ![288, 1, 1024]⟩
abbrev S288x1x1 : Shape := ⟨3, ![288, 1, 1]⟩

abbrev nBuf : Space → Nat
  | .hbm => 100
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S1179648x128, .f32⟩
  | .hbm, ⟨3, _⟩ => ⟨S2x32x1024x2048, .f32⟩
  | .hbm, ⟨4, _⟩ => ⟨S2x32x2048, .f32⟩
  | .hbm, ⟨5, _⟩ => ⟨S2x32x1024x1024, .f32⟩
  | .hbm, ⟨6, _⟩ => ⟨S2x32x1024, .f32⟩
  | .hbm, ⟨7, _⟩ => ⟨S1x32x1024x2048, .f32⟩
  | .hbm, ⟨8, _⟩ => ⟨S32x1024x2048, .f32⟩
  | .hbm, ⟨9, _⟩ => ⟨S1x32x2048, .f32⟩
  | .hbm, ⟨10, _⟩ => ⟨S32x2048, .f32⟩
  | .hbm, ⟨11, _⟩ => ⟨S1x32x1024x1024, .f32⟩
  | .hbm, ⟨12, _⟩ => ⟨S32x1024x1024, .f32⟩
  | .hbm, ⟨13, _⟩ => ⟨S1x32x1024, .f32⟩
  | .hbm, ⟨14, _⟩ => ⟨S32x1024, .f32⟩
  | .hbm, ⟨15, _⟩ => ⟨S288x512x1024, .f32⟩
  | .hbm, ⟨16, _⟩ => ⟨S_, .i32⟩
  | .hbm, ⟨17, _⟩ => ⟨S288, .i32⟩
  | .hbm, ⟨18, _⟩ => ⟨S288, .i1⟩
  | .hbm, ⟨19, _⟩ => ⟨S_, .i32⟩
  | .hbm, ⟨20, _⟩ => ⟨S288, .i32⟩
  | .hbm, ⟨21, _⟩ => ⟨S288, .i32⟩
  | .hbm, ⟨22, _⟩ => ⟨S288, .i32⟩
  | .hbm, ⟨23, _⟩ => ⟨S288x1, .i32⟩
  | .hbm, ⟨24, _⟩ => ⟨S288x1024x2048, .f32⟩
  | .hbm, ⟨25, _⟩ => ⟨S288x512x2048, .f32⟩
  | .hbm, ⟨26, _⟩ => ⟨S_, .i32⟩
  | .hbm, ⟨27, _⟩ => ⟨S288, .i32⟩
  | .hbm, ⟨28, _⟩ => ⟨S288, .i1⟩
  | .hbm, ⟨29, _⟩ => ⟨S_, .i32⟩
  | .hbm, ⟨30, _⟩ => ⟨S288, .i32⟩
  | .hbm, ⟨31, _⟩ => ⟨S288, .i32⟩
  | .hbm, ⟨32, _⟩ => ⟨S288, .i32⟩
  | .hbm, ⟨33, _⟩ => ⟨S288x1, .i32⟩
  | .hbm, ⟨34, _⟩ => ⟨S288x2048, .f32⟩
  | .hbm, ⟨35, _⟩ => ⟨S288x1x2048, .f32⟩
  | .hbm, ⟨36, _⟩ => ⟨S288x512x2048, .f32⟩
  | .hbm, ⟨37, _⟩ => ⟨S288x512x2048, .f32⟩
  | .hbm, ⟨38, _⟩ => ⟨S288x512x1024, .f32⟩
  | .hbm, ⟨39, _⟩ => ⟨S_, .f32⟩
  | .hbm, ⟨40, _⟩ => ⟨S288x512x1024, .f32⟩
  | .hbm, ⟨41, _⟩ => ⟨S288x512x1024, .f32⟩
  | .hbm, ⟨42, _⟩ => ⟨S288x512x1024, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S288x512x1024, .f32⟩
  | .hbm, ⟨47, _⟩ => ⟨S288x512x1024, .f32⟩
  | .hbm, ⟨48, _⟩ => ⟨S_, .f32⟩
  | .hbm, ⟨49, _⟩ => ⟨S288x512x1024, .f32⟩
  | .hbm, ⟨50, _⟩ => ⟨S288x512x1024, .f32⟩
  | .hbm, ⟨51, _⟩ => ⟨S_, .f32⟩
  | .hbm, ⟨52, _⟩ => ⟨S288x512x1024, .f32⟩
  | .hbm, ⟨53, _⟩ => ⟨S288x512x1024, .f32⟩
  | .hbm, ⟨54, _⟩ => ⟨S288x512x1024, .f32⟩
  | .hbm, ⟨55, _⟩ => ⟨S288x512x1024, .f32⟩
  | .hbm, ⟨56, _⟩ => ⟨S_, .f32⟩
  | .hbm, ⟨57, _⟩ => ⟨S288x512x1024, .f32⟩
  | .hbm, ⟨58, _⟩ => ⟨S288x512x1024, .f32⟩
  | .hbm, ⟨59, _⟩ => ⟨S_, .f32⟩
  | .hbm, ⟨60, _⟩ => ⟨S288x512x1024, .f32⟩
  | .hbm, ⟨61, _⟩ => ⟨S288x512x1024, .f32⟩
  | .hbm, ⟨62, _⟩ => ⟨S288x512x1024, .f32⟩
  | .hbm, ⟨63, _⟩ => ⟨S_, .f32⟩
  | .hbm, ⟨64, _⟩ => ⟨S288x512x1024, .f32⟩
  | .hbm, ⟨65, _⟩ => ⟨S288x512x1024, .f32⟩
  | .hbm, ⟨66, _⟩ => ⟨S288x512x1024, .f32⟩
  | .hbm, ⟨67, _⟩ => ⟨S_, .i32⟩
  | .hbm, ⟨68, _⟩ => ⟨S288, .i32⟩
  | .hbm, ⟨69, _⟩ => ⟨S288, .i1⟩
  | .hbm, ⟨70, _⟩ => ⟨S_, .i32⟩
  | .hbm, ⟨71, _⟩ => ⟨S288, .i32⟩
  | .hbm, ⟨72, _⟩ => ⟨S288, .i32⟩
  | .hbm, ⟨73, _⟩ => ⟨S288, .i32⟩
  | .hbm, ⟨74, _⟩ => ⟨S288x1, .i32⟩
  | .hbm, ⟨75, _⟩ => ⟨S288x1024x1024, .f32⟩
  | .hbm, ⟨76, _⟩ => ⟨S288x512x1024, .f32⟩
  | .hbm, ⟨77, _⟩ => ⟨S_, .i32⟩
  | .hbm, ⟨78, _⟩ => ⟨S288, .i32⟩
  | .hbm, ⟨79, _⟩ => ⟨S288, .i1⟩
  | .hbm, ⟨80, _⟩ => ⟨S_, .i32⟩
  | .hbm, ⟨81, _⟩ => ⟨S288, .i32⟩
  | .hbm, ⟨82, _⟩ => ⟨S288, .i32⟩
  | .hbm, ⟨83, _⟩ => ⟨S288, .i32⟩
  | .hbm, ⟨84, _⟩ => ⟨S288x1, .i32⟩
  | .hbm, ⟨85, _⟩ => ⟨S288x1024, .f32⟩
  | .hbm, ⟨86, _⟩ => ⟨S288x1x1024, .f32⟩
  | .hbm, ⟨87, _⟩ => ⟨S288x512x1024, .f32⟩
  | .hbm, ⟨88, _⟩ => ⟨S288x512x1024, .f32⟩
  | .hbm, ⟨89, _⟩ => ⟨S288, .i32⟩
  | .hbm, ⟨90, _⟩ => ⟨S_, .i32⟩
  | .hbm, ⟨91, _⟩ => ⟨S288, .i32⟩
  | .hbm, ⟨92, _⟩ => ⟨S288, .i1⟩
  | .hbm, ⟨93, _⟩ => ⟨S288x1x1, .i1⟩
  | .hbm, ⟨94, _⟩ => ⟨S_, .f32⟩
  | .hbm, ⟨95, _⟩ => ⟨S_, .f32⟩
  | .hbm, ⟨96, _⟩ => ⟨S288x512x1024, .i1⟩
  | .hbm, ⟨97, _⟩ => ⟨S288x512x1024, .f32⟩
  | .hbm, ⟨98, _⟩ => ⟨S288x512x1024, .f32⟩
  | .hbm, ⟨99, _⟩ => ⟨S1179648x128, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_9 : Ref sig .tc := ⟨.hbm, 67, rfl⟩
abbrev main_v44 : Ref sig .tc := ⟨.hbm, 68, rfl⟩
abbrev main_v45 : Ref sig .tc := ⟨.hbm, 69, rfl⟩
abbrev main_c_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_c_12 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_13 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_v67 : Ref sig .tc := ⟨.hbm, 98, rfl⟩
abbrev main_v68 : Ref sig .tc := ⟨.hbm, 99, rfl⟩

abbrev nD : Nat := 1
abbrev τ : Topo := Topo.v7x

variable {F : FTy → Type} [FloatOps F]
-- ==== Out.lean ====
abbrev S2x16384x1024 : Shape := ⟨3, ![2, 16384, 1024]⟩
abbrev S2x16640x1024 : Shape := ⟨3, ![2, 16640, 1024]⟩
abbrev S3x8x1024 : Shape := ⟨3, ![3, 8, 1024]⟩
abbrev S1024x1024 : Shape := ⟨2, ![1024, 1024]⟩
abbrev S1x1024x1024 : Shape := ⟨3, ![1, 1024, 1024]⟩
abbrev S1x8x1024 : Shape := ⟨3, ![1, 8, 1024]⟩
abbrev S1x1x1024 : Shape := ⟨3, ![1, 1, 1024]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2x16384x1024, .bf16⟩
  | .hbm, ⟨1, _⟩ => ⟨S2x16640x1024, .f32⟩
  | .hbm, ⟨2, _⟩ => ⟨S3x8x1024, .f32⟩
  | .hbm, ⟨3, _⟩ => ⟨S1024x1024, .f32⟩
  | .hbm, ⟨4, _⟩ => ⟨S1024x1024, .bf16⟩
  | .hbm, ⟨5, _⟩ => ⟨S2x16384x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x8x1024, .f32⟩
  | .local _ .vmem, ⟨5, _⟩ => ⟨S1x8x1024, .f32⟩
  | .local _ .vmem, ⟨6, _⟩ => ⟨S1024x1024, .bf16⟩
  | .local _ .vmem, ⟨7, _⟩ => ⟨S1x1024x1024, .f32⟩
  | .local _ .vmem, ⟨8, _⟩ => ⟨S1x1024x1024, .f32⟩
  | _, _ => ⟨S2x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutRefIdeal.lean ====
abbrev S2x16384x1024 : Shape := ⟨3, ![2, 16384, 1024]⟩
abbrev S2x16640x1024 : Shape := ⟨3, ![2, 16640, 1024]⟩
abbrev S3x8x1024 : Shape := ⟨3, ![3, 8, 1024]⟩
abbrev S1024x1024 : Shape := ⟨2, ![1024, 1024]⟩
abbrev S2x1x1024 : Shape := ⟨3, ![2, 1, 1024]⟩
abbrev S2x1024 : Shape := ⟨2, ![2, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2x16384x1024, .bf16⟩
  | .hbm, ⟨1, _⟩ => ⟨S2x16640x1024, .f32⟩
  | .hbm, ⟨2, _⟩ => ⟨S3x8x1024, .f32⟩
  | .hbm, ⟨3, _⟩ => ⟨S1024x1024, .f32⟩
  | .hbm, ⟨4, _⟩ => ⟨S2x16384x1024, .f32⟩
  | .hbm, ⟨5, _⟩ => ⟨S2x1x1024, .f32⟩
  | .hbm, ⟨6, _⟩ => ⟨S2x1024, .f32⟩
  | .hbm, ⟨7, _⟩ => ⟨S2x1x1024, .f32⟩
  | .hbm, ⟨8, _⟩ => ⟨S2x16384x1024, .f32⟩
  | .hbm, ⟨9, _⟩ => ⟨S2x16384x1024, .f32⟩
  | .hbm, ⟨10, _⟩ => ⟨S2x16384x1024, .f32⟩
  | .hbm, ⟨11, _⟩ => ⟨S2x16384x1024, .f32⟩
  | .hbm, ⟨12, _⟩ => ⟨S2x16384x1024, .f32⟩
  | _, _ => ⟨S2x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Inp.lean ====
abbrev S2x16384x1024 : Shape := ⟨3, ![2, 16384, 1024]⟩
abbrev S2x256x1024 : Shape := ⟨3, ![2, 256, 1024]⟩
abbrev S3x8x1024 : Shape := ⟨3, ![3, 8, 1024]⟩
abbrev S1024 : Shape := ⟨1, ![1024]⟩
abbrev S1024x2560 : Shape := ⟨2, ![1024, 2560]⟩
abbrev S1x1024 : Shape := ⟨2, ![1, 1024]⟩
abbrev S2x16640x2560 : Shape := ⟨3, ![2, 16640, 2560]⟩
abbrev S1x256x1024 : Shape := ⟨3, ![1, 256, 1024]⟩
abbrev S1x8x1024 : Shape := ⟨3, ![1, 8, 1024]⟩
abbrev S1x256x2560 : Shape := ⟨3, ![1, 256, 2560]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S256x2560 : Shape := ⟨2, ![256, 2560]⟩

abbrev nBuf : Space → Nat
  | .hbm => 8
  | .vmem => 10
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S3x8x1024, .f32⟩
  | .hbm, ⟨3, _⟩ => ⟨S1024, .f32⟩
  | .hbm, ⟨4, _⟩ => ⟨S1024x2560, .f32⟩
  | .hbm, ⟨5, _⟩ => ⟨S1x1024, .f32⟩
  | .hbm, ⟨6, _⟩ => ⟨S1024x2560, .bf16⟩
  | .hbm, ⟨7, _⟩ => ⟨S2x16640x2560, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1024x2560, .bf16⟩
  | .local _ .vmem, ⟨8, _⟩ => ⟨S1x256x2560, .bf16⟩
  | .local _ .vmem, ⟨9, _⟩ => ⟨S1x256x2560, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 65], ![false, false]⟩

def cc0_transform_0 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.minsi arg1 c63_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.subi arg1 c64_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 1 := Scalar.cmpi .sge arg1 c64_i32
  let c2_i32 : BitVec 32 := 2#32
  let v1 : BitVec 32 := Scalar.select v0 c2_i32 arg0
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InpRefIdeal.lean ====
abbrev S2x16384x1024 : Shape := ⟨3, ![2, 16384, 1024]⟩
abbrev S2x256x1024 : Shape := ⟨3, ![2, 256, 1024]⟩
abbrev S3x8x1024 : Shape := ⟨3, ![3, 8, 1024]⟩
abbrev S1024 : Shape := ⟨1, ![1024]⟩
abbrev S1024x2560 : Shape := ⟨2, ![1024, 2560]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x1x1024 : Shape := ⟨3, ![2, 1, 1024]⟩
abbrev S2x1024 : Shape := ⟨2, ![2, 1024]⟩
abbrev S2x256 : Shape := ⟨2, ![2, 256]⟩
abbrev S2x256x1 : Shape := ⟨3, ![2, 256, 1]⟩
abbrev S2x16384x2560 : Shape := ⟨3, ![2, 16384, 2560]⟩
abbrev S2x256x2560 : Shape := ⟨3, ![2, 256, 2560]⟩
abbrev S2x16640x2560 : Shape := ⟨3, ![2, 16640, 2560]⟩

abbrev nBuf : Space → Nat
  | .hbm => 67
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S3x8x1024, .f32⟩
  | .hbm, ⟨3, _⟩ => ⟨S1024, .f32⟩
  | .hbm, ⟨4, _⟩ => ⟨S1024x2560, .f32⟩
  | .hbm, ⟨5, _⟩ => ⟨S2x16384x1024, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x1024, .f32⟩
  | .hbm, ⟨17, _⟩ => ⟨S2x16384x1024, .f32⟩
  | .hbm, ⟨18, _⟩ => ⟨S1x1x1024, .f32⟩
  | .hbm, ⟨19, _⟩ => ⟨S2x16384x1024, .f32⟩
  | .hbm, ⟨20, _⟩ => ⟨S2x16384x1024, .f32⟩
  | .hbm, ⟨21, _⟩ => ⟨S2x1x1024, .f32⟩
  | .hbm, ⟨22, _⟩ => ⟨S2x1024, .f32⟩
  | .hbm, ⟨23, _⟩ => ⟨S2x1x1024, .f32⟩
  | .hbm, ⟨24, _⟩ => ⟨S2x1x1024, .f32⟩
  | .hbm, ⟨25, _⟩ => ⟨S2x1024, .f32⟩
  | .hbm, ⟨26, _⟩ => ⟨S2x1x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S2x16384x1024, .f32⟩
  | .hbm, ⟨31, _⟩ => ⟨S2x16384x1024, .f32⟩
  | .hbm, ⟨32, _⟩ => ⟨S2x16384x1024, .f32⟩
  | .hbm, ⟨33, _⟩ => ⟨S2x16384x1024, .f32⟩
  | .hbm, ⟨34, _⟩ => ⟨S2x256x1024, .f32⟩
  | .hbm, ⟨35, _⟩ => ⟨S_, .f32⟩
  | .hbm, ⟨36, _⟩ => ⟨S2x256, .f32⟩
  | .hbm, ⟨37, _⟩ => ⟨S2x256x1, .f32⟩
  | .hbm, ⟨38, _⟩ => ⟨S_, .f32⟩
  | .hbm, ⟨39, _⟩ => ⟨S2x256x1, .f32⟩
  | .hbm, ⟨40, _⟩ => ⟨S2x256x1, .f32⟩
  | .hbm, ⟨41, _⟩ => ⟨S_, .f32⟩
  | .hbm, ⟨42, _⟩ => ⟨S2x256x1, .f32⟩
  | .hbm, ⟨43, _⟩ => ⟨S2x256x1, .f32⟩
  | .hbm, ⟨44, _⟩ => ⟨S2x256x1, .f32⟩
  | .hbm, ⟨45, _⟩ => ⟨S2x256x1024, .f32⟩
  | .hbm, ⟨46, _⟩ => ⟨S2x256x1024, .f32⟩
  | .hbm, ⟨47, _⟩ => ⟨S1x1x1024, .f32⟩
  | .hbm, ⟨48, _⟩ => ⟨S2x256x1024, .f32⟩
  | .hbm, ⟨49, _⟩ => ⟨S2x256x1024, .f32⟩
  | .hbm, ⟨50, _⟩ => ⟨S1x1x1024, .f32⟩
  | .hbm, ⟨51, _⟩ => ⟨S1024, .f32⟩
  | .hbm, ⟨52, _⟩ => ⟨S1x1x1024, .f32⟩
  | .hbm, ⟨53, _⟩ => ⟨S1024, .f32⟩
  | .hbm, ⟨54, _⟩ => ⟨S_, .f32⟩
  | .hbm, ⟨55, _⟩ => ⟨S1024, .f32⟩
  | .hbm, ⟨56, _⟩ => ⟨S1024, .f32⟩
  | .hbm, ⟨57, _⟩ => ⟨S1x1x1024, .f32⟩
  | .hbm, ⟨58, _⟩ => ⟨S2x256x1024, .f32⟩
  | .hbm, ⟨59, _⟩ => ⟨S2x256x1024, .f32⟩
  | .hbm, ⟨60, _⟩ => ⟨S1x1x1024, .f32⟩
  | .hbm, ⟨61, _⟩ => ⟨S2x256x1024, .f32⟩
  | .hbm, ⟨62, _⟩ => ⟨S2x256x1024, .f32⟩
  | .hbm, ⟨63, _⟩ => ⟨S2x16384x2560, .f32⟩
  | .hbm, ⟨64, _⟩ => ⟨S2x256x2560, .f32⟩
  | .hbm, ⟨65, _⟩ => ⟨S2x16640x2560, .f32⟩
  | .hbm, ⟨66, _⟩ => ⟨S2x16640x2560, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩

abbrev nD : Nat := 1
abbrev τ : Topo := Topo.v7x

variable {F : FTy → Type} [FloatOps F]
-- ==== Mix.lean ====
abbrev S2x16384x1024 : Shape := ⟨3, ![2, 16384, 1024]⟩
abbrev S2x256x1024 : Shape := ⟨3, ![2, 256, 1024]⟩
abbrev S2x16640x2560 : Shape := ⟨3, ![2, 16640, 2560]⟩
abbrev S2x2x16640x512 : Shape := ⟨4, ![2, 2, 16640, 512]⟩
abbrev S3x8x1024 : Shape := ⟨3, ![3, 8, 1024]⟩
abbrev S512 : Shape := ⟨1, ![512]⟩
abbrev S512x512 : Shape := ⟨2, ![512, 512]⟩
abbrev S1024x1024 : Shape := ⟨2, ![1024, 1024]⟩
abbrev S1x512 : Shape := ⟨2, ![1, 512]⟩
abbrev S2x16640x1024 : Shape := ⟨3, ![2, 16640, 1024]⟩
abbrev S1x256x512 : Shape := ⟨3, ![1, 256, 512]⟩
abbrev S2x1x256x512 : Shape := ⟨4, ![2, 1, 256, 512]⟩
abbrev S1x256x1024 : Shape := ⟨3, ![1, 256, 1024]⟩
abbrev S1x8x1024 : Shape := ⟨3, ![1, 8, 1024]⟩
abbrev S256x512 : Shape := ⟨2, ![256, 512]⟩
abbrev S1x1x256x512 : Shape := ⟨4, ![1, 1, 256, 512]⟩
abbrev S256x128 : Shape := ⟨2, ![256, 128]⟩
abbrev S256 : Shape := ⟨1, ![256]⟩
abbrev S256x1 : Shape := ⟨2, ![256, 1]⟩
abbrev S512x1024 : Shape := ⟨2, ![512, 1024]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 13
  | .vmem => 19
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S2x16640x2560, .bf16⟩
  | .hbm, ⟨3, _⟩ => ⟨S2x2x16640x512, .bf16⟩
  | .hbm, ⟨4, _⟩ => ⟨S2x2x16640x512, .bf16⟩
  | .hbm, ⟨5, _⟩ => ⟨S3x8x1024, .f32⟩
  | .hbm, ⟨6, _⟩ => ⟨S512, .f32⟩
  | .hbm, ⟨7, _⟩ => ⟨S512x512, .f32⟩
  | .hbm, ⟨8, _⟩ => ⟨S1024x1024, .f32⟩
  | .hbm, ⟨9, _⟩ => ⟨S1x512, .f32⟩
  | .hbm, ⟨10, _⟩ => ⟨S512x512, .bf16⟩
  | .hbm, ⟨11, _⟩ => ⟨S1024x1024, .bf16⟩
  | .hbm, ⟨12, _⟩ => ⟨S2x16640x1024, .f32⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S2x1x256x512, .bf16⟩
  | .local _ .vmem, ⟨5, _⟩ => ⟨S2x1x256x512, .bf16⟩
  | .local _ .vmem, ⟨6, _⟩ => ⟨S2x1x256x512, .bf16⟩
  | .local _ .vmem, ⟨7, _⟩ => ⟨S2x1x256x512, .bf16⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x8x1024, .f32⟩
  | .local _ .vmem, ⟨13, _⟩ => ⟨S1x8x1024, .f32⟩
  | .local _ .vmem, ⟨14, _⟩ => ⟨S1x512, .f32⟩
  | .local _ .vmem, ⟨15, _⟩ => ⟨S512x512, .bf16⟩
  | .local _ .vmem, ⟨16, _⟩ => ⟨S1024x1024, .bf16⟩
  | .local _ .vmem, ⟨17, _⟩ => ⟨S1x256x1024, .f32⟩
  | .local _ .vmem, ⟨18, _⟩ => ⟨S1x256x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![2, 65], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.minsi arg1 c63_i32
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.subi arg1 c64_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 1 := Scalar.cmpi .sge arg1 c64_i32
  let c2_i32 : BitVec 32 := 2#32
  let v1 : BitVec 32 := Scalar.select v0 c2_i32 arg0
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MixRefIdeal.lean ====
abbrev S2x16384x1024 : Shape := ⟨3, ![2, 16384, 1024]⟩
abbrev S2x256x1024 : Shape := ⟨3, ![2, 256, 1024]⟩
abbrev S2x16640x2560 : Shape := ⟨3, ![2, 16640, 2560]⟩
abbrev S2x2x16640x512 : Shape := ⟨4, ![2, 2, 16640, 512]⟩
abbrev S3x8x1024 : Shape := ⟨3, ![3, 8, 1024]⟩
abbrev S512 : Shape := ⟨1, ![512]⟩
abbrev S512x512 : Shape := ⟨2, ![512, 512]⟩
abbrev S1024x1024 : Shape := ⟨2, ![1024, 1024]⟩
abbrev S2x16640x512 : Shape := ⟨3, ![2, 16640, 512]⟩
abbrev S1x1x512 : Shape := ⟨3, ![1, 1, 512]⟩
abbrev S1x2x16640x512 : Shape := ⟨4, ![1, 2, 16640, 512]⟩
abbrev S_ : Shape := ⟨0, ![]⟩
abbrev S2x16640x4x128 : Shape := ⟨4, ![2, 16640, 4, 128]⟩
abbrev S2x16640x4 : Shape := ⟨3, ![2, 16640, 4]⟩
abbrev S2x16640x4x1 : Shape := ⟨4, ![2, 16640, 4, 1]⟩
abbrev S2x16640x1024 : Shape := ⟨3, ![2, 16640, 1024]⟩
abbrev S2x1x1024 : Shape := ⟨3, ![2, 1, 1024]⟩
abbrev S2x1024 : Shape := ⟨2, ![2, 1024]⟩
abbrev S1x1x1024 : Shape := ⟨3, ![1, 1, 1024]⟩
abbrev S1024 : Shape := ⟨1, ![1024]⟩

abbrev nBuf : Space → Nat
  | .hbm => 97
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S2x16640x2560, .bf16⟩
  | .hbm, ⟨3, _⟩ => ⟨S2x2x16640x512, .bf16⟩
  | .hbm, ⟨4, _⟩ => ⟨S2x2x16640x512, .bf16⟩
  | .hbm, ⟨5, _⟩ => ⟨S3x8x1024, .f32⟩
  | .hbm, ⟨6, _⟩ => ⟨S512, .f32⟩
  | .hbm, ⟨7, _⟩ => ⟨S512x512, .f32⟩
  | .hbm, ⟨8, _⟩ => ⟨S1024x1024, .f32⟩
  | .hbm, ⟨9, _⟩ => ⟨S2x16640x2560, .f32⟩
  | .hbm, ⟨10, _⟩ => ⟨S2x2x16640x512, .f32⟩
  | .hbm, ⟨11, _⟩ => ⟨S2x2x16640x512, .f32⟩
  | .hbm, ⟨12, _⟩ => ⟨S2x16640x512, .f32⟩
  | .hbm, ⟨13, _⟩ => ⟨S2x16640x512, .f32⟩
  | .hbm, ⟨14, _⟩ => ⟨S1x1x512, .f32⟩
  | .hbm, ⟨15, _⟩ => ⟨S2x16640x512, .f32⟩
  | .hbm, ⟨16, _⟩ => ⟨S2x16640x512, .f32⟩
  | .hbm, ⟨17, _⟩ => ⟨S1x2x16640x512, .f32⟩
  | .hbm, ⟨18, _⟩ => ⟨S2x16640x512, .f32⟩
  | .hbm, ⟨19, _⟩ => ⟨S2x16640x512, .f32⟩
  | .hbm, ⟨20, _⟩ => ⟨S1x2x16640x512, .f32⟩
  | .hbm, ⟨21, _⟩ => ⟨S2x16640x512, .f32⟩
  | .hbm, ⟨22, _⟩ => ⟨S2x16640x512, .f32⟩
  | .hbm, ⟨23, _⟩ => ⟨S2x16640x512, .f32⟩
  | .hbm, ⟨24, _⟩ => ⟨S2x16640x512, .f32⟩
  | .hbm, ⟨25, _⟩ => ⟨S_, .f32⟩
  | .hbm, ⟨26, _⟩ => ⟨S2x16640x512, .f32⟩
  | .hbm, ⟨27, _⟩ => ⟨S2x16640x512, .f32⟩
  | .hbm, ⟨28, _⟩ => ⟨S2x16640x512, .f32⟩
  | .hbm, ⟨29, _⟩ => ⟨S_, .f32⟩
  | .hbm, ⟨30, _⟩ => ⟨S2x16640x512, .f32⟩
  | .hbm, ⟨31, _⟩ => ⟨S2x16640x512, .f32⟩
  | .hbm, ⟨32, _⟩ => ⟨S2x16640x512, .f32⟩
  | .hbm, ⟨33, _⟩ => ⟨S_, .f32⟩
  | .hbm, ⟨34, _⟩ => ⟨S2x16640x512, .f32⟩
  | .hbm, ⟨35, _⟩ => ⟨S2x16640x512, .f32⟩
  | .hbm, ⟨36, _⟩ => ⟨S_, .f32⟩
  | .hbm, ⟨37, _⟩ => ⟨S2x16640x512, .f32⟩
  | .hbm, ⟨38, _⟩ => ⟨S2x16640x512, .f32⟩
  | .hbm, ⟨39, _⟩ => ⟨S2x16640x512, .f32⟩
  | .hbm, ⟨40, _⟩ => ⟨S2x16640x512, .f32⟩
  | .hbm, ⟨41, _⟩ => ⟨S2x16640x512, .f32⟩
  | .hbm, ⟨42, _⟩ => ⟨S2x16640x512, .f32⟩
  | .hbm, ⟨43, _⟩ => ⟨S_, .f32⟩
  | .hbm, ⟨44, _⟩ => ⟨S2x16640x512, .f32⟩
  | .hbm, ⟨45, _⟩ => ⟨S2x16640x512, .f32⟩
  | .hbm, ⟨46, _⟩ => ⟨S_, .f32⟩
  | .hbm, ⟨47, _⟩ => ⟨S2x16640x512, .f32⟩
  | .hbm, ⟨48, _⟩ => ⟨S2x16640x512, .f32⟩
  | .hbm, ⟨49, _⟩ => ⟨S2x16640x512, .f32⟩
  | .hbm, ⟨50, _⟩ => ⟨S1x2x16640x512, .f32⟩
  | .hbm, ⟨51, _⟩ => ⟨S2x16640x512, .f32⟩
  | .hbm, ⟨52, _⟩ => ⟨S1x2x16640x512, .f32⟩
  | .hbm, ⟨53, _⟩ => ⟨S2x16640x512, .f32⟩
  | .hbm, ⟨54, _⟩ => ⟨S2x16640x512, .f32⟩
  | .hbm, ⟨55, _⟩ => ⟨S2x16640x4x128, .f32⟩
  | .hbm, ⟨56, _⟩ => ⟨S2x16640x4x128, .f32⟩
  | .hbm, ⟨57, _⟩ => ⟨S_, .f32⟩
  | .hbm, ⟨58, _⟩ => ⟨S2x16640x4, .f32⟩
  | .hbm, ⟨59, _⟩ => ⟨S2x16640x4x1, .f32⟩
  | .hbm, ⟨60, _⟩ => ⟨S_, .f32⟩
  | .hbm, ⟨61, _⟩ => ⟨S2x16640x4x1, .f32⟩
  | .hbm, ⟨62, _⟩ => ⟨S2x16640x4x1, .f32⟩
  | .hbm, ⟨63, _⟩ => ⟨S_, .f32⟩
  | .hbm, ⟨64, _⟩ => ⟨S2x16640x4x1, .f32⟩
  | .hbm, ⟨65, _⟩ => ⟨S2x16640x4x1, .f32⟩
  | .hbm, ⟨66, _⟩ => ⟨S2x16640x4x1, .f32⟩
  | .hbm, ⟨67, _⟩ => ⟨S2x16640x4x128, .f32⟩
  | .hbm, ⟨68, _⟩ => ⟨S2x16640x4x128, .f32⟩
  | .hbm, ⟨69, _⟩ => ⟨S2x16640x512, .f32⟩
  | .hbm, ⟨70, _⟩ => ⟨S2x16640x512, .f32⟩
  | .hbm, ⟨71, _⟩ => ⟨S2x16640x512, .f32⟩
  | .hbm, ⟨72, _⟩ => ⟨S_, .f32⟩
  | .hbm, ⟨73, _⟩ => ⟨S2x16640x512, .f32⟩
  | .hbm, ⟨74, _⟩ => ⟨S2x16640x512, .f32⟩
  | .hbm, ⟨75, _⟩ => ⟨S_, .f32⟩
  | .hbm, ⟨76, _⟩ => ⟨S2x16640x512, .f32⟩
  | .hbm, ⟨77, _⟩ => ⟨S2x16640x512, .f32⟩
  | .hbm, ⟨78, _⟩ => ⟨S2x16640x512, .f32⟩
  | .hbm, ⟨79, _⟩ => ⟨S2x16640x512, .f32⟩
  | .hbm, ⟨80, _⟩ => ⟨S2x16640x1024, .f32⟩
  | .hbm, ⟨81, _⟩ => ⟨S2x16640x1024, .f32⟩
  | .hbm, ⟨82, _⟩ => ⟨S2x1x1024, .f32⟩
  | .hbm, ⟨83, _⟩ => ⟨S2x1024, .f32⟩
  | .hbm, ⟨84, _⟩ => ⟨S2x1x1024, .f32⟩
  | .hbm, ⟨85, _⟩ => ⟨S2x16384x1024, .f32⟩
  | .hbm, ⟨86, _⟩ => ⟨S2x16384x1024, .f32⟩
  | .hbm, ⟨87, _⟩ => ⟨S2x16384x1024, .f32⟩
  | .hbm, ⟨88, _⟩ => ⟨S2x16384x1024, .f32⟩
  | .hbm, ⟨89, _⟩ => ⟨S1x1x1024, .f32⟩
  | .hbm, ⟨90, _⟩ => ⟨S1024, .f32⟩
  | .hbm, ⟨91, _⟩ => ⟨S2x256x1024, .f32⟩
  | .hbm, ⟨92, _⟩ => ⟨S1x1x1024, .f32⟩
  | .hbm, ⟨93, _⟩ => ⟨S2x256x1024, .f32⟩
  | .hbm, ⟨94, _⟩ => ⟨S2x256x1024, .f32⟩
  | .hbm, ⟨95, _⟩ => ⟨S2x256x1024, .f32⟩
  | .hbm, ⟨96, _⟩ => ⟨S2x16640x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_call0_v5 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩

abbrev nD : Nat := 1
abbrev τ : Topo := Topo.v7x

variable {F : FTy → Type} [FloatOps F]
-- ==== Ada.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S3x1024 : Shape := ⟨2, ![3, 1024]⟩
abbrev S_ : Shape := ⟨0, ![]⟩
abbrev S8x1024 : Shape := ⟨2, ![8, 1024]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩
abbrev S2x3x6144 : Shape := ⟨3, ![2, 3, 6144]⟩
abbrev S2x3x6x1024 : Shape := ⟨4, ![2, 3, 6, 1024]⟩
abbrev S2x3x8x1024 : Shape := ⟨4, ![2, 3, 8, 1024]⟩

abbrev nBuf : Space → Nat
  | .hbm => 16
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S3x1024, .f32⟩
  | .hbm, ⟨6, _⟩ => ⟨S_, .i32⟩
  | .hbm, ⟨7, _⟩ => ⟨S_, .f32⟩
  | .hbm, ⟨8, _⟩ => ⟨S8x1024, .f32⟩
  | .hbm, ⟨9, _⟩ => ⟨S2x1x6144, .f32⟩
  | .hbm, ⟨10, _⟩ => ⟨S2x8x6144, .f32⟩
  | .hbm, ⟨11, _⟩ => ⟨S2x3x6144, .f32⟩
  | .hbm, ⟨12, _⟩ => ⟨S2x3x6x1024, .f32⟩
  | .hbm, ⟨13, _⟩ => ⟨S_, .i32⟩
  | .hbm, ⟨14, _⟩ => ⟨S_, .f32⟩
  | .hbm, ⟨15, _⟩ => ⟨S2x3x8x1024, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S2x6144x2 : Shape := ⟨3, ![2, 6144, 2]⟩
abbrev S2x2x6144 : Shape := ⟨3, ![2, 2, 6144]⟩
abbrev S2x1x6144 : Shape := ⟨3, ![2, 1, 6144]⟩
abbrev S2x3x6144 : Shape := ⟨3, ![2, 3, 6144]⟩
abbrev S2x3x6x1024 : Shape := ⟨4, ![2, 3, 6, 1024]⟩
abbrev S2x3x8x1024 : Shape := ⟨4, ![2, 3, 8, 1024]⟩

abbrev nBuf : Space → Nat
  | .hbm => 35
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S2x1024, .f32⟩
  | .hbm, ⟨5, _⟩ => ⟨S2x1024, .f32⟩
  | .hbm, ⟨6, _⟩ => ⟨S_, .f32⟩
  | .hbm, ⟨7, _⟩ => ⟨S2x1024, .f32⟩
  | .hbm, ⟨8, _⟩ => ⟨S2x1024, .f32⟩
  | .hbm, ⟨9, _⟩ => ⟨S_, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x6144x2, .f32⟩
  | .hbm, ⟨14, _⟩ => ⟨S2x2x6144, .f32⟩
  | .hbm, ⟨15, _⟩ => ⟨S2x1x6144, .f32⟩
  | .hbm, ⟨16, _⟩ => ⟨S2x2x6144, .f32⟩
  | .hbm, ⟨17, _⟩ => ⟨S2x2x6144, .f32⟩
  | .hbm, ⟨18, _⟩ => ⟨S1024, .f32⟩
  | .hbm, ⟨19, _⟩ => ⟨S1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S2x6144, .f32⟩
  | .hbm, ⟨28, _⟩ => ⟨S2x6144, .f32⟩
  | .hbm, ⟨29, _⟩ => ⟨S2x1x6144, .f32⟩
  | .hbm, ⟨30, _⟩ => ⟨S2x3x6144, .f32⟩
  | .hbm, ⟨31, _⟩ => ⟨S2x3x6x1024, .f32⟩
  | .hbm, ⟨32, _⟩ => ⟨S_, .i32⟩
  | .hbm, ⟨33, _⟩ => ⟨S_, .f32⟩
  | .hbm, ⟨34, _⟩ => ⟨S2x3x8x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_call2_v0 : Ref sig .tc := ⟨.hbm, 33, rfl⟩
abbrev main_v12 : Ref sig .tc := ⟨.hbm, 34, rfl⟩

abbrev nD : Nat := 1
abbrev τ : Topo := Topo.v7x

variable {F : FTy → Type} [FloatOps F]
-- ==== Na.lean ====
abbrev S2x16640x3072 : Shape := ⟨3, ![2, 16640, 3072]⟩
abbrev S16x15x31 : Shape := ⟨3, ![16, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S31 : Shape := ⟨1, ![31]⟩
abbrev S1x1x31 : Shape := ⟨3, ![1, 1, 31]⟩
abbrev S64x64x31 : Shape := ⟨3, ![64, 64, 31]⟩
abbrev S16x15x1x1x31 : Shape := ⟨5, ![16, 15, 1, 1, 31]⟩
abbrev S1x1x64x64x31 : Shape := ⟨5, ![1, 1, 64, 64, 31]⟩
abbrev S16x15x64x64x31 : Shape := ⟨5, ![16, 15, 64, 64, 31]⟩
abbrev S16x15x64x64 : Shape := ⟨4, ![16, 15, 64, 64]⟩
abbrev S1x1x64x64 : Shape := ⟨4, ![1, 1, 64, 64]⟩
abbrev S16x64x64 : Shape := ⟨3, ![16, 64, 64]⟩
abbrev S16x1x64x64 : Shape := ⟨4, ![16, 1, 64, 64]⟩
abbrev S16x64x768 : Shape := ⟨3, ![16, 64, 768]⟩
abbrev S16x256x768 : Shape := ⟨3, ![16, 256, 768]⟩
abbrev S1x16x256x768 : Shape := ⟨4, ![1, 16, 256, 768]⟩
abbrev S3x16x256x768 : Shape := ⟨4, ![3, 16, 256, 768]⟩
abbrev S2x16384x1024 : Shape := ⟨3, ![2, 16384, 1024]⟩
abbrev S1x256x1024 : Shape := ⟨3, ![1, 256, 1024]⟩
abbrev S1x768x1024 : Shape := ⟨3, ![1, 768, 1024]⟩
abbrev S2x512x1024 : Shape := ⟨3, ![2, 512, 1024]⟩
abbrev S256x128 : Shape := ⟨2, ![256, 128]⟩
abbrev S1x256x128 : Shape := ⟨3, ![1, 256, 128]⟩
abbrev S1x768x128 : Shape := ⟨3, ![1, 768, 128]⟩
abbrev S768x128 : Shape := ⟨2, ![768, 128]⟩
abbrev S512x128 : Shape := ⟨2, ![512, 128]⟩
abbrev S512x256 : Shape := ⟨2, ![512, 256]⟩
abbrev S1x512x256 : Shape := ⟨3, ![1, 512, 256]⟩
abbrev S512x768 : Shape := ⟨2, ![512, 768]⟩
abbrev S256x768 : Shape := ⟨2, ![256, 768]⟩
abbrev S1x1x256x768 : Shape := ⟨4, ![1, 1, 256, 768]⟩
abbrev S1x256x768 : Shape := ⟨3, ![1, 256, 768]⟩
abbrev S1x16x1024 : Shape := ⟨3, ![1, 16, 1024]⟩
abbrev S16x1024 : Shape := ⟨2, ![16, 1024]⟩
abbrev S16 : Shape := ⟨1, ![16]⟩
abbrev S16x1 : Shape := ⟨2, ![16, 1]⟩
abbrev S1x512x768 : Shape := ⟨3, ![1, 512, 768]⟩
abbrev S512x1 : Shape := ⟨2, ![512, 1]⟩

abbrev nBuf : Space → Nat
  | .hbm => 278
  | .vmem => 16
  | .smem => 0
  | _ => 0

abbrev hbmTy0_0 (i : Nat) : BufTy := match i % 128 with
  | 0 => ⟨S2x16640x3072, .bf16⟩
  | 1 => ⟨S16x15x31, .f32⟩
  | 2 => ⟨S64, .i32⟩
  | 3 => ⟨S_, .i32⟩
  | 4 => ⟨S64, .i32⟩
  | 5 => ⟨S64, .i32⟩
  | 6 => ⟨S_, .i32⟩
  | 7 => ⟨S_, .i32⟩
  | 8 => ⟨S_, .i32⟩
  | 9 => ⟨S64, .i32⟩
  | 10 => ⟨S64, .i32⟩
  | 11 => ⟨S_, .i32⟩
  | 12 => ⟨S64, .i32⟩
  | 13 => ⟨S64, .i32⟩
  | 14 => ⟨S1x64, .i32⟩
  | 15 => ⟨S64x1, .i32⟩
  | 16 => ⟨S64x64, .i32⟩
  | 17 => ⟨S64x64, .i32⟩
  | 18 => ⟨S64x64, .i1⟩
  | 19 => ⟨S1x64, .i32⟩
  | 20 => ⟨S64x1, .i32⟩
  | 21 => ⟨S_, .i32⟩
  | 22 => ⟨S64x1, .i32⟩
  | 23 => ⟨S64x1, .i32⟩
  | 24 => ⟨S64x64, .i32⟩
  | 25 => ⟨S64x64, .i32⟩
  | 26 => ⟨S64x64, .i1⟩
  | 27 => ⟨S64x64, .i1⟩
  | 28 => ⟨S1x64, .i32⟩
  | 29 => ⟨S64x1, .i32⟩
  | 30 => ⟨S64x64, .i32⟩
  | 31 => ⟨S64x64, .i32⟩
  | 32 => ⟨S64x64, .i32⟩
  | 33 => ⟨S_, .i32⟩
  | 34 => ⟨S64x64, .i32⟩
  | 35 => ⟨S64x64, .i32⟩
  | 36 => ⟨S64x64x1, .i32⟩
  | 37 => ⟨S31, .i32⟩
  | 38 => ⟨S1x1x31, .i32⟩
  | 39 => ⟨S64x64x31, .i32⟩
  | 40 => ⟨S64x64x31, .i32⟩
  | 41 => ⟨S64x64x31, .i1⟩
  | 42 => ⟨S64x64x1, .i1⟩
  | 43 => ⟨S64x64x31, .i1⟩
  | 44 => ⟨S64x64x31, .i1⟩
  | 45 => ⟨S16x15x1x1x31, .f32⟩
  | 46 => ⟨S_, .f32⟩
  | 47 => ⟨S_, .f32⟩
  | 48 => ⟨S64x64x31, .f32⟩
  | 49 => ⟨S64x64x31, .f32⟩
  | 50 => ⟨S64x64x31, .f32⟩
  | 51 => ⟨S1x1x64x64x31, .f32⟩
  | 52 => ⟨S1x1x64x64x31, .f32⟩
  | 53 => ⟨S16x15x64x64x31, .f32⟩
  | 54 => ⟨S16x15x64x64x31, .f32⟩
  | 55 => ⟨S16x15x64x64x31, .f32⟩
  | 56 => ⟨S_, .f32⟩
  | 57 => ⟨S16x15x64x64, .f32⟩
  | 58 => ⟨S1x1x64x64, .i1⟩
  | 59 => ⟨S_, .f32⟩
  | 60 => ⟨S_, .f32⟩
  | 61 => ⟨S16x15x64x64, .i1⟩
  | 62 => ⟨S16x15x64x64, .f32⟩
  | 63 => ⟨S16x15x64x64, .f32⟩
  | 64 => ⟨S_, .f32⟩
  | 65 => ⟨S16x64x64, .f32⟩
  | 66 => ⟨S16x1x64x64, .f32⟩
  | 67 => ⟨S16x64x64, .f32⟩
  | 68 => ⟨S16x1x64x64, .f32⟩
  | 69 => ⟨S16x64x64, .f32⟩
  | 70 => ⟨S16x1x64x64, .f32⟩
  | 71 => ⟨S16x64x64, .f32⟩
  | 72 => ⟨S16x1x64x64, .f32⟩
  | 73 => ⟨S16x64x64, .f32⟩
  | 74 => ⟨S16x1x64x64, .f32⟩
  | 75 => ⟨S16x64x64, .f32⟩
  | 76 => ⟨S16x1x64x64, .f32⟩
  | 77 => ⟨S16x64x64, .f32⟩
  | 78 => ⟨S16x1x64x64, .f32⟩
  | 79 => ⟨S16x64x64, .f32⟩
  | 80 => ⟨S16x1x64x64, .f32⟩
  | 81 => ⟨S16x64x64, .f32⟩
  | 82 => ⟨S16x64x768, .f32⟩
  | 83 => ⟨S16x1x64x64, .f32⟩
  | 84 => ⟨S16x64x64, .f32⟩
  | 85 => ⟨S16x1x64x64, .f32⟩
  | 86 => ⟨S16x64x64, .f32⟩
  | 87 => ⟨S16x1x64x64, .f32⟩
  | 88 => ⟨S16x64x64, .f32⟩
  | 89 => ⟨S16x1x64x64, .f32⟩
  | 90 => ⟨S16x64x64, .f32⟩
  | 91 => ⟨S16x1x64x64, .f32⟩
  | 92 => ⟨S16x64x64, .f32⟩
  | 93 => ⟨S16x1x64x64, .f32⟩
  | 94 => ⟨S16x64x64, .f32⟩
  | 95 => ⟨S16x1x64x64, .f32⟩
  | 96 => ⟨S16x64x64, .f32⟩
  | 97 => ⟨S16x1x64x64, .f32⟩
  | 98 => ⟨S16x64x64, .f32⟩
  | 99 => ⟨S16x64x768, .f32⟩
  | 100 => ⟨S16x1x64x64, .f32⟩
  | 101 => ⟨S16x64x64, .f32⟩
  | 102 => ⟨S16x1x64x64, .f32⟩
  | 103 => ⟨S16x64x64, .f32⟩
  | 104 => ⟨S16x1x64x64, .f32⟩
  | 105 => ⟨S16x64x64, .f32⟩
  | 106 => ⟨S16x1x64x64, .f32⟩
  | 107 => ⟨S16x64x64, .f32⟩
  | 108 => ⟨S16x1x64x64, .f32⟩
  | 109 => ⟨S16x64x64, .f32⟩
  | 110 => ⟨S16x1x64x64, .f32⟩
  | 111 => ⟨S16x64x64, .f32⟩
  | 112 => ⟨S16x1x64x64, .f32⟩
  | 113 => ⟨S16x64x64, .f32⟩
  | 114 => ⟨S16x1x64x64, .f32⟩
  | 115 => ⟨S16x64x64, .f32⟩
  | 116 => ⟨S16x64x768, .f32⟩
  | 117 => ⟨S16x1x64x64, .f32⟩
  | 118 => ⟨S16x64x64, .f32⟩
  | 119 => ⟨S16x1x64x64, .f32⟩
  | 120 => ⟨S16x64x64, .f32⟩
  | 121 => ⟨S16x1x64x64, .f32⟩
  | 122 => ⟨S16x64x64, .f32⟩
  | 123 => ⟨S16x1x64x64, .f32⟩
  | 124 => ⟨S16x64x64, .f32⟩
  | 125 => ⟨S16x1x64x64, .f32⟩
  | 126 => ⟨S16x64x64, .f32⟩
  | 127 => ⟨S16x1x64x64, .f32⟩
  | _ => ⟨S2x16640x3072, .bf16⟩

abbrev hbmTy0_1 (i : Nat) : BufTy := match i % 128 with
  | 0 => ⟨S16x64x64, .f32⟩
  | 1 => ⟨S16x1x64x64, .f32⟩
  | 2 => ⟨S16x64x64, .f32⟩
  | 3 => ⟨S16x1x64x64, .f32⟩
  | 4 => ⟨S16x64x64, .f32⟩
  | 5 => ⟨S16x64x768, .f32⟩
  | 6 => ⟨S16x256x768, .f32⟩
  | 7 => ⟨S16x1x64x64, .f32⟩
  | 8 => ⟨S16x64x64, .f32⟩
  | 9 => ⟨S16x1x64x64, .f32⟩
  | 10 => ⟨S16x64x64, .f32⟩
  | 11 => ⟨S16x1x64x64, .f32⟩
  | 12 => ⟨S16x64x64, .f32⟩
  | 13 => ⟨S16x1x64x64, .f32⟩
  | 14 => ⟨S16x64x64, .f32⟩
  | 15 => ⟨S16x1x64x64, .f32⟩
  | 16 => ⟨S16x64x64, .f32⟩
  | 17 => ⟨S16x1x64x64, .f32⟩
  | 18 => ⟨S16x64x64, .f32⟩
  | 19 => ⟨S16x1x64x64, .f32⟩
  | 20 => ⟨S16x64x64, .f32⟩
  | 21 => ⟨S16x1x64x64, .f32⟩
  | 22 => ⟨S16x64x64, .f32⟩
  | 23 => ⟨S16x64x768, .f32⟩
  | 24 => ⟨S16x1x64x64, .f32⟩
  | 25 => ⟨S16x64x64, .f32⟩
  | 26 => ⟨S16x1x64x64, .f32⟩
  | 27 => ⟨S16x64x64, .f32⟩
  | 28 => ⟨S16x1x64x64, .f32⟩
  | 29 => ⟨S16x64x64, .f32⟩
  | 30 => ⟨S16x1x64x64, .f32⟩
  | 31 => ⟨S16x64x64, .f32⟩
  | 32 => ⟨S16x1x64x64, .f32⟩
  | 33 => ⟨S16x64x64, .f32⟩
  | 34 => ⟨S16x1x64x64, .f32⟩
  | 35 => ⟨S16x64x64, .f32⟩
  | 36 => ⟨S16x1x64x64, .f32⟩
  | 37 => ⟨S16x64x64, .f32⟩
  | 38 => ⟨S16x1x64x64, .f32⟩
  | 39 => ⟨S16x64x64, .f32⟩
  | 40 => ⟨S16x64x768, .f32⟩
  | 41 => ⟨S16x1x64x64, .f32⟩
  | 42 => ⟨S16x64x64, .f32⟩
  | 43 => ⟨S16x1x64x64, .f32⟩
  | 44 => ⟨S16x64x64, .f32⟩
  | 45 => ⟨S16x1x64x64, .f32⟩
  | 46 => ⟨S16x64x64, .f32⟩
  | 47 => ⟨S16x1x64x64, .f32⟩
  | 48 => ⟨S16x64x64, .f32⟩
  | 49 => ⟨S16x1x64x64, .f32⟩
  | 50 => ⟨S16x64x64, .f32⟩
  | 51 => ⟨S16x1x64x64, .f32⟩
  | 52 => ⟨S16x64x64, .f32⟩
  | 53 => ⟨S16x1x64x64, .f32⟩
  | 54 => ⟨S16x64x64, .f32⟩
  | 55 => ⟨S16x1x64x64, .f32⟩
  | 56 => ⟨S16x64x64, .f32⟩
  | 57 => ⟨S16x64x768, .f32⟩
  | 58 => ⟨S16x1x64x64, .f32⟩
  | 59 => ⟨S16x64x64, .f32⟩
  | 60 => ⟨S16x1x64x64, .f32⟩
  | 61 => ⟨S16x64x64, .f32⟩
  | 62 => ⟨S16x1x64x64, .f32⟩
  | 63 => ⟨S16x64x64, .f32⟩
  | 64 => ⟨S16x1x64x64, .f32⟩
  | 65 => ⟨S16x64x64, .f32⟩
  | 66 => ⟨S16x1x64x64, .f32⟩
  | 67 => ⟨S16x64x64, .f32⟩
  | 68 => ⟨S16x1x64x64, .f32⟩
  | 69 => ⟨S16x64x64, .f32⟩
  | 70 => ⟨S16x1x64x64, .f32⟩
  | 71 => ⟨S16x64x64, .f32⟩
  | 72 => ⟨S16x1x64x64, .f32⟩
  | 73 => ⟨S16x64x64, .f32⟩
  | 74 => ⟨S16x64x768, .f32⟩
  | 75 => ⟨S16x256x768, .f32⟩
  | 76 => ⟨S16x1x64x64, .f32⟩
  | 77 => ⟨S16x64x64, .f32⟩
  | 78 => ⟨S16x1x64x64, .f32⟩
  | 79 => ⟨S16x64x64, .f32⟩
  | 80 => ⟨S16x1x64x64, .f32⟩
  | 81 => ⟨S16x64x64, .f32⟩
  | 82 => ⟨S16x1x64x64, .f32⟩
  | 83 => ⟨S16x64x64, .f32⟩
  | 84 => ⟨S16x1x64x64, .f32⟩
  | 85 => ⟨S16x64x64, .f32⟩
  | 86 => ⟨S16x1x64x64, .f32⟩
  | 87 => ⟨S16x64x64, .f32⟩
  | 88 => ⟨S16x1x64x64, .f32⟩
  | 89 => ⟨S16x64x64, .f32⟩
  | 90 => ⟨S16x1x64x64, .f32⟩
  | 91 => ⟨S16x64x64, .f32⟩
  | 92 => ⟨S16x64x768, .f32⟩
  | 93 => ⟨S16x1x64x64, .f32⟩
  | 94 => ⟨S16x64x64, .f32⟩
  | 95 => ⟨S16x1x64x64, .f32⟩
  | 96 => ⟨S16x64x64, .f32⟩
  | 97 => ⟨S16x1x64x64, .f32⟩
  | 98 => ⟨S16x64x64, .f32⟩
  | 99 => ⟨S16x1x64x64, .f32⟩
  | 100 => ⟨S16x64x64, .f32⟩
  | 101 => ⟨S16x1x64x64, .f32⟩
  | 102 => ⟨S16x64x64, .f32⟩
  | 103 => ⟨S16x1x64x64, .f32⟩
  | 104 => ⟨S16x64x64, .f32⟩
  | 105 => ⟨S16x1x64x64, .f32⟩
  | 106 => ⟨S16x64x64, .f32⟩
  | 107 => ⟨S16x1x64x64, .f32⟩
  | 108 => ⟨S16x64x64, .f32⟩
  | 109 => ⟨S16x64x768, .f32⟩
  | 110 => ⟨S16x1x64x64, .f32⟩
  | 111 => ⟨S16x64x64, .f32⟩
  | 112 => ⟨S16x1x64x64, .f32⟩
  | 113 => ⟨S16x64x64, .f32⟩
  | 114 => ⟨S16x1x64x64, .f32⟩
  | 115 => ⟨S16x64x64, .f32⟩
  | 116 => ⟨S16x1x64x64, .f32⟩
  | 117 => ⟨S16x64x64, .f32⟩
  | 118 => ⟨S16x1x64x64, .f32⟩
  | 119 => ⟨S16x64x64, .f32⟩
  | 120 => ⟨S16x1x64x64, .f32⟩
  | 121 => ⟨S16x64x64, .f32⟩
  | 122 => ⟨S16x1x64x64, .f32⟩
  | 123 => ⟨S16x64x64, .f32⟩
  | 124 => ⟨S16x1x64x64, .f32⟩
  | 125 => ⟨S16x64x64, .f32⟩
  | 126 => ⟨S16x64x768, .f32⟩
  | 127 => ⟨S16x1x64x64, .f32⟩
  | _ => ⟨S2x16640x3072, .bf16⟩

abbrev hbmTy0_2 (i : Nat) : BufTy := match i % 128 with
  | 0 => ⟨S16x64x64, .f32⟩
  | 1 => ⟨S16x1x64x64, .f32⟩
  | 2 => ⟨S16x64x64, .f32⟩
  | 3 => ⟨S16x1x64x64, .f32⟩
  | 4 => ⟨S16x64x64, .f32⟩
  | 5 => ⟨S16x1x64x64, .f32⟩
  | 6 => ⟨S16x64x64, .f32⟩
  | 7 => ⟨S16x1x64x64, .f32⟩
  | 8 => ⟨S16x64x64, .f32⟩
  | 9 => ⟨S16x1x64x64, .f32⟩
  | 10 => ⟨S16x64x64, .f32⟩
  | 11 => ⟨S16x1x64x64, .f32⟩
  | 12 => ⟨S16x64x64, .f32⟩
  | 13 => ⟨S16x1x64x64, .f32⟩
  | 14 => ⟨S16x64x64, .f32⟩
  | 15 => ⟨S16x64x768, .f32⟩
  | 16 => ⟨S16x256x768, .f32⟩
  | 17 => ⟨S1x16x256x768, .f32⟩
  | 18 => ⟨S1x16x256x768, .f32⟩
  | 19 => ⟨S1x16x256x768, .f32⟩
  | 20 => ⟨S3x16x256x768, .f32⟩
  | 21 => ⟨S2x16384x1024, .bf16⟩
  | _ => ⟨S2x16640x3072, .bf16⟩

abbrev hbmTy (i : Nat) : BufTy := match i / 128 with
  | 0 => hbmTy0_0 i
  | 1 => hbmTy0_1 i
  | 2 => hbmTy0_2 i
  | _ => ⟨S2x16640x3072, .bf16⟩

abbrev bufTy : (tb : Table) → Fin (tcTables nBuf tb) → BufTy
  | .hbm, ⟨i, _⟩ => hbmTy i
  | .local _ .vmem, ⟨0, _⟩ => ⟨S1x256x1024, .bf16⟩
  | .local _ .vmem, ⟨1, _⟩ => ⟨S1x256x1024, .bf16⟩
  | .local _ .vmem, ⟨2, _⟩ => ⟨S1x768x1024, .bf16⟩
  | .local _ .vmem, ⟨3, _⟩ => ⟨S1x768x1024, .bf16⟩
  | .local _ .vmem, ⟨4, _⟩ => ⟨S1x768x1024, .bf16⟩
  | .local _ .vmem, ⟨5, _⟩ => ⟨S1x768x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x16x256x768, .f32⟩
  | .local _ .vmem, ⟨11, _⟩ => ⟨S1x16x256x768, .f32⟩
  | .local _ .vmem, ⟨12, _⟩ => ⟨S1x256x1024, .bf16⟩
  | .local _ .vmem, ⟨13, _⟩ => ⟨S1x256x1024, .bf16⟩
  | .local _ .vmem, ⟨14, _⟩ => ⟨S2x512x1024, .f32⟩
  | .local _ .vmem, ⟨15, _⟩ => ⟨S2x512x1024, .bf16⟩
  | _, _ => ⟨S2x16640x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_c_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst : Ref sig .tc := ⟨.hbm, 46, rfl⟩
abbrev main_cst_4 : Ref sig .tc := ⟨.hbm, 47, rfl⟩
abbrev main_call1_v0 : Ref sig .tc := ⟨.hbm, 48, rfl⟩
abbrev main_call1_v1 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_v238 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_v243 : Ref sig .tc := ⟨.hbm, 265, rfl⟩
abbrev main_v244 : Ref sig .tc := ⟨.hbm, 266, rfl⟩
abbrev main_v245 : Ref sig .tc := ⟨.hbm, 267, rfl⟩
abbrev main_v246 : Ref sig .tc := ⟨.hbm, 268, rfl⟩
abbrev main_v247 : Ref sig .tc := ⟨.hbm, 269, rfl⟩
abbrev main_v248 : Ref sig .tc := ⟨.hbm, 270, rfl⟩
abbrev main_v249 : Ref sig .tc := ⟨.hbm, 271, rfl⟩
abbrev main_v250 : Ref sig .tc := ⟨.hbm, 272, rfl⟩
abbrev main_v251 : Ref sig .tc := ⟨.hbm, 273, rfl⟩
abbrev main_v252 : Ref sig .tc := ⟨.hbm, 274, rfl⟩
abbrev main_v253 : Ref sig .tc := ⟨.hbm, 275, rfl⟩
abbrev main_v254 : Ref sig .tc := ⟨.hbm, 276, rfl⟩
abbrev main_v255 : Ref sig .tc := ⟨.hbm, 277, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let c0_i32 : BitVec 32 := 0#32
  let c244_i32 : BitVec 32 := 244#32
  let v2 : BitVec 32 := Scalar.maxsi c0_i32 v1
  let v3 : BitVec 32 := Scalar.minsi c244_i32 v2
  let c64_i32 : BitVec 32 := 64#32
  let v4 : BitVec 32 := Scalar.muli v3 c64_i32
  let c1024_i32 : BitVec 32 := 1024#32
  let c0_i32_1 : BitVec 32 := 0#32
  ![arg0.toNat, v4.toNat, c1024_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let c0_i32 : BitVec 32 := 0#32
  let c244_i32 : BitVec 32 := 244#32
  let v2 : BitVec 32 := Scalar.maxsi c0_i32 v1
  let v3 : BitVec 32 := Scalar.minsi c244_i32 v2
  let c64_i32 : BitVec 32 := 64#32
  let v4 : BitVec 32 := Scalar.muli v3 c64_i32
  let c2048_i32 : BitVec 32 := 2048#32
  let c0_i32_1 : BitVec 32 := 0#32
  ![arg0.toNat, v4.toNat, c2048_i32.toNat]

def cc0_transform_3 (i : grid0.Coords) : Fin 3 → Nat :=
  let arg0 : BitVec 32 := BitVec.ofNat 32 (i 0).val
  let arg1 : BitVec 32 := BitVec.ofNat 32 (i 1).val
  let c64_i32 : BitVec 32 := 64#32
  let c1_i32 : BitVec 32 := 1#32
  let c0_i32 : BitVec 32 := 0#32
  ![arg0.toNat, c64_i32.toNat, c1_i32.toNat]

def cc0_transform_4 (i : grid0.Coords) : Fin 3 → Nat :=
  let arg0 : BitVec 32 := BitVec.ofNat 32 (i 0).val
  let arg1 : BitVec 32 := BitVec.ofNat 32 (i 1).val
  let c64_i32 : BitVec 32 := 64#32
  let c2_i32 : BitVec 32 := 2#32
  let c0_i32 : BitVec 32 := 0#32
  ![arg0.toNat, c64_i32.toNat, c2_i32.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let c0_i32 : BitVec 32 := 0#32
  let c244_i32 : BitVec 32 := 244#32
  let v2 : BitVec 32 := Scalar.maxsi c0_i32 v1
  let v3 : BitVec 32 := Scalar.minsi c244_i32 v2
  let c4_i32_1 : BitVec 32 := 4#32
  let v4 : BitVec 32 := Scalar.divsi v3 c4_i32_1
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c4_i32_1 c0_i32_4
  let v11 : BitVec 32 := Scalar.extui v10
  let c0_i32_5 : BitVec 32 := 0#32
  let v12 : BitVec 1 := Scalar.cmpi .slt c4_i32_1 c0_i32_5
  let v13 : BitVec 32 := Scalar.extui v12
  let v14 : BitVec 32 := Scalar.subi v11 v13
  let v15 : BitVec 1 := Scalar.cmpi .ne v9 v14
  let v16 : BitVec 32 := Scalar.remsi v3 c4_i32_1
  let c0_i32_6 : BitVec 32 := 0#32
  let v17 : BitVec 1 := Scalar.cmpi .ne v16 c0_i32_6
  let v18 : BitVec 1 := Scalar.andi v15 v17
  let c1_i32 : BitVec 32 := 1#32
  let v19 : BitVec 32 := Scalar.subi v4 c1_i32
  let v20 : BitVec 32 := Scalar.select v18 v19 v4
  let v21 : BitVec 32 := Scalar.subi arg1 v20
  let c0_i32_7 : BitVec 32 := 0#32
  let c0_i32_8 : BitVec 32 := 0#32
  let c0_i32_9 : BitVec 32 := 0#32
  let c0_i32_10 : BitVec 32 := 0#32
  ![v21.toNat, c0_i32_7.toNat, c0_i32_8.toNat, c0_i32_9.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== NaRefIdeal.lean ====
abbrev S2x16640x3072 : Shape := ⟨3, ![2, 16640, 3072]⟩
abbrev S16x15x31 : Shape := ⟨3, ![16, 15, 31]⟩
abbrev S2x16384x3072 : Shape := ⟨3, ![2, 16384, 3072]⟩
abbrev S2x256x64x3x16x64 : Shape := ⟨6, ![2, 256, 64, 3, 16, 64]⟩
abbrev S2x256x64x1x16x64 : Shape := ⟨6, ![2, 256, 64, 1, 16, 64]⟩
abbrev S2x256x64x16x64 : Shape := ⟨5, ![2, 256, 64, 16, 64]⟩
abbrev S2x16x256x64x64 : Shape := ⟨5, ![2, 16, 256, 64, 64]⟩
abbrev S_ : Shape := ⟨0, ![]⟩
abbrev S2x256x3072 : Shape := ⟨3, ![2, 256, 3072]⟩
abbrev S2x256x3x16x64 : Shape := ⟨5, ![2, 256, 3, 16, 64]⟩
abbrev S2x256x1x16x64 : Shape := ⟨5, ![2, 256, 1, 16, 64]⟩
abbrev S2x256x16x64 : Shape := ⟨4, ![2, 256, 16, 64]⟩
abbrev S2x16x256x64 : Shape := ⟨4, ![2, 16, 256, 64]⟩
abbrev S256 : Shape := ⟨1, ![256]⟩
abbrev S64 : Shape := ⟨1, ![64]⟩
abbrev S256x1 : Shape := ⟨2, ![256, 1]⟩
abbrev S8 : Shape := ⟨1, ![8]⟩
abbrev S1x8 : Shape := ⟨2, ![1, 8]⟩
abbrev S256x8 : Shape := ⟨2, ![256, 8]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S256x1x8x1 : Shape := ⟨4, ![256, 1, 8, 1]⟩
abbrev S1x64x1x16 : Shape := ⟨4, ![1, 64, 1, 16]⟩
abbrev S256x64x8x16 : Shape := ⟨4, ![256, 64, 8, 16]⟩
abbrev S256x64x8x16x1 : Shape := ⟨5, ![256, 64, 8, 16, 1]⟩
abbrev S256x64x8x16x2 : Shape := ⟨5, ![256, 64, 8, 16, 2]⟩
abbrev S2x16x256x64x8x16x64 : Shape := ⟨7, ![2, 16, 256, 64, 8, 16, 64]⟩
abbrev S16x256x64x8x16 : Shape := ⟨5, ![16, 256, 64, 8, 16]⟩
abbrev S2x16x256x64x8x16 : Shape := ⟨6, ![2, 16, 256, 64, 8, 16]⟩
abbrev S1x16x256x64x8x16 : Shape := ⟨6, ![1, 16, 256, 64, 8, 16]⟩
abbrev S2x16x256x64x256 : Shape := ⟨5, ![2, 16, 256, 64, 256]⟩
abbrev S2x16x256x64x128 : Shape := ⟨5, ![2, 16, 256, 64, 128]⟩
abbrev S2x16x256x64x384 : Shape := ⟨5, ![2, 16, 256, 64, 384]⟩
abbrev S2x16x256x64x1 : Shape := ⟨5, ![2, 16, 256, 64, 1]⟩
abbrev S2x16384x1024 : Shape := ⟨3, ![2, 16384, 1024]⟩

abbrev nBuf : Space → Nat
  | .hbm => 169
  | .vmem => 0
  | .smem => 0
  | _ => 0

abbrev hbmTy0_0 (i : Nat) : BufTy := match i % 128 with
  | 0 => ⟨S2x16640x3072, .bf16⟩
  | 1 => ⟨S16x15x31, .f32⟩
  | 2 => ⟨S2x16640x3072, .f32⟩
  | 3 => ⟨S2x16384x3072, .f32⟩
  | 4 => ⟨S2x256x64x3x16x64, .f32⟩
  | 5 => ⟨S2x256x64x1x16x64, .f32⟩
  | 6 => ⟨S2x256x64x16x64, .f32⟩
  | 7 => ⟨S2x16x256x64x64, .f32⟩
  | 8 => ⟨S_, .f32⟩
  | 9 => ⟨S2x16x256x64x64, .f32⟩
  | 10 => ⟨S2x16x256x64x64, .f32⟩
  | 11 => ⟨S2x256x64x1x16x64, .f32⟩
  | 12 => ⟨S2x256x64x16x64, .f32⟩
  | 13 => ⟨S2x16x256x64x64, .f32⟩
  | 14 => ⟨S2x256x64x1x16x64, .f32⟩
  | 15 => ⟨S2x256x64x16x64, .f32⟩
  | 16 => ⟨S2x16x256x64x64, .f32⟩
  | 17 => ⟨S2x256x3072, .f32⟩
  | 18 => ⟨S2x256x3x16x64, .f32⟩
  | 19 => ⟨S2x256x1x16x64, .f32⟩
  | 20 => ⟨S2x256x16x64, .f32⟩
  | 21 => ⟨S2x16x256x64, .f32⟩
  | 22 => ⟨S2x256x1x16x64, .f32⟩
  | 23 => ⟨S2x256x16x64, .f32⟩
  | 24 => ⟨S2x16x256x64, .f32⟩
  | 25 => ⟨S256, .i32⟩
  | 26 => ⟨S64, .i32⟩
  | 27 => ⟨S_, .i32⟩
  | 28 => ⟨S256, .i32⟩
  | 29 => ⟨S256, .i32⟩
  | 30 => ⟨S_, .i32⟩
  | 31 => ⟨S_, .i32⟩
  | 32 => ⟨S_, .i32⟩
  | 33 => ⟨S256, .i32⟩
  | 34 => ⟨S256, .i32⟩
  | 35 => ⟨S_, .i32⟩
  | 36 => ⟨S256, .i32⟩
  | 37 => ⟨S256, .i32⟩
  | 38 => ⟨S256x1, .i32⟩
  | 39 => ⟨S8, .i32⟩
  | 40 => ⟨S1x8, .i32⟩
  | 41 => ⟨S256x8, .i32⟩
  | 42 => ⟨S256x8, .i32⟩
  | 43 => ⟨S256x8, .i32⟩
  | 44 => ⟨S_, .i32⟩
  | 45 => ⟨S64, .i32⟩
  | 46 => ⟨S64, .i32⟩
  | 47 => ⟨S_, .i32⟩
  | 48 => ⟨S_, .i32⟩
  | 49 => ⟨S_, .i32⟩
  | 50 => ⟨S64, .i32⟩
  | 51 => ⟨S64, .i32⟩
  | 52 => ⟨S_, .i32⟩
  | 53 => ⟨S64, .i32⟩
  | 54 => ⟨S64, .i32⟩
  | 55 => ⟨S64x1, .i32⟩
  | 56 => ⟨S16, .i32⟩
  | 57 => ⟨S1x16, .i32⟩
  | 58 => ⟨S64x16, .i32⟩
  | 59 => ⟨S64x16, .i32⟩
  | 60 => ⟨S64x16, .i32⟩
  | 61 => ⟨S256x1, .i32⟩
  | 62 => ⟨S256x8, .i32⟩
  | 63 => ⟨S256x8, .i32⟩
  | 64 => ⟨S_, .i32⟩
  | 65 => ⟨S256x8, .i32⟩
  | 66 => ⟨S256x8, .i32⟩
  | 67 => ⟨S64x1, .i32⟩
  | 68 => ⟨S64x16, .i32⟩
  | 69 => ⟨S64x16, .i32⟩
  | 70 => ⟨S_, .i32⟩
  | 71 => ⟨S64x16, .i32⟩
  | 72 => ⟨S64x16, .i32⟩
  | 73 => ⟨S256x1x8x1, .i32⟩
  | 74 => ⟨S1x64x1x16, .i32⟩
  | 75 => ⟨S_, .i32⟩
  | 76 => ⟨S256x1x8x1, .i32⟩
  | 77 => ⟨S256x1x8x1, .i1⟩
  | 78 => ⟨S_, .i32⟩
  | 79 => ⟨S256x1x8x1, .i32⟩
  | 80 => ⟨S256x1x8x1, .i32⟩
  | 81 => ⟨S256x1x8x1, .i32⟩
  | 82 => ⟨S_, .i32⟩
  | 83 => ⟨S1x64x1x16, .i32⟩
  | 84 => ⟨S1x64x1x16, .i1⟩
  | 85 => ⟨S_, .i32⟩
  | 86 => ⟨S1x64x1x16, .i32⟩
  | 87 => ⟨S1x64x1x16, .i32⟩
  | 88 => ⟨S1x64x1x16, .i32⟩
  | 89 => ⟨S256x64x8x16, .i32⟩
  | 90 => ⟨S256x64x8x16, .i32⟩
  | 91 => ⟨S256x64x8x16x1, .i32⟩
  | 92 => ⟨S256x64x8x16x1, .i32⟩
  | 93 => ⟨S256x64x8x16x2, .i32⟩
  | 94 => ⟨S2x16x256x64x8x16x64, .f32⟩
  | 95 => ⟨S256x1x8x1, .i32⟩
  | 96 => ⟨S1x64x1x16, .i32⟩
  | 97 => ⟨S_, .i32⟩
  | 98 => ⟨S256x1x8x1, .i32⟩
  | 99 => ⟨S256x1x8x1, .i1⟩
  | 100 => ⟨S_, .i32⟩
  | 101 => ⟨S256x1x8x1, .i32⟩
  | 102 => ⟨S256x1x8x1, .i32⟩
  | 103 => ⟨S256x1x8x1, .i32⟩
  | 104 => ⟨S_, .i32⟩
  | 105 => ⟨S1x64x1x16, .i32⟩
  | 106 => ⟨S1x64x1x16, .i1⟩
  | 107 => ⟨S_, .i32⟩
  | 108 => ⟨S1x64x1x16, .i32⟩
  | 109 => ⟨S1x64x1x16, .i32⟩
  | 110 => ⟨S1x64x1x16, .i32⟩
  | 111 => ⟨S256x64x8x16, .i32⟩
  | 112 => ⟨S256x64x8x16, .i32⟩
  | 113 => ⟨S256x64x8x16x1, .i32⟩
  | 114 => ⟨S256x64x8x16x1, .i32⟩
  | 115 => ⟨S256x64x8x16x2, .i32⟩
  | 116 => ⟨S2x16x256x64x8x16x64, .f32⟩
  | 117 => ⟨S256x1x8x1, .i32⟩
  | 118 => ⟨S1x64x1x16, .i32⟩
  | 119 => ⟨S_, .i32⟩
  | 120 => ⟨S256x1x8x1, .i32⟩
  | 121 => ⟨S256x1x8x1, .i1⟩
  | 122 => ⟨S_, .i32⟩
  | 123 => ⟨S256x1x8x1, .i32⟩
  | 124 => ⟨S256x1x8x1, .i32⟩
  | 125 => ⟨S256x1x8x1, .i32⟩
  | 126 => ⟨S_, .i32⟩
  | 127 => ⟨S1x64x1x16, .i32⟩
  | _ => ⟨S2x16640x3072, .bf16⟩

abbrev hbmTy0_1 (i : Nat) : BufTy := match i % 128 with
  | 0 => ⟨S1x64x1x16, .i1⟩
  | 1 => ⟨S_, .i32⟩
  | 2 => ⟨S1x64x1x16, .i32⟩
  | 3 => ⟨S1x64x1x16, .i32⟩
  | 4 => ⟨S1x64x1x16, .i32⟩
  | 5 => ⟨S256x64x8x16, .i32⟩
  | 6 => ⟨S256x64x8x16, .i32⟩
  | 7 => ⟨S256x64x8x16x1, .i32⟩
  | 8 => ⟨S256x64x8x16x1, .i32⟩
  | 9 => ⟨S256x64x8x16x2, .i32⟩
  | 10 => ⟨S16x256x64x8x16, .f32⟩
  | 11 => ⟨S2x16x256x64x8x16, .f32⟩
  | 12 => ⟨S1x16x256x64x8x16, .f32⟩
  | 13 => ⟨S2x16x256x64x8x16, .f32⟩
  | 14 => ⟨S2x16x256x64x8x16, .f32⟩
  | 15 => ⟨S2x16x256x64x256, .f32⟩
  | 16 => ⟨S2x16x256x64x128, .f32⟩
  | 17 => ⟨S2x16x256x64x384, .f32⟩
  | 18 => ⟨S_, .f32⟩
  | 19 => ⟨S2x16x256x64, .f32⟩
  | 20 => ⟨S_, .f32⟩
  | 21 => ⟨S2x16x256x64, .f32⟩
  | 22 => ⟨S2x16x256x64, .f32⟩
  | 23 => ⟨S2x16x256x64x1, .f32⟩
  | 24 => ⟨S2x16x256x64x384, .f32⟩
  | 25 => ⟨S2x16x256x64x384, .f32⟩
  | 26 => ⟨S2x16x256x64x384, .f32⟩
  | 27 => ⟨S_, .f32⟩
  | 28 => ⟨S2x16x256x64, .f32⟩
  | 29 => ⟨S2x16x256x64x1, .f32⟩
  | 30 => ⟨S2x16x256x64x384, .f32⟩
  | 31 => ⟨S2x16x256x64x384, .f32⟩
  | 32 => ⟨S2x16x256x64x128, .f32⟩
  | 33 => ⟨S2x16x256x64x8x16, .f32⟩
  | 34 => ⟨S2x16x256x64x256, .f32⟩
  | 35 => ⟨S2x16x256x64x64, .f32⟩
  | 36 => ⟨S2x16x256x64x64, .f32⟩
  | 37 => ⟨S2x16x256x64x64, .f32⟩
  | 38 => ⟨S2x256x64x16x64, .f32⟩
  | 39 => ⟨S2x16384x1024, .f32⟩
  | 40 => ⟨S2x16384x1024, .bf16⟩
  | _ => ⟨S2x16640x3072, .bf16⟩

abbrev hbmTy (i : Nat) : BufTy := match i / 128 with
  | 0 => hbmTy0_0 i
  | 1 => hbmTy0_1 i
  | _ => ⟨S2x16640x3072, .bf16⟩

abbrev bufTy : (tb : Table) → Fin (tcTables nBuf tb) → BufTy
  | .hbm, ⟨i, _⟩ => hbmTy i
  | _, _ => ⟨S2x16640x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_c : Ref sig .tc := ⟨.hbm, 27, rfl⟩
abbrev main_v24 : Ref sig .tc := ⟨.hbm, 28, rfl⟩
abbrev main_v25 : Ref sig .tc := ⟨.hbm, 29, rfl⟩
abbrev main_c_0 : Ref sig .tc := ⟨.hbm, 30, rfl⟩
abbrev main_c_1 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_2 : Ref sig .tc := ⟨.hbm, 44, rfl⟩
abbrev main_v33 : Ref sig .tc := ⟨.hbm, 45, rfl⟩
abbrev main_v34 : Ref sig .tc := ⟨.hbm, 46, rfl⟩
abbrev main_c_3 : Ref sig .tc := ⟨.hbm, 47, rfl⟩
abbrev main_c_4 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_6 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_7 : Ref sig .tc := ⟨.hbm, 75, rfl⟩
abbrev main_v54 : Ref sig .tc := ⟨.hbm, 76, rfl⟩
abbrev main_v55 : Ref sig .tc := ⟨.hbm, 77, rfl⟩
abbrev main_c_8 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_9 : Ref sig .tc := ⟨.hbm, 82, rfl⟩
abbrev main_v59 : Ref sig .tc := ⟨.hbm, 83, rfl⟩
abbrev main_v60 : Ref sig .tc := ⟨.hbm, 84, rfl⟩
abbrev main_c_10 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_11 : Ref sig .tc := ⟨.hbm, 97, rfl⟩
abbrev main_v72 : Ref sig .tc := ⟨.hbm, 98, rfl⟩
abbrev main_v73 : Ref sig .tc := ⟨.hbm, 99, rfl⟩
abbrev main_c_12 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_13 : Ref sig .tc := ⟨.hbm, 104, rfl⟩
abbrev main_v77 : Ref sig .tc := ⟨.hbm, 105, rfl⟩
abbrev main_v78 : Ref sig .tc := ⟨.hbm, 106, rfl⟩
abbrev main_c_14 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_c_15 : Ref sig .tc := ⟨.hbm, 119, rfl⟩
abbrev main_v90 : Ref sig .tc := ⟨.hbm, 120, rfl⟩
abbrev main_v91 : Ref sig .tc := ⟨.hbm, 121, rfl⟩
abbrev main_c_16 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_c_17 : Ref sig .tc := ⟨.hbm, 126, rfl⟩
abbrev main_v95 : Ref sig .tc := ⟨.hbm, 127, rfl⟩
abbrev main_v96 : Ref sig .tc := ⟨.hbm, 128, rfl⟩
abbrev main_c_18 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_cst_19 : Ref sig .tc := ⟨.hbm, 146, rfl⟩
abbrev main_v113 : Ref sig .tc := ⟨.hbm, 147, rfl⟩
abbrev main_cst_20 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_cst_21 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩

abbrev nD : Nat := 1
abbrev τ : Topo := Topo.v7x

variable {F : FTy → Type} [FloatOps F]
-- ==== Proof.QkvValue.lean ====
/- The value of the fused norm, modulation and projection call: its result array is the reference's. -/
module

public import proofs.«01_k».proof.Proof.Gen.QkvIdeal.Value
public import proofs.«01_k».proof.Proof.Gen.QkvRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.QkvIdeal.Value

open Cert.QkvIdeal Cert.QkvIdeal.Gen Cert.QkvRefIdeal.Read

variable (m : (ℓ : Loc nD τ sig) → Buf (Elt Ideal) ℓ)

theorem idx : ∀ t : Fin cfg0.N,
    win0_0.index t = ![t.val / 65, t.val % 65, 0]
    ∧ win0_1.index t = ![if t.val % 65 < 64 then t.val / 65 else 2, 0, 0]
    ∧ win0_2.index t = ![0, 0] ∧ win0_3.index t = ![0, 0]
    ∧ win0_4.index t = ![t.val / 65, t.val % 65, 0] :=
  (by decide +kernel : ∀ t : Fin grid0.N, _)

theorem point (c : Dev nD) (t : Fin cfg0.N) (y) :
    k0_pay1 (iblk m c 0 t) (iblk m c 2 t) (View.ld (iblk m c 1 t) r0_2) (View.ld (iblk m c 1 t) r0_3) (iblk m c 3 t) y
      = val_main_v55 (F := Ideal) (m ((c : Thread nD τ).loc main_arg0)) (m ((c : Thread nD τ).loc main_arg1))
          (m ((c : Thread nD τ).loc main_arg2)) (m ((c : Thread nD τ).loc main_arg3)) (((cfg0.win 4).blk t).view.emb y) := by
  pointwise [k0_pay1, val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_v16, val_main_v17, val_main_v18, val_main_v19, val_main_v20, val_main_cst_2, val_main_v21, val_main_v22, val_main_v23, val_main_v24, val_main_v25, val_main_v26, val_main_v27, val_main_cst_3, val_main_v28, val_main_v29, val_main_cst_4, val_main_v30, val_main_v31, val_main_cst_5, val_main_v32, val_main_v33, val_main_v34, val_main_v35, val_main_v36, val_main_v37, val_main_v38, val_main_v39, val_main_v40, val_main_v41, val_main_v42, val_main_v43, val_main_cst_6, val_main_v44, val_main_v45, val_main_v46, val_main_v47, val_main_v48, val_main_v49, val_main_v50, val_main_v51, val_main_v52, val_main_v53, val_main_v54, val_main_v55]
  have e1 : ((((View.whole main_v2).slice ((win0 4).rect t)).emb y 1 : Fin _) : ℕ) = t.val % 65 * 256 + (y 1).val := by
    blk_simp [idx t]
  have hy1 : (y 1).val < 256 := (y 1).isLt
  have hw : ∀ x, iblk m c 2 t (ix2 0 x) = m ((c : Thread nD τ).loc main_arg2) (ix1 x) := fun x => by
    show V m c main_v0 (((View.whole main_v0).slice (win0_2.rect t)).emb (ix2 0 x)) = _
    entry_read
    pointwise
    blk_ext [idx t]
  have im := (idx t).2.1
  simp only [hw]
  by_cases ht : t.val % 65 < 64
  · rw [if_pos ht] at im
    rw [dif_pos (by rw [e1]; omega)]
    blk_point [iblk, V, im, (idx t).1, (idx t).2.2]
  · rw [if_neg ht] at im
    rw [dif_neg (by rw [e1]; omega)]
    blk_point [iblk, V, im, (idx t).1, (idx t).2.2]

theorem final (c : Dev nD) : (dats m 0 c).arrAt 4 (cfgs 0).N
      = val_main_v55 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point m c t y

end Cert.QkvIdeal.Value

end
-- ==== Proof.MixValue.lean ====
/- The value of the call that finishes the two branches, projects them and adds the residual: its result array is the reference's. -/
module

public import proofs.«01_k».proof.Proof.Gen.MixIdeal.Value
public import proofs.«01_k».proof.Proof.Gen.MixRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixIdeal.Value

open Cert.MixIdeal Cert.MixIdeal.Gen Cert.MixRefIdeal.Read

variable (m : (ℓ : Loc nD τ sig) → Buf (Elt Ideal) ℓ)

/-- The gelu of a feature, in its tanh form. -/
def gel (x : EReal) : EReal :=
  x * (Ideal.ofBits FTy.f32 0x3F000000#32 * (Ideal.ofBits FTy.f32 0x3F800000#32 + Ideal.tanh (Ideal.ofBits FTy.f32 0x3F4C422A#32 * (x + Ideal.ofBits FTy.f32 0x3D372713#32 * (x * (x * x))))))

/-- The gated state space output of a token, from its pre-activations. -/
def glu (p : Fin 512 → EReal) (w : Fin 512 → Fin 512 → EReal) (j : Fin 512) : EReal :=
  gel (p j) * Ideal.logistic (∑ k, gel (p k) * w k j)

/-- One feature of a head normed over the head's 128 features. -/
def normed (h : Fin 128 → EReal) (l : Fin 128) : EReal :=
  h l * Ideal.rsqrt (Ideal.div (∑ k, h k * h k) (Ideal.ofBits FTy.f32 0x43000000#32) + Ideal.ofBits FTy.f32 0x358637BD#32)

/-- Feature `j` of a token, normed within its head. -/
def headed (o : Fin 512 → EReal) (j : Fin 512) : EReal :=
  normed (fun k => o ⟨j.val / 128 * 128 + k.val, by have := j.isLt; have := k.isLt; omega⟩) ⟨j.val % 128, by omega⟩

/-- The gated retention output of a token, from its two directions' sum and its gate. -/
def gated (o g : Fin 512 → EReal) (j : Fin 512) : EReal :=
  headed o j * (g j * Ideal.logistic (g j))

/-- A token's two branches through the output projection. -/
def mixed (a r : Fin 512 → EReal) (w : Fin 1024 → EReal) : EReal :=
  (∑ k : Fin 512, a k * w ⟨k.val, by have := k.isLt; omega⟩) + ∑ k : Fin 512, r k * w ⟨512 + k.val, by have := k.isLt; omega⟩

/-! ## The payloads -/

theorem pay1_apply (x0 : Vec Ideal S1x256x512 .bf16) (x3 : Vec Ideal S1x512 .f32) (x7 x11 : Vec Ideal S1x1x256x512 .bf16) (w : Vec Ideal S512x512 .bf16) (s : Fin 256) (j : Fin 512) :
    k0_pay1 x0 x3 x7 x11 w (ix2 s j) = glu (fun k => x0 (ix3 0 s k) * x3 (ix2 0 k) + x7 (ix4 0 0 s k) + x11 (ix4 0 0 s k)) (fun k j => w (ix2 k j)) j := by
  pointwise [k0_pay1, glu, gel]

theorem pay2_apply (x y : Vec Ideal S1x1x256x512 .bf16) (s : Fin 256) (j : Fin 512) : k0_pay2 x y (ix2 s j) = x (ix4 0 0 s j) + y (ix4 0 0 s j) := by
  pointwise [k0_pay2]

theorem pay3_apply (x y : Vec Ideal S1x1x256x512 .bf16) (s : Fin 256) (l : Fin 128) :
    k0_pay3 x y (ix2 s l) = normed (fun k => k0_pay2 x y (ix2 s ⟨0 + k.val, by have := k.isLt; omega⟩)) l := by
  unfold k0_pay3
  pointwise [normed]

theorem pay4_apply (x y : Vec Ideal S1x1x256x512 .bf16) (s : Fin 256) (l : Fin 128) :
    k0_pay4 x y (ix2 s l) = normed (fun k => k0_pay2 x y (ix2 s ⟨128 + k.val, by have := k.isLt; omega⟩)) l := by
  unfold k0_pay4
  pointwise [normed]

theorem pay5_apply (x y : Vec Ideal S1x1x256x512 .bf16) (s : Fin 256) (l : Fin 128) :
    k0_pay5 x y (ix2 s l) = normed (fun k => k0_pay2 x y (ix2 s ⟨256 + k.val, by have := k.isLt; omega⟩)) l := by
  unfold k0_pay5
  pointwise [normed]

theorem pay6_apply (x y : Vec Ideal S1x1x256x512 .bf16) (s : Fin 256) (l : Fin 128) :
    k0_pay6 x y (ix2 s l) = k0_pay2 x y (ix2 s ⟨384 + l.val, by have := l.isLt; omega⟩) := by
  unfold k0_pay6
  pointwise

theorem pay7_apply (x y : Vec Ideal S1x1x256x512 .bf16) (s : Fin 256) :
    k0_pay7 x y (ix2 s 0) = ∑ k : Fin 128, k0_pay6 x y (ix2 s k) * k0_pay6 x y (ix2 s k) := by
  unfold k0_pay7
  pointwise

/-- The four normed heads side by side. -/
theorem heads (p q r z : Vec Ideal S256x128 .f32) (h) (f : Fin 512 → EReal) (s : Fin 256) (j : Fin 512)
    (h0 : ∀ l : Fin 128, j.val = 0 + l.val → p (ix2 s l) = f j) (h1 : ∀ l : Fin 128, j.val = 128 + l.val → q (ix2 s l) = f j)
    (h2 : ∀ l : Fin 128, j.val = 256 + l.val → r (ix2 s l) = f j) (h3 : ∀ l : Fin 128, j.val = 384 + l.val → z (ix2 s l) = f j) :
    concatenate S256x512 1 [⟨S256x128, p⟩, ⟨S256x128, q⟩, ⟨S256x128, r⟩, ⟨S256x128, z⟩] h (ix2 s j) = f j := by
  have hj := j.isLt
  pointwise
  split_ifs
  all_goals first
    | exact h0 _ (by dsimp only; omega)
    | exact h1 _ (by dsimp only; omega)
    | exact h2 _ (by dsimp only; omega)
    | exact h3 _ (by dsimp only; omega)

theorem headed_of (o : Fin 512 → EReal) (j : Fin 512) (b : ℕ) (hb : b + 128 ≤ 512) (hd : b % 128 = 0) (l : Fin 128) (e : j.val = b + l.val) :
    normed (fun k => o ⟨b + k.val, by have := k.isLt; omega⟩) l = headed o j := by
  have hl : (⟨j.val % 128, by omega⟩ : Fin 128) = l := Fin.ext (by show j.val % 128 = l.val; have := l.isLt; omega)
  have hk : (fun k : Fin 128 => o ⟨b + k.val, by have := k.isLt; omega⟩) = fun k : Fin 128 => o ⟨j.val / 128 * 128 + k.val, by have := j.isLt; have := k.isLt; omega⟩ :=
    funext fun k => congrArg o (Fin.ext (by show b + k.val = j.val / 128 * 128 + k.val; have := l.isLt; omega))
  unfold headed
  rw [hl, hk]

theorem last_head (x y : Vec Ideal S1x1x256x512 .bf16) (s : Fin 256) (l : Fin 128) :
    (mulf (k0_pay6 x y) (broadcastTo S256x128 (rsqrt (addf (divf (k0_pay7 x y) (k0_pay8 (F := Ideal))) (broadcast S256x1 (Scalar.ofBits .f32 0x358637BD#32)))) broadcasts_S256x1_S256x128)
      : FVec Ideal S256x128 .f32) (ix2 s l) = normed (fun k => k0_pay2 x y (ix2 s ⟨384 + k.val, by have := k.isLt; omega⟩)) l := by
  pointwise [k0_pay8, pay7_apply, pay6_apply, normed]

theorem heads_cat (x y : Vec Ideal S1x1x256x512 .bf16) (h) :
    (concatenate S256x512 1 [⟨S256x128, k0_pay3 x y⟩, ⟨S256x128, k0_pay4 x y⟩, ⟨S256x128, k0_pay5 x y⟩,
      ⟨S256x128, (mulf (k0_pay6 x y) (broadcastTo S256x128 (rsqrt (addf (divf (k0_pay7 x y) (k0_pay8 (F := Ideal))) (broadcast S256x1 (Scalar.ofBits .f32 0x358637BD#32)))) broadcasts_S256x1_S256x128))⟩] h
      : FVec Ideal S256x512 .f32)
      = fun i => headed (fun j => x (ix4 0 0 (i 0) j) + y (ix4 0 0 (i 0) j)) (i 1) := by
  funext i
  obtain ⟨s, j, rfl⟩ : ∃ s j, i = ix2 s j := ⟨i 0, i 1, funext fun a => match a with | ⟨0, _⟩ => rfl | ⟨1, _⟩ => rfl⟩
  refine heads _ _ _ _ h (fun j => headed (fun j => x (ix4 0 0 s j) + y (ix4 0 0 s j)) j) s j (fun l e => ?_) (fun l e => ?_) (fun l e => ?_) (fun l e => ?_)
  · rw [pay3_apply]; simp only [pay2_apply]; exact headed_of (fun j => x (ix4 0 0 s j) + y (ix4 0 0 s j)) j 0 (by decide) (by decide) l e
  · rw [pay4_apply]; simp only [pay2_apply]; exact headed_of (fun j => x (ix4 0 0 s j) + y (ix4 0 0 s j)) j 128 (by decide) (by decide) l e
  · rw [pay5_apply]; simp only [pay2_apply]; exact headed_of (fun j => x (ix4 0 0 s j) + y (ix4 0 0 s j)) j 256 (by decide) (by decide) l e
  · rw [last_head]; simp only [pay2_apply]; exact headed_of (fun j => x (ix4 0 0 s j) + y (ix4 0 0 s j)) j 384 (by decide) (by decide) l e

theorem pay9_apply (k : BitVec 32) (a : FVec Ideal S256x512 .f32) (x y : Vec Ideal S1x1x256x512 .bf16) (g : Vec Ideal S1x256x512 .bf16) (w0 w1 : Vec Ideal S512x1024 .bf16)
    (c x0 : Vec Ideal S1x256x1024 .f32) (gate : Vec Ideal S1x1x1024 .f32) (s : Fin 256) (d : Fin 1024) :
    k0_pay9 k a (k0_pay3 x y) (k0_pay4 x y) (k0_pay5 x y) (k0_pay6 x y) (k0_pay7 x y) (k0_pay8 (F := Ideal)) g w0 w1 c x0 gate (ix3 0 s d)
      = (if Scalar.cmpi .sge k 64#32 = 1 then c (ix3 0 s d) else x0 (ix3 0 s d))
        + gate (ix3 0 0 d) * ((∑ j : Fin 512, a (ix2 s j) * w0 (ix2 j d))
          + ∑ j : Fin 512, gated (fun j => x (ix4 0 0 s j) + y (ix4 0 0 s j)) (fun j => g (ix3 0 s j)) j * w1 (ix2 j d)) := by
  unfold k0_pay9
  rw [heads_cat]
  by_cases hk : Scalar.cmpi .sge k 64#32 = 1
  · simp only [Scalar.select, if_pos hk]
    pointwise [gated]
  · simp only [Scalar.select, if_neg hk]
    pointwise [gated]

/-! ## The reference -/

theorem ref_glu (x2 : S2x16640x2560.Idx → EReal) (x3 : S2x2x16640x512.Idx → EReal) (x6 : S512.Idx → EReal) (x7 : S512x512.Idx → EReal) (b : Fin 2) (s : Fin 16640) (j : Fin 512) :
    val_main_v34 (F := Ideal) x2 x3 x6 x7 (ix3 b s j)
      = glu (fun k => x2 (ix3 b s ⟨k.val, by have := k.isLt; omega⟩) * x6 (ix1 k) + x3 (ix4 0 b s k) + x3 (ix4 1 b s k)) (fun k j => x7 (ix2 k j)) j := by
  pointwise [val_main_v0, val_main_v1, val_main_v3, val_main_v5, val_main_v6, val_main_v7, val_main_v8, val_main_v9, val_main_v10, val_main_v11, val_main_v12, val_main_v13, val_main_v14, val_main_v15, val_main_cst, val_main_v16, val_main_v17, val_main_v18, val_main_cst_0, val_main_v19, val_main_v20, val_main_v21, val_main_cst_1, val_main_v22, val_main_v23, val_main_cst_2, val_main_v24, val_main_v25, val_main_v26, val_main_v27, val_main_v28, val_main_v29, val_main_cst_3, val_main_v30, val_main_v31, val_main_cst_4, val_main_v32, val_main_v33, val_main_v34, glu, gel, Ideal.logistic]
  have cube : ∀ x : EReal, x * x * x = x * (x * x) := fun x => mul_comm _ _
  simp only [cube]

theorem ref_head (x4 : S2x2x16640x512.Idx → EReal) (b : Fin 2) (s : Fin 16640) (j : Fin 512) :
    val_main_v51 (F := Ideal) x4 (ix3 b s j) = headed (fun k => x4 (ix4 0 b s k) + x4 (ix4 1 b s k)) j := by
  pointwise [val_main_v2, val_main_v35, val_main_v36, val_main_v37, val_main_v38, val_main_v39, val_main_v40, val_main_v41, val_main_cst_5, val_main_v42, val_main_v43, val_main_cst_6, val_main_v44, val_main_v45, val_main_cst_7, val_main_v46, val_main_v47, val_main_v48, val_main_v49, val_main_v50, val_main_v51, headed, normed]
  have e : ∀ h, (⟨j.val / 128 * 128 + j.val % 128, h⟩ : Fin 512) = j := fun h => Fin.ext (by show j.val / 128 * 128 + j.val % 128 = j.val; omega)
  simp only [e]

theorem ref_gated (x2 : S2x16640x2560.Idx → EReal) (x4 : S2x2x16640x512.Idx → EReal) (b : Fin 2) (s : Fin 16640) (j : Fin 512) :
    val_main_v53 (F := Ideal) x2 x4 (ix3 b s j)
      = gated (fun k => x4 (ix4 0 b s k) + x4 (ix4 1 b s k)) (fun k => x2 (ix3 b s ⟨2048 + k.val, by have := k.isLt; omega⟩)) j := by
  pointwise [val_main_v0, val_main_v4, val_main_call0_v0, val_main_call0_v1, val_main_call0_cst, val_main_call0_v2, val_main_call0_v3, val_main_call0_cst_0, val_main_call0_v4, val_main_call0_v5, val_main_v52, val_main_v53, ref_head, gated, Ideal.logistic]

theorem ref_mixed (x2 : S2x16640x2560.Idx → EReal) (x3 x4 : S2x2x16640x512.Idx → EReal) (x6 : S512.Idx → EReal) (x7 : S512x512.Idx → EReal) (x8 : S1024x1024.Idx → EReal)
    (b : Fin 2) (s : Fin 16640) (d : Fin 1024) :
    val_main_v55 (F := Ideal) x2 x3 x4 x6 x7 x8 (ix3 b s d)
      = mixed (fun j => val_main_v34 (F := Ideal) x2 x3 x6 x7 (ix3 b s j)) (fun j => val_main_v53 (F := Ideal) x2 x4 (ix3 b s j)) (fun e => x8 (ix2 e d)) := by
  pointwise [val_main_v54, val_main_v55, mixed]

theorem ref_out (x0 : S2x16384x1024.Idx → EReal) (x1 : S2x256x1024.Idx → EReal) (x2 : S2x16640x2560.Idx → EReal) (x3 x4 : S2x2x16640x512.Idx → EReal) (x5 : S3x8x1024.Idx → EReal)
    (x6 : S512.Idx → EReal) (x7 : S512x512.Idx → EReal) (x8 : S1024x1024.Idx → EReal) (b : Fin 2) (s : Fin 16640) (d : Fin 1024) :
    val_main_v70 (F := Ideal) x0 x1 x2 x3 x4 x5 x6 x7 x8 (ix3 b s d)
      = if h : s.val < 16384 then x0 (ix3 b ⟨s.val, h⟩ d) + x5 (ix3 ⟨b.val, by have := b.isLt; omega⟩ 2 d) * val_main_v55 (F := Ideal) x2 x3 x4 x6 x7 x8 (ix3 b s d)
        else x1 (ix3 b ⟨s.val - 16384, by have := s.isLt; omega⟩ d) + x5 (ix3 2 2 d) * val_main_v55 (F := Ideal) x2 x3 x4 x6 x7 x8 (ix3 b s d) := by
  have hs := s.isLt
  have e : ∀ h : ¬ s.val < 16384, (⟨16384 + (s.val - 16384), by omega⟩ : Fin 16640) = s := fun h => Fin.ext (by show 16384 + (s.val - 16384) = s.val; omega)
  pointwise [val_main_v56, val_main_v57, val_main_v58, val_main_v59, val_main_v60, val_main_v61, val_main_v62, val_main_v63, val_main_v64, val_main_v65, val_main_v66, val_main_v67, val_main_v68, val_main_v69, val_main_v70]
  split_ifs with h
  · rfl
  all_goals simp only [e h]

/-! ## The points -/

theorem idx : ∀ t : Fin cfg0.N,
    win0_0.index t = ![t.val / 65, t.val % 65, 0] ∧ win0_1.index t = ![t.val / 65, t.val % 65, 4]
    ∧ win0_2.index t = ![0, t.val / 65, t.val % 65, 0] ∧ win0_3.index t = ![0, t.val / 65, t.val % 65, 0]
    ∧ win0_4.index t = ![t.val / 65, min (t.val % 65) 63, 0] ∧ win0_5.index t = ![t.val / 65, t.val % 65 - 64, 0]
    ∧ win0_7.index t = ![0, 0] ∧ win0_8.index t = ![0, 0] ∧ win0_9.index t = ![0, 0]
    ∧ win0_10.index t = ![t.val / 65, t.val % 65, 0]
    ∧ win0_6.index t = ![if t.val % 65 < 64 then t.val / 65 else 2, 0, 0]
    ∧ Scalar.cmpi .sge (BitVec.ofNat 32 (grid0.coords t 1).val) 64#32 = (if t.val % 65 < 64 then 0#1 else 1#1) :=
  (by decide +kernel : ∀ t : Fin grid0.N, _)

theorem point (c : Dev nD) (t : Fin cfg0.N) (y) :
    k0_pay9 (BitVec.ofNat 32 (grid0.coords t 1).val) (k0_pay1 (iblk m c 0 t) (iblk m c 7 t) (View.ld (iblk m c 2 t) r0_2) (View.ld (iblk m c 2 t) r0_3) (iblk m c 8 t)) (k0_pay3 (View.ld (iblk m c 3 t) r0_2) (View.ld (iblk m c 3 t) r0_3)) (k0_pay4 (View.ld (iblk m c 3 t) r0_2) (View.ld (iblk m c 3 t) r0_3)) (k0_pay5 (View.ld (iblk m c 3 t) r0_2) (View.ld (iblk m c 3 t) r0_3)) (k0_pay6 (View.ld (iblk m c 3 t) r0_2) (View.ld (iblk m c 3 t) r0_3)) (k0_pay7 (View.ld (iblk m c 3 t) r0_2) (View.ld (iblk m c 3 t) r0_3)) (k0_pay8 (F := Ideal)) (iblk m c 1 t) (View.ld (iblk m c 9 t) r0_5) (View.ld (iblk m c 9 t) r0_6) (iblk m c 5 t) (iblk m c 4 t) (View.ld (iblk m c 6 t) r0_8) y
      = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 10).blk t).view.emb y) := by
  have hN : t.val < 130 := t.isLt
  obtain ⟨z, s, d, rfl⟩ : ∃ (z : Fin 1) (s : Fin 256) (d : Fin 1024), y = ix3 z s d :=
    ⟨y 0, y 1, y 2, funext fun a => match a with | ⟨0, _⟩ => rfl | ⟨1, _⟩ => rfl | ⟨2, _⟩ => rfl⟩
  obtain rfl : z = 0 := Subsingleton.elim _ _
  have hs : s.val < 256 := s.isLt
  obtain ⟨b, hb⟩ : ∃ b : Fin 2, b.val = t.val / 65 := ⟨⟨t.val / 65, by omega⟩, rfl⟩
  obtain ⟨S, hS⟩ : ∃ S : Fin 16640, S.val = t.val % 65 * 256 + s.val := ⟨⟨t.val % 65 * 256 + s.val, by omega⟩, rfl⟩
  have he : ((cfg0.win 10).blk t).view.emb (ix3 0 s d) = ix3 b S d := by blk_ext [idx t]
  rw [he]
  have h0 : ∀ k : Fin 512, iblk m c 0 t (ix3 0 s k) = m ((c : Thread nD τ).loc main_arg2) (ix3 b S ⟨k.val, by have := k.isLt; omega⟩) := fun k => by
    blk_point [iblk, V, idx t]
  have h1 : ∀ k : Fin 512, iblk m c 1 t (ix3 0 s k) = m ((c : Thread nD τ).loc main_arg2) (ix3 b S ⟨2048 + k.val, by have := k.isLt; omega⟩) := fun k => by
    blk_point [iblk, V, idx t]
  have h2 : ∀ k : Fin 512, View.ld (iblk m c 2 t) r0_2 (ix4 0 0 s k) = m ((c : Thread nD τ).loc main_arg3) (ix4 0 b S k) := fun k => by
    blk_point [iblk, V, idx t]
  have h2' : ∀ k : Fin 512, View.ld (iblk m c 2 t) r0_3 (ix4 0 0 s k) = m ((c : Thread nD τ).loc main_arg3) (ix4 1 b S k) := fun k => by
    blk_point [iblk, V, idx t]
  have h3 : ∀ k : Fin 512, View.ld (iblk m c 3 t) r0_2 (ix4 0 0 s k) = m ((c : Thread nD τ).loc main_arg4) (ix4 0 b S k) := fun k => by
    blk_point [iblk, V, idx t]
  have h3' : ∀ k : Fin 512, View.ld (iblk m c 3 t) r0_3 (ix4 0 0 s k) = m ((c : Thread nD τ).loc main_arg4) (ix4 1 b S k) := fun k => by
    blk_point [iblk, V, idx t]
  have h7 : ∀ k : Fin 512, iblk m c 7 t (ix2 0 k) = m ((c : Thread nD τ).loc main_arg6) (ix1 k) := fun k => by
    show V m c main_v0 (((View.whole main_v0).slice (win0_7.rect t)).emb (ix2 0 k)) = _
    entry_read
    pointwise
    blk_ext [idx t]
  have h8 : ∀ k j : Fin 512, iblk m c 8 t (ix2 k j) = m ((c : Thread nD τ).loc main_arg7) (ix2 k j) := fun k j => by
    show V m c main_v1 (((View.whole main_v1).slice (win0_8.rect t)).emb (ix2 k j)) = _
    entry_read
    pointwise
    blk_ext [idx t]
  have h9 : ∀ k : Fin 512, View.ld (iblk m c 9 t) r0_5 (ix2 k d) = m ((c : Thread nD τ).loc main_arg8) (ix2 ⟨k.val, by have := k.isLt; omega⟩ d) := fun k => by
    blk_point [iblk, V, idx t]
  have h9' : ∀ k : Fin 512, View.ld (iblk m c 9 t) r0_6 (ix2 k d) = m ((c : Thread nD τ).loc main_arg8) (ix2 ⟨512 + k.val, by have := k.isLt; omega⟩ d) := fun k => by
    blk_point [iblk, V, idx t]
  have hg : View.ld (iblk m c 6 t) r0_8 (ix3 0 0 d) = if h : S.val < 16384 then m ((c : Thread nD τ).loc main_arg5) (ix3 ⟨b.val, by have := b.isLt; omega⟩ 2 d) else m ((c : Thread nD τ).loc main_arg5) (ix3 2 2 d) := by
    have im := (idx t).2.2.2.2.2.2.2.2.2.2.1
    by_cases ht : t.val % 65 < 64
    · rw [if_pos ht] at im
      rw [dif_pos (by omega)]
      blk_point [iblk, V, im]
    · rw [if_neg ht] at im
      rw [dif_neg (by omega)]
      blk_point [iblk, V, im]
  have hx : (if Scalar.cmpi .sge (BitVec.ofNat 32 (grid0.coords t 1).val) 64#32 = 1 then iblk m c 5 t (ix3 0 s d) else iblk m c 4 t (ix3 0 s d))
      = if h : S.val < 16384 then m ((c : Thread nD τ).loc main_arg0) (ix3 b ⟨S.val, h⟩ d)
        else m ((c : Thread nD τ).loc main_arg1) (ix3 b ⟨S.val - 16384, by have := S.isLt; omega⟩ d) := by
    have hc := (idx t).2.2.2.2.2.2.2.2.2.2.2
    by_cases ht : t.val % 65 < 64
    · rw [if_pos ht] at hc
      rw [dif_pos (by omega), hc, if_neg (by decide)]
      blk_point [iblk, V, idx t]
    · rw [if_neg ht] at hc
      rw [dif_neg (by omega), hc, if_pos (show (1#1 : BitVec 1) = 1 from rfl)]
      blk_point [iblk, V, idx t]
  rw [pay9_apply, ref_out, ref_mixed, hx, hg]
  simp only [ref_glu, ref_gated, pay1_apply, h0, h1, h2, h2', h3, h3', h7, h8, h9, h9', mixed]
  by_cases hl : S.val < 16384
  · simp only [dif_pos hl]
  · simp only [dif_neg hl]

theorem final (c : Dev nD) : (dats m 0 c).arrAt 10 (cfgs 0).N = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t _ y => ?_
  blk_simp
  rw [after0_10]
  frame_out
  exact point m c t y

end Cert.MixIdeal.Value

end
-- ==== Proof.AdaValue.lean ====
/- The value of the modulation rows' call: its result table is the reference's. -/
module

public import proofs.«01_k».proof.Proof.Gen.AdaIdeal.Frame
public import proofs.«01_k».proof.Proof.Gen.AdaRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AdaIdeal.Value

open Cert.AdaIdeal Cert.AdaIdeal.Gen Cert.AdaRefIdeal.Read

variable (m : (ℓ : Loc nD τ sig) → Buf (Elt Ideal) ℓ)

theorem zero_int : FloatOps.sitofp (F := Ideal) FTy.f32 (0#32 : BitVec 32) = (0 : EReal) := by
  show (((0#32 : BitVec 32).toInt : ℝ) : EReal) = 0
  simp

theorem idx : ∀ t : Fin cfg0.N,
    win0_0.index t = ![0, 0] ∧ win0_1.index t = ![t.val / 4, 0, t.val % 4] ∧ win0_2.index t = ![t.val / 4, 0, t.val % 4]
    ∧ win0_3.index t = ![t.val / 4, 0, t.val % 4] :=
  (by decide +kernel : ∀ t : Fin grid0.N, _)

/-- The conditioning vectors as the call reads them: the two latent ones, the context's, then zeros. -/
def cond (c : Dev nD) (r : Fin 8) (k : Fin 1024) : EReal :=
  if h : r.val < 2 then (m ((c : Thread nD τ).loc main_arg0)) (ix2 ⟨r.val, h⟩ k)
  else if r.val = 2 then (m ((c : Thread nD τ).loc main_arg1)) (ix1 k) else 0

/-- The table the call leaves. -/
def table (c : Dev nD) (i : S2x8x6144.Idx) : EReal :=
  (∑ k : Fin 1024, cond m c (i 1) k * Ideal.div 1 (1 + Ideal.exp (-cond m c (i 1) k)) * (m ((c : Thread nD τ).loc main_arg2)) (ix3 (i 0) k (i 2)))
    + (m ((c : Thread nD τ).loc main_arg3)) (ix2 (i 0) (i 2))

theorem cond_eq (c : Dev nD) (t : Fin cfg0.N) (r : Fin 8) (k : Fin 1024) : iblk m c 0 t (ix2 r k) = cond m c r k := by
  show V m c main_v2 (((View.whole main_v2).slice (win0_0.rect t)).emb (ix2 r k)) = _
  have hi : ((View.whole main_v2).slice (win0_0.rect t)).emb (ix2 r k) = ix2 r k := by
    blk_ext [idx t]
  rw [hi]
  simp only [V, V0, hostOps0, hostOps0_1, hostOps0_2, List.flatten_cons, List.flatten_nil, List.append_nil, List.cons_append, List.nil_append]
  after_results
  change pad S8x1024 ![0, 0] ![5, 0] ![0, 0] (concatenate S3x1024 0
      [⟨S2x1024, m ((c : Thread nD τ).loc main_arg0)⟩, ⟨S1x1024, broadcastInDim S1x1024 ![1] bcast_S1024_S1x1024_1 (m ((c : Thread nD τ).loc main_arg1))⟩]
      concatenates_S2x1024_S1x1024_S3x1024_d0) (sitofp (F := Ideal) FTy.f32 (constantI S_ 32 0#32)) pads_S3x1024_S8x1024_050_000 h_S_ (ix2 r k) = _
  pointwise [cond]
  have hr := r.isLt
  split_ifs
  all_goals first
    | rfl
    | exact zero_int
    | (exfalso; omega)

theorem point (c : Dev nD) (t : Fin cfg0.N) (y) :
    k0_pay1 (iblk m c 0 t) (iblk m c 1 t) (iblk m c 2 t) y = table m c (((cfg0.win 3).blk t).view.emb y) := by
  have ht : t.val < 8 := t.isLt
  have hb : ∀ j, iblk m c 2 t (ix3 0 0 j) = m ((c : Thread nD τ).loc main_arg3) (ix2 ⟨t.val / 4, by omega⟩ ⟨t.val % 4 * 1536 + j.val, by omega⟩) := fun j => by
    show V m c main_v3 (((View.whole main_v3).slice (win0_2.rect t)).emb (ix3 0 0 j)) = _
    have hi : ((View.whole main_v3).slice (win0_2.rect t)).emb (ix3 0 0 j) = ix3 ⟨t.val / 4, by omega⟩ 0 ⟨t.val % 4 * 1536 + j.val, by omega⟩ := by
      blk_ext [idx t]
    rw [hi]
    simp only [V, V0, hostOps0, hostOps0_1, hostOps0_2, List.flatten_cons, List.flatten_nil, List.append_nil, List.cons_append, List.nil_append]
    after_results
    change shapeCast S2x1x6144 (m ((c : Thread nD τ).loc main_arg3)) shapeCasts_S2x6144_S2x1x6144 _ = _
    refine shapeCast_apply _ _ _ (ix2 ⟨t.val / 4, by omega⟩ ⟨t.val % 4 * 1536 + j.val, by omega⟩) ?_
    rewrite [Shape.rowMajor_val_two, Shape.rowMajor_val_three]
    show (t.val / 4) * 6144 + (t.val % 4 * 1536 + j.val) = (t.val / 4 * 1 + 0) * 6144 + (t.val % 4 * 1536 + j.val)
    omega
  have hw : ∀ k j, iblk m c 1 t (ix3 0 k j) = m ((c : Thread nD τ).loc main_arg2) (ix3 ⟨t.val / 4, by omega⟩ k ⟨t.val % 4 * 1536 + j.val, by omega⟩) := fun k j => by
    have hi : ((View.whole main_arg2).slice (win0_1.rect t)).emb (ix3 0 k j) = ix3 ⟨t.val / 4, by omega⟩ k ⟨t.val % 4 * 1536 + j.val, by omega⟩ := by
      blk_ext [idx t]
    show V m c main_arg2 (((View.whole main_arg2).slice (win0_1.rect t)).emb (ix3 0 k j)) = _
    rw [hi, V_main_arg2]
  have h2 : (y 2).val < 1536 := (y 2).isLt
  have ho : ((cfg0.win 3).blk t).view.emb y = ix3 ⟨t.val / 4, by omega⟩ (y 1) ⟨t.val % 4 * 1536 + (y 2).val, by omega⟩ := by
    show ((View.whole main_v4).slice (win0_3.rect t)).emb y = _
    blk_ext [idx t]
  rw [ho]
  pointwise [k0_pay1, table]
  have hc : ∀ k, iblk m c 0 t (ix2 (y 1) k) = cond m c (y 1) k := fun k => cond_eq m c t (y 1) k
  have hb' := hb (y 2)
  have hw' : ∀ k, iblk m c 1 t (ix3 0 k (y 2)) = _ := fun k => hw k (y 2)
  rw [hb']
  simp only [hc, hw', Ideal.logistic]

theorem arr (c : Dev nD) : (dats m 0 c).arrAt 3 (cfgs 0).N = table m c := by
  refine (dats m 0 c).arrAt_eq_of_covers 3 _ (by decide +kernel) fun t _ y => ?_
  blk_simp
  rw [after0_3]
  frame_out
  exact point m c t y

theorem final (c : Dev nD) : Pipeline.afterTail₀ cfgs (dats m) 0 (V0 m) [hostOps1, hostOps1_1] c main_v7
    = val_main_v12 (F := Ideal) (m ((c : Thread nD τ).loc main_arg0)) (m ((c : Thread nD τ).loc main_arg1)) (m ((c : Thread nD τ).loc main_arg2)) (m ((c : Thread nD τ).loc main_arg3)) := by
  unfold Pipeline.afterTail₀
  simp only [hostOps1, hostOps1_1, List.flatten_cons, List.flatten_nil, List.append_nil, List.cons_append, List.nil_append]
  after_results
  have hw : Pipeline.withArrays (cfgs 0).spec c (V0 m c) (fun w => (dats m 0 c).arrAt w (cfgs 0).N) (Proc.tc.devRef main_v4) = table m c := by
    rw [← arr m c]
    exact Pipeline.withArrays_arr (cfgs 0).spec (by decide) c (V0 m c) (fun w => (dats m 0 c).arrAt w (cfgs 0).N) (3 : Fin cfg0.W)
  change pad S2x3x8x1024 ![0, 0, 0, 0] ![0, 0, 2, 0] ![0, 0, 0, 0] (shapeCast S2x3x6x1024 (extractStridedSlice S2x3x6144 ![0, 0, 0]
      (Pipeline.withArrays (cfgs 0).spec c (V0 m c) (fun w => (dats m 0 c).arrAt w (cfgs 0).N) (Proc.tc.devRef main_v4)) slices_S2x8x6144_S2x3x6144_0_0_0)
      shapeCasts_S2x3x6144_S2x3x6x1024) (sitofp (F := Ideal) FTy.f32 (constantI S_ 32 0#32)) pads_S2x3x6x1024_S2x3x8x1024_000_000_020_000 h_S_ = _
  rw [hw, ← val_main_v12_eq]
  funext i
  have h1 : (i 1).val < 3 := (i 1).isLt
  pointwise [table, cond]
  split_ifs
  all_goals first
    | rfl
    | (exfalso; omega)
    | exact congrArg (· + _) (Finset.sum_congr rfl fun _ _ => mul_comm _ _)

end Cert.AdaIdeal.Value

end
-- ==== Proof.NaTile.lean ====
/- One tile of two heads of the neighbourhood attention's body: its scores, weights and sums, at an index. -/
module

public import proofs.«01_k».proof.Proof.Gen.NaIdeal.Frame
public import Idealize.ShloMosaic.Lib.Pipeline.ValueKit
public import Idealize.ShloMosaic.Lib.Pipeline.ReadBack
public import Idealize.ShloMosaic.Lib.Pointwise

@[expose] public section

set_option maxRecDepth 65536

noncomputable section

open Idealize.ShloMosaic Idealize.ShloMosaic.TcCoe Idealize.SL.Sem
open Idealize.ShloMosaic.Pipeline (Dat)

namespace Cert.NaIdeal.Value

open Cert.NaIdeal Cert.NaIdeal.Gen

/-- The query row of the stacked pair of heads: rows 0–255 keep the lanes of the first head, rows 256–511 those of the second. -/
def qs (q : Vec Ideal S1x256x128 .bf16) (r : Fin 512) (x : Fin 128) : EReal :=
  if (x.val < 64) = (r.val < 256) then q (ix3 0 ⟨r.val % 256, Nat.mod_lt _ (by decide)⟩ x) * Ideal.ofBits FTy.f32 1040187392#32 else 0

/-- The scores of one tile: its stacked queries against the 256 context keys and the 768 band keys, the band's with the bias added. -/
def scoreT (q : Vec Ideal S1x256x128 .bf16) (kc : Vec Ideal S1x256x128 .bf16) (kb : Vec Ideal S1x768x128 .bf16)
    (b0 b1 : Vec Ideal S1x1x256x768 .f32) (r : Fin 512) (k : Fin 1024) : EReal :=
  if h : k.val < 256 then ∑ x : Fin 128, qs q r x * kc (ix3 0 ⟨k.val, h⟩ x)
  else (∑ x : Fin 128, qs q r x * kb (ix3 0 ⟨k.val - 256, by omega⟩ x))
    + (if h' : r.val < 256 then b0 (ix4 0 0 ⟨r.val, h'⟩ ⟨k.val - 256, by omega⟩) else b1 (ix4 0 0 ⟨r.val - 256, by omega⟩ ⟨k.val - 256, by omega⟩))

/-- A row's greatest score. -/
def topT (S : Fin 512 → Fin 1024 → EReal) (r : Fin 512) : EReal :=
  Finset.fold max (Ideal.ofBits FTy.f32 4286578688#32) (fun k : Fin 1024 => S r k) Finset.univ

/-- A row's weights before the division. -/
def wtT (S : Fin 512 → Fin 1024 → EReal) (r : Fin 512) (k : Fin 1024) : EReal := Ideal.exp (S r k - topT S r)

/-- One over a row's sum of weights. -/
def invT (S : Fin 512 → Fin 1024 → EReal) (r : Fin 512) : EReal := Ideal.div 1 (∑ k : Fin 1024, wtT S r k)

theorem lanes_lt (x : Fin 128) :
    IntOp.andi (IntOp.cmpi CmpIPredicate.sge (BitVec.ofNat 32 x.val) 0#32) (IntOp.cmpi CmpIPredicate.slt (BitVec.ofNat 32 x.val) 64#32)
      = if x.val < 64 then 1#1 else 0#1 := by
  revert x; decide

theorem lanes_ge (x : Fin 128) :
    IntOp.andi (IntOp.cmpi CmpIPredicate.sge (BitVec.ofNat 32 x.val) 64#32) (IntOp.cmpi CmpIPredicate.slt (BitVec.ofNat 32 x.val) 128#32)
      = if x.val < 64 then 0#1 else 1#1 := by
  revert x; decide

theorem lanes_64 (x : Fin 128) : IntOp.cmpi CmpIPredicate.sge (BitVec.ofNat 32 x.val) 64#32 = if x.val < 64 then 0#1 else 1#1 := by
  revert x; decide

theorem pay5_apply (q : Vec Ideal S1x256x128 .bf16) (r : Fin 512) (x : Fin 128) : k0_pay5 q (ix2 r x) = qs q r x := by
  pointwise [k0_pay5, lanes_lt, lanes_ge]
  unfold qs
  by_cases hr : r.val < 256 <;> by_cases hx : x.val < 64 <;> simp [hr, hx, Scalar.select] <;> congr 2 <;> exact congrArg (fun z => ix3 0 z x) (Fin.ext (by simp only []; omega))

theorem pay13_apply (x : Vec Ideal S1x16x1024 .f32) (i : Fin 16) (k : Fin 1024) :
    k0_pay13 x (ix3 0 i k) = Ideal.exp (x (ix3 0 i k) - Finset.fold max (Ideal.ofBits FTy.f32 4286578688#32) (fun k' : Fin 1024 => x (ix3 0 i k')) Finset.univ) := by
  pointwise [k0_pay13, k0_pay11]

theorem pay12_apply (x : Vec Ideal S1x16x1024 .f32) (i : Fin 16) :
    k0_pay12 x (ix2 i 0) = Ideal.div 1 (∑ k : Fin 1024, Ideal.exp (x (ix3 0 i k) - Finset.fold max (Ideal.ofBits FTy.f32 4286578688#32) (fun k' : Fin 1024 => x (ix3 0 i k')) Finset.univ)) := by
  pointwise [k0_pay12, k0_pay11]

theorem pay7_apply (q : Vec Ideal S1x256x128 .bf16) (kc : Vec Ideal S1x256x128 .bf16) (r : Fin 512) (k : Fin 256) :
    k0_pay7 (k0_pay6 q kc) (ix3 0 r k) = ∑ x : Fin 128, qs q r x * kc (ix3 0 k x) := by
  have h := pay5_apply q
  generalize hg : k0_pay5 q = u at h
  pointwise [k0_pay7, k0_pay6]
  rw [hg]
  exact Finset.sum_congr rfl fun x _ => by rw [h]

theorem pay9_apply (q : Vec Ideal S1x256x128 .bf16) (kb : Vec Ideal S1x768x128 .bf16) (b : Vec Ideal S1x1x256x768 .f32) (r : Fin 256) (k : Fin 768) :
    k0_pay9 (k0_pay2 kb) (k0_pay5 q) b (ix3 0 r k) = (∑ x : Fin 128, qs q ⟨r.val, by omega⟩ x * kb (ix3 0 k x)) + b (ix4 0 0 r k) := by
  have h := pay5_apply q
  generalize hg : k0_pay5 q = u at h
  pointwise [k0_pay9, k0_pay8, k0_pay2]
  simp only [h]

theorem pay10_apply (q : Vec Ideal S1x256x128 .bf16) (kb : Vec Ideal S1x768x128 .bf16) (b : Vec Ideal S1x1x256x768 .f32) (r : Fin 256) (k : Fin 768) :
    k0_pay10 (k0_pay2 kb) (k0_pay5 q) b (ix3 0 r k) = (∑ x : Fin 128, qs q ⟨256 + r.val, by omega⟩ x * kb (ix3 0 k x)) + b (ix4 0 0 r k) := by
  have h := pay5_apply q
  generalize hg : k0_pay5 q = u at h
  pointwise [k0_pay10, k0_pay8, k0_pay2]
  simp only [h]

/-! ## The scores' scratch -/

theorem inb_a (s : Fin 2) (o : ℕ) (ho : o + 256 ≤ 512) : ∀ a, (![s.val, o, 256] : Fin 3 → ℕ) a + S1x256x768.size a ≤ S2x512x1024.size a := by
  intro a; have := s.isLt; fin_cases a <;> simp [S1x256x768, S2x512x1024] <;> omega
theorem inb_b (s : Fin 2) : ∀ a, (![s.val, 0, 0] : Fin 3 → ℕ) a + S1x512x256.size a ≤ S2x512x1024.size a := by
  intro a; have := s.isLt; fin_cases a <;> simp [S1x512x256, S2x512x1024] <;> omega
theorem inb_d (s : Fin 2) : ∀ a, (![s.val, 0, 256] : Fin 3 → ℕ) a + S1x512x768.size a ≤ S2x512x1024.size a := by
  intro a; have := s.isLt; fin_cases a <;> simp [S1x512x768, S2x512x1024] <;> omega
theorem inb_c (s : Fin 2) (c : Fin 32) : ∀ a, (![s.val, 16 * c.val, 0] : Fin 3 → ℕ) a + S1x16x1024.size a ≤ S2x512x1024.size a := by
  intro a; have := s.isLt; have := c.isLt; fin_cases a <;> simp [S1x16x1024, S2x512x1024] <;> omega

/-- The three stores of one tile's scores, last first. -/
def scores (s : Fin 2) (q : Vec Ideal S1x256x128 .bf16) (kc : Vec Ideal S1x256x128 .bf16) (kb : Vec Ideal S1x768x128 .bf16)
    (b0 b1 : Vec Ideal S1x1x256x768 .f32) : List (View.Piece (Elt Ideal) S2x512x1024 .f32) :=
  [⟨Rect.unit ![s.val, 256, 256] S1x256x768.size (inb_a s 256 (by decide)), k0_pay10 (k0_pay2 kb) (k0_pay5 q) b1⟩,
   ⟨Rect.unit ![s.val, 0, 256] S1x256x768.size (inb_a s 0 (by decide)), k0_pay9 (k0_pay2 kb) (k0_pay5 q) b0⟩,
   ⟨Rect.unit ![s.val, 0, 0] S1x512x256.size (inb_b s), k0_pay7 (k0_pay6 q kc)⟩]

theorem scores_apply (s : Fin 2) (q : Vec Ideal S1x256x128 .bf16) (kc : Vec Ideal S1x256x128 .bf16) (kb : Vec Ideal S1x768x128 .bf16)
    (b0 b1 : Vec Ideal S1x1x256x768 .f32) (L : List (View.Piece (Elt Ideal) S2x512x1024 .f32)) (r : Fin 512) (k : Fin 1024) :
    View.canon (scores s q kc kb b0 b1 ++ L) (ix3 s r k) = scoreT q kc kb b0 b1 r k := by
  refine (View.canon_append_of_piecesOf (fun y => scoreT q kc kb b0 b1 (y 1) (y 2)) L (scores s q kc kb b0 b1) ⟨?_, ?_, ?_, trivial⟩ (ix3 s r k) ?_).trans rfl
  · intro x
    obtain ⟨a, i, k, rfl⟩ : ∃ (a : Fin 1) (i : Fin 256) (k : Fin 768), x = ix3 a i k := ⟨_, _, _, eq_ix3 x⟩
    obtain rfl : a = 0 := Subsingleton.elim _ _
    refine (pay10_apply q kb b1 i k).trans ?_
    show _ = scoreT q kc kb b0 b1 ⟨256 + 1 * i.val, by omega⟩ ⟨256 + 1 * k.val, by omega⟩
    unfold scoreT
    rw [dif_neg (by simp), dif_neg (by simp)]
    simp [Nat.add_sub_cancel_left]
  · intro x
    obtain ⟨a, i, k, rfl⟩ : ∃ (a : Fin 1) (i : Fin 256) (k : Fin 768), x = ix3 a i k := ⟨_, _, _, eq_ix3 x⟩
    obtain rfl : a = 0 := Subsingleton.elim _ _
    refine (pay9_apply q kb b0 i k).trans ?_
    show _ = scoreT q kc kb b0 b1 ⟨0 + 1 * i.val, by omega⟩ ⟨256 + 1 * k.val, by omega⟩
    unfold scoreT
    rw [dif_neg (by simp), dif_pos (by simp)]
    simp [Nat.add_sub_cancel_left]
  · intro x
    obtain ⟨a, r, k, rfl⟩ : ∃ (a : Fin 1) (r : Fin 512) (k : Fin 256), x = ix3 a r k := ⟨_, _, _, eq_ix3 x⟩
    obtain rfl : a = 0 := Subsingleton.elim _ _
    refine (pay7_apply q kc r k).trans ?_
    show _ = scoreT q kc kb b0 b1 ⟨0 + 1 * r.val, by omega⟩ ⟨0 + 1 * k.val, by omega⟩
    unfold scoreT
    rw [dif_pos (by simp)]
    simp
  · by_cases hk : k.val < 256
    · refine ⟨_, List.mem_cons_of_mem _ (List.mem_cons_of_mem _ List.mem_cons_self), ?_⟩
      rw [Rect.mem_set_unit]
      have := r.isLt
      intro a; fin_cases a <;> simp [S1x512x256, ix3] <;> omega
    · by_cases hr : r.val < 256
      · refine ⟨_, List.mem_cons_of_mem _ List.mem_cons_self, ?_⟩
        rw [Rect.mem_set_unit]
        have := k.isLt
        intro a; fin_cases a <;> simp [S1x256x768, ix3] <;> omega
      · refine ⟨_, List.mem_cons_self, ?_⟩
        rw [Rect.mem_set_unit]
        have := k.isLt; have := r.isLt
        intro a; fin_cases a <;> simp [S1x256x768, ix3] <;> omega

/-! ## The weights' scratch -/

/-- Sixteen rows of a slot. -/
abbrev chunkR (s : Fin 2) (c : Fin 32) : Rect S2x512x1024 := Rect.unit ![s.val, 16 * c.val, 0] S1x16x1024.size (inb_c s c)

/-- The thirty-two stores of one tile's weights, last first. -/
def probs (s : Fin 2) (v9 : View sig .tc .vmem S2x512x1024 .f32) (L0 : List (View.Piece (Elt Ideal) S2x512x1024 .f32)) :
    List (View.Piece (Elt Ideal) S2x512x1024 .bf16) :=
  [(31 : Fin 32), 30, 29, 28, 27, 26, 25, 24, 23, 22, 21, 20, 19, 18, 17, 16, 15, 14, 13, 12, 11, 10, 9, 8, 7, 6, 5, 4, 3, 2, 1, 0].map fun c =>
    ⟨chunkR s c, k0_pay13 (v9.readCov L0 (chunkR s c).toLoadRect)⟩

theorem chunk_read (s : Fin 2) (v9 : View sig .tc .vmem S2x512x1024 .f32) (L0 : List (View.Piece (Elt Ideal) S2x512x1024 .f32))
    (S : Fin 512 → Fin 1024 → EReal) (h0 : ∀ r k, View.canon L0 (ix3 s r k) = S r k) (c : Fin 32) (i : Fin 16) (k : Fin 1024) :
    (v9.readCov L0 (chunkR s c).toLoadRect : Vec Ideal S1x16x1024 .f32) (ix3 0 i k) = S ⟨16 * c.val + i.val, by omega⟩ k := by
  rw [View.readCov_eq_canon', ← h0]
  show View.canon L0 _ = _
  congr 1
  funext a; fin_cases a <;> exact Fin.ext (by simp [LoadRect.idx, ix3])

theorem probs_apply (s : Fin 2) (v9 : View sig .tc .vmem S2x512x1024 .f32) (L0 : List (View.Piece (Elt Ideal) S2x512x1024 .f32))
    (L : List (View.Piece (Elt Ideal) S2x512x1024 .bf16))
    (S : Fin 512 → Fin 1024 → EReal) (h0 : ∀ r k, View.canon L0 (ix3 s r k) = S r k) (r : Fin 512) (k : Fin 1024) :
    View.canon (probs s v9 L0 ++ L) (ix3 s r k) = wtT S r k := by
  refine (View.canon_append_of_pieces (fun y => wtT S (y 1) (y 2)) L (probs s v9 L0) ?_ (ix3 s r k) ?_).trans rfl
  · intro p hp x
    obtain ⟨c, -, rfl⟩ := List.mem_map.mp hp
    obtain ⟨a, i, k, rfl⟩ : ∃ (a : Fin 1) (i : Fin 16) (k : Fin 1024), x = ix3 a i k := ⟨_, _, _, eq_ix3 x⟩
    obtain rfl : a = 0 := Subsingleton.elim _ _
    refine (pay13_apply _ i k).trans ?_
    show _ = wtT S ⟨16 * c.val + 1 * i.val, by omega⟩ ⟨0 + 1 * k.val, by omega⟩
    simp only [chunk_read s v9 L0 S h0, wtT, topT, Nat.one_mul, Nat.zero_add]
  · refine ⟨_, List.mem_map.mpr ⟨⟨r.val / 16, by omega⟩, ?_, rfl⟩, ?_⟩
    · generalize (⟨r.val / 16, _⟩ : Fin 32) = c
      revert c; decide
    · rw [Rect.mem_set_unit]
      have := k.isLt; have := r.isLt
      intro a; fin_cases a <;> simp [S1x16x1024, ix3] <;> omega

/-! ## The tile's result -/

/-- The reciprocals of sixteen rows. -/
abbrev inv16 (s : Fin 2) (v9 : View sig .tc .vmem S2x512x1024 .f32) (L0 : List (View.Piece (Elt Ideal) S2x512x1024 .f32)) (c : Fin 32) :
    FVec Ideal S16x1 .f32 := k0_pay12 (v9.readCov L0 (chunkR s c).toLoadRect)

/-- The reciprocals of the 512 rows, one column. -/
abbrev col (u : Fin 32 → FVec Ideal S16x1 .f32) : FVec Ideal S512x1 .f32 :=
  concatenate S512x1 0 [⟨S16x1, u 0⟩, ⟨S16x1, u 1⟩, ⟨S16x1, u 2⟩, ⟨S16x1, u 3⟩, ⟨S16x1, u 4⟩, ⟨S16x1, u 5⟩, ⟨S16x1, u 6⟩, ⟨S16x1, u 7⟩, ⟨S16x1, u 8⟩, ⟨S16x1, u 9⟩, ⟨S16x1, u 10⟩, ⟨S16x1, u 11⟩, ⟨S16x1, u 12⟩, ⟨S16x1, u 13⟩, ⟨S16x1, u 14⟩, ⟨S16x1, u 15⟩, ⟨S16x1, u 16⟩, ⟨S16x1, u 17⟩, ⟨S16x1, u 18⟩, ⟨S16x1, u 19⟩, ⟨S16x1, u 20⟩, ⟨S16x1, u 21⟩, ⟨S16x1, u 22⟩, ⟨S16x1, u 23⟩, ⟨S16x1, u 24⟩, ⟨S16x1, u 25⟩, ⟨S16x1, u 26⟩, ⟨S16x1, u 27⟩, ⟨S16x1, u 28⟩, ⟨S16x1, u 29⟩, ⟨S16x1, u 30⟩, ⟨S16x1, u 31⟩] concatenates_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S512x1_d0

theorem col_apply (u : Fin 32 → FVec Ideal S16x1 .f32) (I : Fin 512 → EReal) (hu : ∀ c i, u c (ix2 i 0) = I ⟨16 * c.val + i.val, by omega⟩) (r : Fin 512) :
    col u (ix2 r 0) = I r := by
  refine (concatenate_ofFn_apply (0 : Fin S512x1.rank) u (s₁ := S16x1) (t := S512x1) concatenates_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S512x1_d0 rfl 16 rfl (ix2 r 0) ⟨r.val / 16, by omega⟩ rfl
    (ix2 ⟨r.val % 16, Nat.mod_lt _ (by decide)⟩ 0) rfl ?_).trans ?_
  · intro b hb
    fin_cases b
    · exact absurd rfl hb
    · rfl
  · rw [hu]
    exact congrArg I (Fin.ext (by simp only []; omega))

/-- The two products of a tile added, each row scaled, and each lane taken from its head's row. -/
def lastT (v9 : FVec Ideal S768x128 .bf16) (v13 : FVec Ideal S256x128 .bf16) (C : FVec Ideal S512x1 .f32)
    (pc : Vec Ideal S1x512x256 .bf16) (pl : Vec Ideal S1x512x768 .bf16) : FVec Ideal S1x256x128 .bf16 :=
  let o : FVec Ideal S512x128 .f32 :=
    mulf (addf (matmul dot_S512x256_S256x128_S512x128_1_0_0_1_n_n none (shapeCast S512x256 pc shapeCasts_S1x512x256_S512x256 : FVec Ideal S512x256 .bf16) v13 (constant S512x128 .f32 0x00000000#32))
      (matmul dot_S512x768_S768x128_S512x128_1_0_0_1_n_n none (shapeCast S512x768 pl shapeCasts_S1x512x768_S512x768 : FVec Ideal S512x768 .bf16) v9 (constant S512x128 .f32 0x00000000#32)))
      (broadcastTo S512x128 C broadcasts_S512x1_S512x128)
  shapeCast S1x256x128 (truncf .bf16 (select (cmpi .sge kernelRun0_A.sl.v0 (broadcast S256x128 64#32))
    (extractStridedSlice S256x128 ![256, 0] o slices_S512x128_o256_0_S256x128)
    (extractStridedSlice S256x128 ![0, 0] o slices_S512x128_o0_0_S256x128)) bitsLt_bf16_f32) shapeCasts_S256x128_S1x256x128

theorem lastT_apply (v : Vec Ideal S1x768x128 .bf16) (vc : Vec Ideal S1x256x128 .bf16) (C : FVec Ideal S512x1 .f32)
    (pc : Vec Ideal S1x512x256 .bf16) (pl : Vec Ideal S1x512x768 .bf16) (r : Fin 256) (l : Fin 128) :
    lastT (k0_pay3 v) (k0_pay4 vc) C pc pl (ix3 0 r l)
      = ((∑ k : Fin 256, pc (ix3 0 ⟨if l.val < 64 then r.val else r.val + 256, by split_ifs <;> omega⟩ k) * vc (ix3 0 k l))
          + ∑ k : Fin 768, pl (ix3 0 ⟨if l.val < 64 then r.val else r.val + 256, by split_ifs <;> omega⟩ k) * v (ix3 0 k l))
        * C (ix2 ⟨if l.val < 64 then r.val else r.val + 256, by split_ifs <;> omega⟩ 0) := by
  pointwise [lastT, k0_pay3, k0_pay4, kernelRun0_A.sl.v0]
  rw [lanes_64]
  by_cases hl : l.val < 64
  · simp only [hl, Scalar.select, if_true]
    rfl
  · simp only [hl, Scalar.select, if_false]
    simp only [Nat.add_comm 256]
    rfl

set_option maxHeartbeats 1000000 in
theorem pay118_eq (v9 : FVec Ideal S768x128 .bf16) (v13 : FVec Ideal S256x128 .bf16) (u : Fin 32 → FVec Ideal S16x1 .f32)
    (pc : Vec Ideal S1x512x256 .bf16) (pl : Vec Ideal S1x512x768 .bf16) :
    k0_pay118 kernelRun0_A.sl.v0 v9 v13 (u 0) (u 1) (u 2) (u 3) (u 4) (u 5) (u 6) (u 7) (u 8) (u 9) (u 10) (u 11) (u 12) (u 13) (u 14) (u 15) (u 16) (u 17) (u 18) (u 19) (u 20) (u 21) (u 22) (u 23) (u 24) (u 25) (u 26) (u 27) (u 28) (u 29) (u 30) (u 31) pc pl = lastT v9 v13 (col u) pc pl := rfl

/-- A tile's stored block: its last payload at the reciprocals and the weights read back from the two scratches. -/
def outT (s : Fin 2) (v9 : View sig .tc .vmem S2x512x1024 .f32) (v10 : View sig .tc .vmem S2x512x1024 .bf16)
    (L0 : List (View.Piece (Elt Ideal) S2x512x1024 .f32)) (L1 : List (View.Piece (Elt Ideal) S2x512x1024 .bf16))
    (v : Vec Ideal S1x768x128 .bf16) (vc : Vec Ideal S1x256x128 .bf16) : FVec Ideal S1x256x128 .bf16 :=
  k0_pay118 kernelRun0_A.sl.v0 (k0_pay3 v) (k0_pay4 vc) (inv16 s v9 L0 0) (inv16 s v9 L0 1) (inv16 s v9 L0 2) (inv16 s v9 L0 3) (inv16 s v9 L0 4) (inv16 s v9 L0 5) (inv16 s v9 L0 6) (inv16 s v9 L0 7) (inv16 s v9 L0 8) (inv16 s v9 L0 9) (inv16 s v9 L0 10) (inv16 s v9 L0 11) (inv16 s v9 L0 12) (inv16 s v9 L0 13) (inv16 s v9 L0 14) (inv16 s v9 L0 15) (inv16 s v9 L0 16) (inv16 s v9 L0 17) (inv16 s v9 L0 18) (inv16 s v9 L0 19) (inv16 s v9 L0 20) (inv16 s v9 L0 21) (inv16 s v9 L0 22) (inv16 s v9 L0 23) (inv16 s v9 L0 24) (inv16 s v9 L0 25) (inv16 s v9 L0 26) (inv16 s v9 L0 27) (inv16 s v9 L0 28) (inv16 s v9 L0 29) (inv16 s v9 L0 30) (inv16 s v9 L0 31)
    (v10.readCov (probs s v9 L0 ++ L1) (Rect.unit (s := S2x512x1024) ![s.val, 0, 0] S1x512x256.size (inb_b s)).toLoadRect)
    (v10.readCov (probs s v9 L0 ++ L1) (Rect.unit (s := S2x512x1024) ![s.val, 0, 256] S1x512x768.size (inb_d s)).toLoadRect)

/-- The stacked row of a query row and a lane. -/
def rowOf (r : Fin 256) (l : Fin 128) : Fin 512 := ⟨if l.val < 64 then r.val else r.val + 256, by split_ifs <;> omega⟩

theorem outT_apply (s : Fin 2) (v9 : View sig .tc .vmem S2x512x1024 .f32) (v10 : View sig .tc .vmem S2x512x1024 .bf16)
    (L0 : List (View.Piece (Elt Ideal) S2x512x1024 .f32)) (L1 : List (View.Piece (Elt Ideal) S2x512x1024 .bf16))
    (v : Vec Ideal S1x768x128 .bf16) (vc : Vec Ideal S1x256x128 .bf16)
    (S : Fin 512 → Fin 1024 → EReal) (h0 : ∀ r k, View.canon L0 (ix3 s r k) = S r k) (r : Fin 256) (l : Fin 128) :
    outT s v9 v10 L0 L1 v vc (ix3 0 r l)
      = ((∑ k : Fin 256, wtT S (rowOf r l) ⟨k.val, by omega⟩ * vc (ix3 0 k l))
          + ∑ k : Fin 768, wtT S (rowOf r l) ⟨k.val + 256, by omega⟩ * v (ix3 0 k l)) * invT S (rowOf r l) := by
  unfold outT
  rw [pay118_eq (k0_pay3 v) (k0_pay4 vc) (inv16 s v9 L0), lastT_apply]
  have hi : ∀ c i, inv16 s v9 L0 c (ix2 i 0) = invT S ⟨16 * c.val + i.val, by omega⟩ := fun c i => by
    refine (pay12_apply _ i).trans ?_
    simp only [chunk_read s v9 L0 S h0, invT, wtT, topT]
  rw [col_apply _ (invT S) hi]
  have hp := probs_apply s v9 L0 L1 S h0
  generalize probs s v9 L0 ++ L1 = M at hp
  have hb : ∀ (R : Fin 512) (k : Fin 256), (v10.readCov M (Rect.unit (s := S2x512x1024) ![s.val, 0, 0] S1x512x256.size (inb_b s)).toLoadRect : Vec Ideal S1x512x256 .bf16) (ix3 0 R k)
      = wtT S R ⟨k.val, by omega⟩ := fun R k => by
    rw [View.readCov_eq_canon', ← hp]
    show View.canon M _ = _
    congr 1
    funext a; fin_cases a <;> exact Fin.ext (by simp [LoadRect.idx, ix3])
  have hd : ∀ (R : Fin 512) (k : Fin 768), (v10.readCov M (Rect.unit (s := S2x512x1024) ![s.val, 0, 256] S1x512x768.size (inb_d s)).toLoadRect : Vec Ideal S1x512x768 .bf16) (ix3 0 R k)
      = wtT S R ⟨k.val + 256, by omega⟩ := fun R k => by
    rw [View.readCov_eq_canon', ← hp]
    show View.canon M _ = _
    congr 1
    funext a; fin_cases a <;> exact Fin.ext (by simp [LoadRect.idx, ix3, Nat.add_comm])
  simp only [hb, hd]
  rfl

end Cert.NaIdeal.Value

end
-- ==== Proof.NaOut.lean ====
/- The neighbourhood attention's grid point: the block it stores, tile by tile, as a function of its six input blocks. -/
module

public import proofs.«01_k».proof.Proof.NaTile

@[expose] public section

set_option maxRecDepth 65536

noncomputable section

open Idealize.ShloMosaic Idealize.ShloMosaic.TcCoe Idealize.SL.Sem
open Idealize.ShloMosaic.Pipeline (Dat)

namespace Cert.NaIdeal.Value

open Cert.NaIdeal Cert.NaIdeal.Gen

variable (c : Dev nD) (i : grid0.Coords) (arg2 : Memref sig .tc .vmem S1x256x1024 .bf16) (harg2 : arg2.IsWhole) (arg3 : Memref sig .tc .vmem S1x768x1024 .bf16) (harg3 : arg3.IsWhole) (arg4 : Memref sig .tc .vmem S1x768x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x16x256x768 .f32) (harg7 : arg7.IsWhole) (arg8 : Memref sig .tc .vmem S1x256x1024 .bf16) (harg8 : arg8.IsWhole) (arg9 : Memref sig .tc .vmem S2x512x1024 .f32) (harg9 : arg9.IsWhole) (arg10 : Memref sig .tc .vmem S2x512x1024 .bf16) (harg10 : arg10.IsWhole)
    (x0 : Vec Ideal S1x256x1024 .bf16) (x1 : Vec Ideal S1x768x1024 .bf16) (x2 : Vec Ideal S1x768x1024 .bf16) (x3 : Vec Ideal S1x256x1024 .bf16) (x4 : Vec Ideal S1x256x1024 .bf16) (x5 : Vec Ideal S1x16x256x768 .f32)

theorem inb_q (j : Fin 8) : ∀ a, (![0, 0, 128 * j.val] : Fin 3 → ℕ) a + S1x256x128.size a ≤ S1x256x1024.size a := by
  intro a; have := j.isLt; fin_cases a <;> simp [S1x256x128, S1x256x1024] <;> omega
theorem inb_k (j : Fin 8) : ∀ a, (![0, 0, 128 * j.val] : Fin 3 → ℕ) a + S1x768x128.size a ≤ S1x768x1024.size a := by
  intro a; have := j.isLt; fin_cases a <;> simp [S1x768x128, S1x768x1024] <;> omega
theorem inb_h (h : Fin 16) : ∀ a, (![0, h.val, 0, 0] : Fin 4 → ℕ) a + S1x1x256x768.size a ≤ S1x16x256x768.size a := by
  intro a; have := h.isLt; fin_cases a <;> simp [S1x1x256x768, S1x16x256x768] <;> omega

/-- The lanes of one tile of a block of 256 rows, of a band of 768 rows, and one head of the bias. -/
abbrev ld2 (a : Memref sig .tc .vmem S1x256x1024 .bf16) (ha : a.IsWhole) (x : Vec Ideal S1x256x1024 .bf16) (j : Fin 8) : Vec Ideal S1x256x128 .bf16 :=
  View.readAt (Elt Ideal) a.view (Rect.unit (s := S1x256x1024) ![0, 0, 128 * j.val] S1x256x128.size (inb_q j)).toLoadRect (ha.unread x)
abbrev ld3 (a : Memref sig .tc .vmem S1x768x1024 .bf16) (ha : a.IsWhole) (x : Vec Ideal S1x768x1024 .bf16) (j : Fin 8) : Vec Ideal S1x768x128 .bf16 :=
  View.readAt (Elt Ideal) a.view (Rect.unit (s := S1x768x1024) ![0, 0, 128 * j.val] S1x768x128.size (inb_k j)).toLoadRect (ha.unread x)
abbrev ld7 (a : Memref sig .tc .vmem S1x16x256x768 .f32) (ha : a.IsWhole) (x : Vec Ideal S1x16x256x768 .f32) (h : Fin 16) : Vec Ideal S1x1x256x768 .f32 :=
  View.readAt (Elt Ideal) a.view (Rect.unit (s := S1x16x256x768) ![0, h.val, 0, 0] S1x1x256x768.size (inb_h h)).toLoadRect (ha.unread x)

theorem ld2_apply (a : Memref sig .tc .vmem S1x256x1024 .bf16) (ha : a.IsWhole) (x : Vec Ideal S1x256x1024 .bf16) (j : Fin 8) (r : Fin 256) (l : Fin 128) :
    ld2 a ha x j (ix3 0 r l) = x (ix3 0 r ⟨128 * j.val + l.val, by omega⟩) := by
  show View.ld (View.read (Elt Ideal) a.view (ha.unread x)) (Rect.unit (s := S1x256x1024) ![0, 0, 128 * j.val] S1x256x128.size (inb_q j)) (ix3 0 r l) = _
  rw [ha.read_unread]
  refine congrArg x (funext fun b => ?_)
  fin_cases b <;> exact Fin.ext (by simp [LoadRect.idx, ix3])
theorem ld3_apply (a : Memref sig .tc .vmem S1x768x1024 .bf16) (ha : a.IsWhole) (x : Vec Ideal S1x768x1024 .bf16) (j : Fin 8) (r : Fin 768) (l : Fin 128) :
    ld3 a ha x j (ix3 0 r l) = x (ix3 0 r ⟨128 * j.val + l.val, by omega⟩) := by
  show View.ld (View.read (Elt Ideal) a.view (ha.unread x)) (Rect.unit (s := S1x768x1024) ![0, 0, 128 * j.val] S1x768x128.size (inb_k j)) (ix3 0 r l) = _
  rw [ha.read_unread]
  refine congrArg x (funext fun b => ?_)
  fin_cases b <;> exact Fin.ext (by simp [LoadRect.idx, ix3])
theorem ld7_apply (a : Memref sig .tc .vmem S1x16x256x768 .f32) (ha : a.IsWhole) (x : Vec Ideal S1x16x256x768 .f32) (h : Fin 16) (r : Fin 256) (k : Fin 768) :
    ld7 a ha x h (ix4 0 0 r k) = x (ix4 0 h r k) := by
  show View.ld (View.read (Elt Ideal) a.view (ha.unread x)) (Rect.unit (s := S1x16x256x768) ![0, h.val, 0, 0] S1x1x256x768.size (inb_h h)) (ix4 0 0 r k) = _
  rw [ha.read_unread]
  refine congrArg x (funext fun b => ?_)
  fin_cases b <;> exact Fin.ext (by simp [LoadRect.idx, ix4])

/-- The scores of tile `j` as its point's blocks give them. -/
abbrev tileS (j : Fin 8) : Fin 512 → Fin 1024 → EReal :=
  scoreT (ld2 arg2 harg2 x0 j) (ld2 arg5 harg5 x3 j) (ld3 arg3 harg3 x1 j) (ld7 arg7 harg7 x5 ⟨2 * j.val, by omega⟩) (ld7 arg7 harg7 x5 ⟨2 * j.val + 1, by omega⟩)

theorem hs0_0 : kernelRun0_A.sl.HS0_3 c arg2 harg2 arg3 harg3 arg5 harg5 arg7 harg7 x0 x1 x3 x5
    = scores 0 (ld2 arg2 harg2 x0 0) (ld2 arg5 harg5 x3 0) (ld3 arg3 harg3 x1 0) (ld7 arg7 harg7 x5 0) (ld7 arg7 harg7 x5 1) ++ [] := rfl

theorem canon0_0 (r : Fin 512) (k : Fin 1024) : View.canon (kernelRun0_A.sl.HS0_3 c arg2 harg2 arg3 harg3 arg5 harg5 arg7 harg7 x0 x1 x3 x5) (ix3 0 r k)
    = tileS arg2 harg2 arg3 harg3 arg5 harg5 arg7 harg7 x0 x1 x3 x5 0 r k := by
  rw [hs0_0]; exact scores_apply _ _ _ _ _ _ _ r k

theorem hs1_0 : kernelRun0_A.sl.HS1_32 c arg2 harg2 arg3 harg3 arg5 harg5 arg7 harg7 arg9 x0 x1 x3 x5
    = probs 0 arg9.view (kernelRun0_A.sl.HS0_3 c arg2 harg2 arg3 harg3 arg5 harg5 arg7 harg7 x0 x1 x3 x5) ++ [] := rfl

theorem hs0_1 : kernelRun0_A.sl.HS0_6 c arg2 harg2 arg3 harg3 arg5 harg5 arg7 harg7 x0 x1 x3 x5
    = scores 1 (ld2 arg2 harg2 x0 1) (ld2 arg5 harg5 x3 1) (ld3 arg3 harg3 x1 1) (ld7 arg7 harg7 x5 2) (ld7 arg7 harg7 x5 3) ++ kernelRun0_A.sl.HS0_3 c arg2 harg2 arg3 harg3 arg5 harg5 arg7 harg7 x0 x1 x3 x5 := rfl

theorem canon0_1 (r : Fin 512) (k : Fin 1024) : View.canon (kernelRun0_A.sl.HS0_6 c arg2 harg2 arg3 harg3 arg5 harg5 arg7 harg7 x0 x1 x3 x5) (ix3 1 r k)
    = tileS arg2 harg2 arg3 harg3 arg5 harg5 arg7 harg7 x0 x1 x3 x5 1 r k := by
  rw [hs0_1]; exact scores_apply _ _ _ _ _ _ _ r k

theorem hs1_1 : kernelRun0_A.sl.HS1_64 c arg2 harg2 arg3 harg3 arg5 harg5 arg7 harg7 arg9 x0 x1 x3 x5
    = probs 1 arg9.view (kernelRun0_A.sl.HS0_6 c arg2 harg2 arg3 harg3 arg5 harg5 arg7 harg7 x0 x1 x3 x5) ++ kernelRun0_A.sl.HS1_32 c arg2 harg2 arg3 harg3 arg5 harg5 arg7 harg7 arg9 x0 x1 x3 x5 := rfl

theorem hs0_2 : kernelRun0_A.sl.HS0_9 c arg2 harg2 arg3 harg3 arg5 harg5 arg7 harg7 x0 x1 x3 x5
    = scores 0 (ld2 arg2 harg2 x0 2) (ld2 arg5 harg5 x3 2) (ld3 arg3 harg3 x1 2) (ld7 arg7 harg7 x5 4) (ld7 arg7 harg7 x5 5) ++ kernelRun0_A.sl.HS0_6 c arg2 harg2 arg3 harg3 arg5 harg5 arg7 harg7 x0 x1 x3 x5 := rfl

theorem canon0_2 (r : Fin 512) (k : Fin 1024) : View.canon (kernelRun0_A.sl.HS0_9 c arg2 harg2 arg3 harg3 arg5 harg5 arg7 harg7 x0 x1 x3 x5) (ix3 0 r k)
    = tileS arg2 harg2 arg3 harg3 arg5 harg5 arg7 harg7 x0 x1 x3 x5 2 r k := by
  rw [hs0_2]; exact scores_apply _ _ _ _ _ _ _ r k

theorem hs1_2 : kernelRun0_A.sl.HS1_96 c arg2 harg2 arg3 harg3 arg5 harg5 arg7 harg7 arg9 x0 x1 x3 x5
    = probs 0 arg9.view (kernelRun0_A.sl.HS0_9 c arg2 harg2 arg3 harg3 arg5 harg5 arg7 harg7 x0 x1 x3 x5) ++ kernelRun0_A.sl.HS1_64 c arg2 harg2 arg3 harg3 arg5 harg5 arg7 harg7 arg9 x0 x1 x3 x5 := rfl

theorem hs0_3 : kernelRun0_A.sl.HS0_12 c arg2 harg2 arg3 harg3 arg5 harg5 arg7 harg7 x0 x1 x3 x5
    = scores 1 (ld2 arg2 harg2 x0 3) (ld2 arg5 harg5 x3 3) (ld3 arg3 harg3 x1 3) (ld7 arg7 harg7 x5 6) (ld7 arg7 harg7 x5 7) ++ kernelRun0_A.sl.HS0_9 c arg2 harg2 arg3 harg3 arg5 harg5 arg7 harg7 x0 x1 x3 x5 := rfl

theorem canon0_3 (r : Fin 512) (k : Fin 1024) : View.canon (kernelRun0_A.sl.HS0_12 c arg2 harg2 arg3 harg3 arg5 harg5 arg7 harg7 x0 x1 x3 x5) (ix3 1 r k)
    = tileS arg2 harg2 arg3 harg3 arg5 harg5 arg7 harg7 x0 x1 x3 x5 3 r k := by
  rw [hs0_3]; exact scores_apply _ _ _ _ _ _ _ r k

theorem hs1_3 : kernelRun0_A.sl.HS1_128 c arg2 harg2 arg3 harg3 arg5 harg5 arg7 harg7 arg9 x0 x1 x3 x5
    = probs 1 arg9.view (kernelRun0_A.sl.HS0_12 c arg2 harg2 arg3 harg3 arg5 harg5 arg7 harg7 x0 x1 x3 x5) ++ kernelRun0_A.sl.HS1_96 c arg2 harg2 arg3 harg3 arg5 harg5 arg7 harg7 arg9 x0 x1 x3 x5 := rfl

theorem hs0_4 : kernelRun0_A.sl.HS0_15 c arg2 harg2 arg3 harg3 arg5 harg5 arg7 harg7 x0 x1 x3 x5
    = scores 0 (ld2 arg2 harg2 x0 4) (ld2 arg5 harg5 x3 4) (ld3 arg3 harg3 x1 4) (ld7 arg7 harg7 x5 8) (ld7 arg7 harg7 x5 9) ++ kernelRun0_A.sl.HS0_12 c arg2 harg2 arg3 harg3 arg5 harg5 arg7 harg7 x0 x1 x3 x5 := rfl

theorem canon0_4 (r : Fin 512) (k : Fin 1024) : View.canon (kernelRun0_A.sl.HS0_15 c arg2 harg2 arg3 harg3 arg5 harg5 arg7 harg7 x0 x1 x3 x5) (ix3 0 r k)
    = tileS arg2 harg2 arg3 harg3 arg5 harg5 arg7 harg7 x0 x1 x3 x5 4 r k := by
  rw [hs0_4]; exact scores_apply _ _ _ _ _ _ _ r k

theorem hs1_4 : kernelRun0_A.sl.HS1_160 c arg2 harg2 arg3 harg3 arg5 harg5 arg7 harg7 arg9 x0 x1 x3 x5
    = probs 0 arg9.view (kernelRun0_A.sl.HS0_15 c arg2 harg2 arg3 harg3 arg5 harg5 arg7 harg7 x0 x1 x3 x5) ++ kernelRun0_A.sl.HS1_128 c arg2 harg2 arg3 harg3 arg5 harg5 arg7 harg7 arg9 x0 x1 x3 x5 := rfl

theorem hs0_5 : kernelRun0_A.sl.HS0_18 c arg2 harg2 arg3 harg3 arg5 harg5 arg7 harg7 x0 x1 x3 x5
    = scores 1 (ld2 arg2 harg2 x0 5) (ld2 arg5 harg5 x3 5) (ld3 arg3 harg3 x1 5) (ld7 arg7 harg7 x5 10) (ld7 arg7 harg7 x5 11) ++ kernelRun0_A.sl.HS0_15 c arg2 harg2 arg3 harg3 arg5 harg5 arg7 harg7 x0 x1 x3 x5 := rfl

theorem canon0_5 (r : Fin 512) (k : Fin 1024) : View.canon (kernelRun0_A.sl.HS0_18 c arg2 harg2 arg3 harg3 arg5 harg5 arg7 harg7 x0 x1 x3 x5) (ix3 1 r k)
    = tileS arg2 harg2 arg3 harg3 arg5 harg5 arg7 harg7 x0 x1 x3 x5 5 r k := by
  rw [hs0_5]; exact scores_apply _ _ _ _ _ _ _ r k

theorem hs1_5 : kernelRun0_A.sl.HS1_192 c arg2 harg2 arg3 harg3 arg5 harg5 arg7 harg7 arg9 x0 x1 x3 x5
    = probs 1 arg9.view (kernelRun0_A.sl.HS0_18 c arg2 harg2 arg3 harg3 arg5 harg5 arg7 harg7 x0 x1 x3 x5) ++ kernelRun0_A.sl.HS1_160 c arg2 harg2 arg3 harg3 arg5 harg5 arg7 harg7 arg9 x0 x1 x3 x5 := rfl

theorem hs0_6 : kernelRun0_A.sl.HS0_21 c arg2 harg2 arg3 harg3 arg5 harg5 arg7 harg7 x0 x1 x3 x5
    = scores 0 (ld2 arg2 harg2 x0 6) (ld2 arg5 harg5 x3 6) (ld3 arg3 harg3 x1 6) (ld7 arg7 harg7 x5 12) (ld7 arg7 harg7 x5 13) ++ kernelRun0_A.sl.HS0_18 c arg2 harg2 arg3 harg3 arg5 harg5 arg7 harg7 x0 x1 x3 x5 := rfl

theorem canon0_6 (r : Fin 512) (k : Fin 1024) : View.canon (kernelRun0_A.sl.HS0_21 c arg2 harg2 arg3 harg3 arg5 harg5 arg7 harg7 x0 x1 x3 x5) (ix3 0 r k)
    = tileS arg2 harg2 arg3 harg3 arg5 harg5 arg7 harg7 x0 x1 x3 x5 6 r k := by
  rw [hs0_6]; exact scores_apply _ _ _ _ _ _ _ r k

theorem hs1_6 : kernelRun0_A.sl.HS1_224 c arg2 harg2 arg3 harg3 arg5 harg5 arg7 harg7 arg9 x0 x1 x3 x5
    = probs 0 arg9.view (kernelRun0_A.sl.HS0_21 c arg2 harg2 arg3 harg3 arg5 harg5 arg7 harg7 x0 x1 x3 x5) ++ kernelRun0_A.sl.HS1_192 c arg2 harg2 arg3 harg3 arg5 harg5 arg7 harg7 arg9 x0 x1 x3 x5 := rfl

theorem hs0_7 : kernelRun0_A.sl.HS0_24 c arg2 harg2 arg3 harg3 arg5 harg5 arg7 harg7 x0 x1 x3 x5
    = scores 1 (ld2 arg2 harg2 x0 7) (ld2 arg5 harg5 x3 7) (ld3 arg3 harg3 x1 7) (ld7 arg7 harg7 x5 14) (ld7 arg7 harg7 x5 15) ++ kernelRun0_A.sl.HS0_21 c arg2 harg2 arg3 harg3 arg5 harg5 arg7 harg7 x0 x1 x3 x5 := rfl

theorem canon0_7 (r : Fin 512) (k : Fin 1024) : View.canon (kernelRun0_A.sl.HS0_24 c arg2 harg2 arg3 harg3 arg5 harg5 arg7 harg7 x0 x1 x3 x5) (ix3 1 r k)
    = tileS arg2 harg2 arg3 harg3 arg5 harg5 arg7 harg7 x0 x1 x3 x5 7 r k := by
  rw [hs0_7]; exact scores_apply _ _ _ _ _ _ _ r k

theorem hs1_7 : kernelRun0_A.sl.HS1_256 c arg2 harg2 arg3 harg3 arg5 harg5 arg7 harg7 arg9 x0 x1 x3 x5
    = probs 1 arg9.view (kernelRun0_A.sl.HS0_24 c arg2 harg2 arg3 harg3 arg5 harg5 arg7 harg7 x0 x1 x3 x5) ++ kernelRun0_A.sl.HS1_224 c arg2 harg2 arg3 harg3 arg5 harg5 arg7 harg7 arg9 x0 x1 x3 x5 := rfl

/-- The block stored by tile `j`, at a row and a lane. -/
def tileE (j : Fin 8) (r : Fin 256) (l : Fin 128) : EReal :=
  ((∑ k : Fin 256, wtT (tileS arg2 harg2 arg3 harg3 arg5 harg5 arg7 harg7 x0 x1 x3 x5 j) (rowOf r l) ⟨k.val, by omega⟩ * ld2 arg6 harg6 x4 j (ix3 0 k l))
    + ∑ k : Fin 768, wtT (tileS arg2 harg2 arg3 harg3 arg5 harg5 arg7 harg7 x0 x1 x3 x5 j) (rowOf r l) ⟨k.val + 256, by omega⟩ * ld3 arg4 harg4 x2 j (ix3 0 k l))
    * invT (tileS arg2 harg2 arg3 harg3 arg5 harg5 arg7 harg7 x0 x1 x3 x5 j) (rowOf r l)

set_option maxHeartbeats 2000000 in
theorem pieces_eq : (kernelRun0_A (F := Ideal) c i arg2 harg2 arg3 harg3 arg4 harg4 arg5 harg5 arg6 harg6 arg7 harg7 arg8 harg8 arg9 harg9 arg10 harg10 x0 x1 x2 x3 x4 x5).1 = [
    ⟨Rect.unit (s := S1x256x1024) ![0, 0, 128 * (7 : Fin 8).val] S1x256x128.size (inb_q 7), outT 1 arg9.view arg10.view (kernelRun0_A.sl.HS0_24 c arg2 harg2 arg3 harg3 arg5 harg5 arg7 harg7 x0 x1 x3 x5) (kernelRun0_A.sl.HS1_224 c arg2 harg2 arg3 harg3 arg5 harg5 arg7 harg7 arg9 x0 x1 x3 x5) (ld3 arg4 harg4 x2 7) (ld2 arg6 harg6 x4 7)⟩,
    ⟨Rect.unit (s := S1x256x1024) ![0, 0, 128 * (6 : Fin 8).val] S1x256x128.size (inb_q 6), outT 0 arg9.view arg10.view (kernelRun0_A.sl.HS0_21 c arg2 harg2 arg3 harg3 arg5 harg5 arg7 harg7 x0 x1 x3 x5) (kernelRun0_A.sl.HS1_192 c arg2 harg2 arg3 harg3 arg5 harg5 arg7 harg7 arg9 x0 x1 x3 x5) (ld3 arg4 harg4 x2 6) (ld2 arg6 harg6 x4 6)⟩,
    ⟨Rect.unit (s := S1x256x1024) ![0, 0, 128 * (5 : Fin 8).val] S1x256x128.size (inb_q 5), outT 1 arg9.view arg10.view (kernelRun0_A.sl.HS0_18 c arg2 harg2 arg3 harg3 arg5 harg5 arg7 harg7 x0 x1 x3 x5) (kernelRun0_A.sl.HS1_160 c arg2 harg2 arg3 harg3 arg5 harg5 arg7 harg7 arg9 x0 x1 x3 x5) (ld3 arg4 harg4 x2 5) (ld2 arg6 harg6 x4 5)⟩,
    ⟨Rect.unit (s := S1x256x1024) ![0, 0, 128 * (4 : Fin 8).val] S1x256x128.size (inb_q 4), outT 0 arg9.view arg10.view (kernelRun0_A.sl.HS0_15 c arg2 harg2 arg3 harg3 arg5 harg5 arg7 harg7 x0 x1 x3 x5) (kernelRun0_A.sl.HS1_128 c arg2 harg2 arg3 harg3 arg5 harg5 arg7 harg7 arg9 x0 x1 x3 x5) (ld3 arg4 harg4 x2 4) (ld2 arg6 harg6 x4 4)⟩,
    ⟨Rect.unit (s := S1x256x1024) ![0, 0, 128 * (3 : Fin 8).val] S1x256x128.size (inb_q 3), outT 1 arg9.view arg10.view (kernelRun0_A.sl.HS0_12 c arg2 harg2 arg3 harg3 arg5 harg5 arg7 harg7 x0 x1 x3 x5) (kernelRun0_A.sl.HS1_96 c arg2 harg2 arg3 harg3 arg5 harg5 arg7 harg7 arg9 x0 x1 x3 x5) (ld3 arg4 harg4 x2 3) (ld2 arg6 harg6 x4 3)⟩,
    ⟨Rect.unit (s := S1x256x1024) ![0, 0, 128 * (2 : Fin 8).val] S1x256x128.size (inb_q 2), outT 0 arg9.view arg10.view (kernelRun0_A.sl.HS0_9 c arg2 harg2 arg3 harg3 arg5 harg5 arg7 harg7 x0 x1 x3 x5) (kernelRun0_A.sl.HS1_64 c arg2 harg2 arg3 harg3 arg5 harg5 arg7 harg7 arg9 x0 x1 x3 x5) (ld3 arg4 harg4 x2 2) (ld2 arg6 harg6 x4 2)⟩,
    ⟨Rect.unit (s := S1x256x1024) ![0, 0, 128 * (1 : Fin 8).val] S1x256x128.size (inb_q 1), outT 1 arg9.view arg10.view (kernelRun0_A.sl.HS0_6 c arg2 harg2 arg3 harg3 arg5 harg5 arg7 harg7 x0 x1 x3 x5) (kernelRun0_A.sl.HS1_32 c arg2 harg2 arg3 harg3 arg5 harg5 arg7 harg7 arg9 x0 x1 x3 x5) (ld3 arg4 harg4 x2 1) (ld2 arg6 harg6 x4 1)⟩,
    ⟨Rect.unit (s := S1x256x1024) ![0, 0, 128 * (0 : Fin 8).val] S1x256x128.size (inb_q 0), outT 0 arg9.view arg10.view (kernelRun0_A.sl.HS0_3 c arg2 harg2 arg3 harg3 arg5 harg5 arg7 harg7 x0 x1 x3 x5) ([]) (ld3 arg4 harg4 x2 0) (ld2 arg6 harg6 x4 0)⟩] := rfl

/-- One tile's store agrees with the point's block. -/
theorem piece (j : Fin 8) (s : Fin 2) (L0 : List (View.Piece (Elt Ideal) S2x512x1024 .f32)) (L1 : List (View.Piece (Elt Ideal) S2x512x1024 .bf16))
    (h0 : ∀ r k, View.canon L0 (ix3 s r k) = tileS arg2 harg2 arg3 harg3 arg5 harg5 arg7 harg7 x0 x1 x3 x5 j r k)
    (x : (Rect.unit (s := S1x256x1024) ![0, 0, 128 * j.val] S1x256x128.size (inb_q j)).shape.Idx) :
    outT s arg9.view arg10.view L0 L1 (ld3 arg4 harg4 x2 j) (ld2 arg6 harg6 x4 j) x
      = (fun y : S1x256x1024.Idx => tileE arg2 harg2 arg3 harg3 arg4 harg4 arg5 harg5 arg6 harg6 arg7 harg7 x0 x1 x2 x3 x4 x5 ⟨(y 2).val / 128, by have : (y 2).val < 1024 := (y 2).isLt; omega⟩ (y 1) ⟨(y 2).val % 128, Nat.mod_lt _ (by decide)⟩)
          ((Rect.unit (s := S1x256x1024) ![0, 0, 128 * j.val] S1x256x128.size (inb_q j)).emb x) := by
  obtain ⟨a, r, l, rfl⟩ : ∃ (a : Fin 1) (r : Fin 256) (l : Fin 128), x = ix3 a r l := ⟨_, _, _, eq_ix3 x⟩
  obtain rfl : a = 0 := Subsingleton.elim _ _
  refine (outT_apply s _ _ L0 L1 _ _ _ h0 r l).trans ?_
  show tileE arg2 harg2 arg3 harg3 arg4 harg4 arg5 harg5 arg6 harg6 arg7 harg7 x0 x1 x2 x3 x4 x5 j r l = tileE arg2 harg2 arg3 harg3 arg4 harg4 arg5 harg5 arg6 harg6 arg7 harg7 x0 x1 x2 x3 x4 x5 ⟨(128 * j.val + 1 * l.val) / 128, _⟩ ⟨0 + 1 * r.val, _⟩ ⟨(128 * j.val + 1 * l.val) % 128, _⟩
  congr 1
  · exact Fin.ext (by simp only []; omega)
  · exact Fin.ext (by simp only []; omega)
  · exact Fin.ext (by simp only []; omega)

/-- The block a point stores, at a row and a column. -/
theorem out_apply (r : Fin 256) (d : Fin 1024) :
    out0_A_6 (F := Ideal) c i arg2 harg2 arg3 harg3 arg4 harg4 arg5 harg5 arg6 harg6 arg7 harg7 arg8 harg8 arg9 harg9 arg10 harg10 x0 x1 x2 x3 x4 x5 (ix3 0 r d)
      = tileE arg2 harg2 arg3 harg3 arg4 harg4 arg5 harg5 arg6 harg6 arg7 harg7 x0 x1 x2 x3 x4 x5 ⟨d.val / 128, by omega⟩ r ⟨d.val % 128, Nat.mod_lt _ (by decide)⟩ := by
  unfold out0_A_6
  rw [View.read_writes_junk_eq_canon, pieces_eq]
  refine (View.canon_append_of_piecesOf (fun y => tileE arg2 harg2 arg3 harg3 arg4 harg4 arg5 harg5 arg6 harg6 arg7 harg7 x0 x1 x2 x3 x4 x5 ⟨(y 2).val / 128, by have : (y 2).val < 1024 := (y 2).isLt; omega⟩ (y 1) ⟨(y 2).val % 128, Nat.mod_lt _ (by decide)⟩) [] [_, _, _, _, _, _, _, _]
    ⟨piece _ _ _ _ _ _ _ _ _ _ _ _ _ _ _ _ _ _ _ _ 7 1 _ _ (canon0_7 c _ _ _ _ _ _ _ _ _ _ _ _), piece _ _ _ _ _ _ _ _ _ _ _ _ _ _ _ _ _ _ _ _ 6 0 _ _ (canon0_6 c _ _ _ _ _ _ _ _ _ _ _ _), piece _ _ _ _ _ _ _ _ _ _ _ _ _ _ _ _ _ _ _ _ 5 1 _ _ (canon0_5 c _ _ _ _ _ _ _ _ _ _ _ _), piece _ _ _ _ _ _ _ _ _ _ _ _ _ _ _ _ _ _ _ _ 4 0 _ _ (canon0_4 c _ _ _ _ _ _ _ _ _ _ _ _), piece _ _ _ _ _ _ _ _ _ _ _ _ _ _ _ _ _ _ _ _ 3 1 _ _ (canon0_3 c _ _ _ _ _ _ _ _ _ _ _ _), piece _ _ _ _ _ _ _ _ _ _ _ _ _ _ _ _ _ _ _ _ 2 0 _ _ (canon0_2 c _ _ _ _ _ _ _ _ _ _ _ _), piece _ _ _ _ _ _ _ _ _ _ _ _ _ _ _ _ _ _ _ _ 1 1 _ _ (canon0_1 c _ _ _ _ _ _ _ _ _ _ _ _), piece _ _ _ _ _ _ _ _ _ _ _ _ _ _ _ _ _ _ _ _ 0 0 _ _ (canon0_0 c _ _ _ _ _ _ _ _ _ _ _ _), trivial⟩ (ix3 0 r d) ?_).trans rfl
  have hr := r.isLt
  have hd := d.isLt
  have hm : ∀ j : Fin 8, d.val / 128 = j.val → (ix3 0 r d : S1x256x1024.Idx) ∈ (Rect.unit (s := S1x256x1024) ![0, 0, 128 * j.val] S1x256x128.size (inb_q j)).set := fun j hj => by
    rw [Rect.mem_set_unit]
    intro a; fin_cases a <;> simp [S1x256x128, ix3] <;> omega
  have hj : d.val / 128 < 8 := by omega
  interval_cases hv : d.val / 128
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), hm 0 rfl⟩
  · exact ⟨_, List.mem_cons_of_mem _ (List.mem_cons_of_mem _ (List.mem_cons_of_mem _ (List.mem_cons_of_mem _ (List.mem_cons_of_mem _ (List.mem_cons_of_mem _ (List.mem_cons_self)))))), hm 1 rfl⟩
  · exact ⟨_, List.mem_cons_of_mem _ (List.mem_cons_of_mem _ (List.mem_cons_of_mem _ (List.mem_cons_of_mem _ (List.mem_cons_of_mem _ (List.mem_cons_self))))), hm 2 rfl⟩
  · exact ⟨_, List.mem_cons_of_mem _ (List.mem_cons_of_mem _ (List.mem_cons_of_mem _ (List.mem_cons_of_mem _ (List.mem_cons_self)))), hm 3 rfl⟩
  · exact ⟨_, List.mem_cons_of_mem _ (List.mem_cons_of_mem _ (List.mem_cons_of_mem _ (List.mem_cons_self))), hm 4 rfl⟩
  · exact ⟨_, List.mem_cons_of_mem _ (List.mem_cons_of_mem _ (List.mem_cons_self)), hm 5 rfl⟩
  · exact ⟨_, List.mem_cons_of_mem _ (List.mem_cons_self), hm 6 rfl⟩
  · exact ⟨_, List.mem_cons_self, hm 7 rfl⟩

end Cert.NaIdeal.Value

end
-- ==== Proof.NaBias.lean ====
/- The neighbourhood attention's bias table: the host lines that build it, as twelve rows of twelve tiles. -/
module

public import proofs.«01_k».proof.Proof.NaTile

@[expose] public section

set_option maxRecDepth 65536

noncomputable section

open Idealize.ShloMosaic Idealize.ShloMosaic.TcCoe Idealize.SL.Sem
open Idealize.ShloMosaic.Pipeline (Dat)

namespace Cert.NaIdeal.Value

open Cert.NaIdeal Cert.NaIdeal.Gen

/-- The tile outside every window. -/
abbrev outside : FVec Ideal S16x64x64 .f32 := broadcastInDim S16x64x64 ![] bcast_S_S16x64x64 (constant (F := Ideal) S_ .f32 0xFF800000#32)

/-- Row 0 of the query block, band of variant 0. -/
def row_0_0 (T : FVec Ideal S16x15x64x64 .f32) : FVec Ideal S16x64x768 .f32 :=
  concatenate S16x64x768 2 [⟨S16x64x64, shapeCast S16x64x64 (extractStridedSlice S16x1x64x64 ![0, 7, 0, 0] T slices_S16x15x64x64_S16x1x64x64_0_7_0_0) shapeCasts_S16x1x64x64_S16x64x64⟩,
    ⟨S16x64x64, shapeCast S16x64x64 (extractStridedSlice S16x1x64x64 ![0, 8, 0, 0] T slices_S16x15x64x64_S16x1x64x64_0_8_0_0) shapeCasts_S16x1x64x64_S16x64x64⟩,
    ⟨S16x64x64, shapeCast S16x64x64 (extractStridedSlice S16x1x64x64 ![0, 9, 0, 0] T slices_S16x15x64x64_S16x1x64x64_0_9_0_0) shapeCasts_S16x1x64x64_S16x64x64⟩,
    ⟨S16x64x64, shapeCast S16x64x64 (extractStridedSlice S16x1x64x64 ![0, 10, 0, 0] T slices_S16x15x64x64_S16x1x64x64_0_10_0_0) shapeCasts_S16x1x64x64_S16x64x64⟩,
    ⟨S16x64x64, shapeCast S16x64x64 (extractStridedSlice S16x1x64x64 ![0, 11, 0, 0] T slices_S16x15x64x64_S16x1x64x64_0_11_0_0) shapeCasts_S16x1x64x64_S16x64x64⟩,
    ⟨S16x64x64, shapeCast S16x64x64 (extractStridedSlice S16x1x64x64 ![0, 12, 0, 0] T slices_S16x15x64x64_S16x1x64x64_0_12_0_0) shapeCasts_S16x1x64x64_S16x64x64⟩,
    ⟨S16x64x64, shapeCast S16x64x64 (extractStridedSlice S16x1x64x64 ![0, 13, 0, 0] T slices_S16x15x64x64_S16x1x64x64_0_13_0_0) shapeCasts_S16x1x64x64_S16x64x64⟩,
    ⟨S16x64x64, shapeCast S16x64x64 (extractStridedSlice S16x1x64x64 ![0, 14, 0, 0] T slices_S16x15x64x64_S16x1x64x64_0_14_0_0) shapeCasts_S16x1x64x64_S16x64x64⟩,
    ⟨S16x64x64, outside⟩,
    ⟨S16x64x64, outside⟩,
    ⟨S16x64x64, outside⟩,
    ⟨S16x64x64, outside⟩] concatenates_S16x64x64_S16x64x64_S16x64x64_S16x64x64_S16x64x64_S16x64x64_S16x64x64_S16x64x64_S16x64x64_S16x64x64_S16x64x64_S16x64x64_S16x64x768_d2

/-- Row 1 of the query block, band of variant 0. -/
def row_0_1 (T : FVec Ideal S16x15x64x64 .f32) : FVec Ideal S16x64x768 .f32 :=
  concatenate S16x64x768 2 [⟨S16x64x64, shapeCast S16x64x64 (extractStridedSlice S16x1x64x64 ![0, 6, 0, 0] T slices_S16x15x64x64_S16x1x64x64_0_6_0_0) shapeCasts_S16x1x64x64_S16x64x64⟩,
    ⟨S16x64x64, shapeCast S16x64x64 (extractStridedSlice S16x1x64x64 ![0, 7, 0, 0] T slices_S16x15x64x64_S16x1x64x64_0_7_0_0) shapeCasts_S16x1x64x64_S16x64x64⟩,
    ⟨S16x64x64, shapeCast S16x64x64 (extractStridedSlice S16x1x64x64 ![0, 8, 0, 0] T slices_S16x15x64x64_S16x1x64x64_0_8_0_0) shapeCasts_S16x1x64x64_S16x64x64⟩,
    ⟨S16x64x64, shapeCast S16x64x64 (extractStridedSlice S16x1x64x64 ![0, 9, 0, 0] T slices_S16x15x64x64_S16x1x64x64_0_9_0_0) shapeCasts_S16x1x64x64_S16x64x64⟩,
    ⟨S16x64x64, shapeCast S16x64x64 (extractStridedSlice S16x1x64x64 ![0, 10, 0, 0] T slices_S16x15x64x64_S16x1x64x64_0_10_0_0) shapeCasts_S16x1x64x64_S16x64x64⟩,
    ⟨S16x64x64, shapeCast S16x64x64 (extractStridedSlice S16x1x64x64 ![0, 11, 0, 0] T slices_S16x15x64x64_S16x1x64x64_0_11_0_0) shapeCasts_S16x1x64x64_S16x64x64⟩,
    ⟨S16x64x64, shapeCast S16x64x64 (extractStridedSlice S16x1x64x64 ![0, 12, 0, 0] T slices_S16x15x64x64_S16x1x64x64_0_12_0_0) shapeCasts_S16x1x64x64_S16x64x64⟩,
    ⟨S16x64x64, shapeCast S16x64x64 (extractStridedSlice S16x1x64x64 ![0, 13, 0, 0] T slices_S16x15x64x64_S16x1x64x64_0_13_0_0) shapeCasts_S16x1x64x64_S16x64x64⟩,
    ⟨S16x64x64, outside⟩,
    ⟨S16x64x64, outside⟩,
    ⟨S16x64x64, outside⟩,
    ⟨S16x64x64, outside⟩] concatenates_S16x64x64_S16x64x64_S16x64x64_S16x64x64_S16x64x64_S16x64x64_S16x64x64_S16x64x64_S16x64x64_S16x64x64_S16x64x64_S16x64x64_S16x64x768_d2

/-- Row 2 of the query block, band of variant 0. -/
def row_0_2 (T : FVec Ideal S16x15x64x64 .f32) : FVec Ideal S16x64x768 .f32 :=
  concatenate S16x64x768 2 [⟨S16x64x64, shapeCast S16x64x64 (extractStridedSlice S16x1x64x64 ![0, 5, 0, 0] T slices_S16x15x64x64_S16x1x64x64_0_5_0_0) shapeCasts_S16x1x64x64_S16x64x64⟩,
    ⟨S16x64x64, shapeCast S16x64x64 (extractStridedSlice S16x1x64x64 ![0, 6, 0, 0] T slices_S16x15x64x64_S16x1x64x64_0_6_0_0) shapeCasts_S16x1x64x64_S16x64x64⟩,
    ⟨S16x64x64, shapeCast S16x64x64 (extractStridedSlice S16x1x64x64 ![0, 7, 0, 0] T slices_S16x15x64x64_S16x1x64x64_0_7_0_0) shapeCasts_S16x1x64x64_S16x64x64⟩,
    ⟨S16x64x64, shapeCast S16x64x64 (extractStridedSlice S16x1x64x64 ![0, 8, 0, 0] T slices_S16x15x64x64_S16x1x64x64_0_8_0_0) shapeCasts_S16x1x64x64_S16x64x64⟩,
    ⟨S16x64x64, shapeCast S16x64x64 (extractStridedSlice S16x1x64x64 ![0, 9, 0, 0] T slices_S16x15x64x64_S16x1x64x64_0_9_0_0) shapeCasts_S16x1x64x64_S16x64x64⟩,
    ⟨S16x64x64, shapeCast S16x64x64 (extractStridedSlice S16x1x64x64 ![0, 10, 0, 0] T slices_S16x15x64x64_S16x1x64x64_0_10_0_0) shapeCasts_S16x1x64x64_S16x64x64⟩,
    ⟨S16x64x64, shapeCast S16x64x64 (extractStridedSlice S16x1x64x64 ![0, 11, 0, 0] T slices_S16x15x64x64_S16x1x64x64_0_11_0_0) shapeCasts_S16x1x64x64_S16x64x64⟩,
    ⟨S16x64x64, shapeCast S16x64x64 (extractStridedSlice S16x1x64x64 ![0, 12, 0, 0] T slices_S16x15x64x64_S16x1x64x64_0_12_0_0) shapeCasts_S16x1x64x64_S16x64x64⟩,
    ⟨S16x64x64, outside⟩,
    ⟨S16x64x64, outside⟩,
    ⟨S16x64x64, outside⟩,
    ⟨S16x64x64, outside⟩] concatenates_S16x64x64_S16x64x64_S16x64x64_S16x64x64_S16x64x64_S16x64x64_S16x64x64_S16x64x64_S16x64x64_S16x64x64_S16x64x64_S16x64x64_S16x64x768_d2

/-- Row 3 of the query block, band of variant 0. -/
def row_0_3 (T : FVec Ideal S16x15x64x64 .f32) : FVec Ideal S16x64x768 .f32 :=
  concatenate S16x64x768 2 [⟨S16x64x64, shapeCast S16x64x64 (extractStridedSlice S16x1x64x64 ![0, 4, 0, 0] T slices_S16x15x64x64_S16x1x64x64_0_4_0_0) shapeCasts_S16x1x64x64_S16x64x64⟩,
    ⟨S16x64x64, shapeCast S16x64x64 (extractStridedSlice S16x1x64x64 ![0, 5, 0, 0] T slices_S16x15x64x64_S16x1x64x64_0_5_0_0) shapeCasts_S16x1x64x64_S16x64x64⟩,
    ⟨S16x64x64, shapeCast S16x64x64 (extractStridedSlice S16x1x64x64 ![0, 6, 0, 0] T slices_S16x15x64x64_S16x1x64x64_0_6_0_0) shapeCasts_S16x1x64x64_S16x64x64⟩,
    ⟨S16x64x64, shapeCast S16x64x64 (extractStridedSlice S16x1x64x64 ![0, 7, 0, 0] T slices_S16x15x64x64_S16x1x64x64_0_7_0_0) shapeCasts_S16x1x64x64_S16x64x64⟩,
    ⟨S16x64x64, shapeCast S16x64x64 (extractStridedSlice S16x1x64x64 ![0, 8, 0, 0] T slices_S16x15x64x64_S16x1x64x64_0_8_0_0) shapeCasts_S16x1x64x64_S16x64x64⟩,
    ⟨S16x64x64, shapeCast S16x64x64 (extractStridedSlice S16x1x64x64 ![0, 9, 0, 0] T slices_S16x15x64x64_S16x1x64x64_0_9_0_0) shapeCasts_S16x1x64x64_S16x64x64⟩,
    ⟨S16x64x64, shapeCast S16x64x64 (extractStridedSlice S16x1x64x64 ![0, 10, 0, 0] T slices_S16x15x64x64_S16x1x64x64_0_10_0_0) shapeCasts_S16x1x64x64_S16x64x64⟩,
    ⟨S16x64x64, shapeCast S16x64x64 (extractStridedSlice S16x1x64x64 ![0, 11, 0, 0] T slices_S16x15x64x64_S16x1x64x64_0_11_0_0) shapeCasts_S16x1x64x64_S16x64x64⟩,
    ⟨S16x64x64, outside⟩,
    ⟨S16x64x64, outside⟩,
    ⟨S16x64x64, outside⟩,
    ⟨S16x64x64, outside⟩] concatenates_S16x64x64_S16x64x64_S16x64x64_S16x64x64_S16x64x64_S16x64x64_S16x64x64_S16x64x64_S16x64x64_S16x64x64_S16x64x64_S16x64x64_S16x64x768_d2

/-- Row 0 of the query block, band of variant 1. -/
def row_1_0 (T : FVec Ideal S16x15x64x64 .f32) : FVec Ideal S16x64x768 .f32 :=
  concatenate S16x64x768 2 [⟨S16x64x64, shapeCast S16x64x64 (extractStridedSlice S16x1x64x64 ![0, 3, 0, 0] T slices_S16x15x64x64_S16x1x64x64_0_3_0_0) shapeCasts_S16x1x64x64_S16x64x64⟩,
    ⟨S16x64x64, shapeCast S16x64x64 (extractStridedSlice S16x1x64x64 ![0, 4, 0, 0] T slices_S16x15x64x64_S16x1x64x64_0_4_0_0) shapeCasts_S16x1x64x64_S16x64x64⟩,
    ⟨S16x64x64, shapeCast S16x64x64 (extractStridedSlice S16x1x64x64 ![0, 5, 0, 0] T slices_S16x15x64x64_S16x1x64x64_0_5_0_0) shapeCasts_S16x1x64x64_S16x64x64⟩,
    ⟨S16x64x64, shapeCast S16x64x64 (extractStridedSlice S16x1x64x64 ![0, 6, 0, 0] T slices_S16x15x64x64_S16x1x64x64_0_6_0_0) shapeCasts_S16x1x64x64_S16x64x64⟩,
    ⟨S16x64x64, shapeCast S16x64x64 (extractStridedSlice S16x1x64x64 ![0, 7, 0, 0] T slices_S16x15x64x64_S16x1x64x64_0_7_0_0) shapeCasts_S16x1x64x64_S16x64x64⟩,
    ⟨S16x64x64, shapeCast S16x64x64 (extractStridedSlice S16x1x64x64 ![0, 8, 0, 0] T slices_S16x15x64x64_S16x1x64x64_0_8_0_0) shapeCasts_S16x1x64x64_S16x64x64⟩,
    ⟨S16x64x64, shapeCast S16x64x64 (extractStridedSlice S16x1x64x64 ![0, 9, 0, 0] T slices_S16x15x64x64_S16x1x64x64_0_9_0_0) shapeCasts_S16x1x64x64_S16x64x64⟩,
    ⟨S16x64x64, shapeCast S16x64x64 (extractStridedSlice S16x1x64x64 ![0, 10, 0, 0] T slices_S16x15x64x64_S16x1x64x64_0_10_0_0) shapeCasts_S16x1x64x64_S16x64x64⟩,
    ⟨S16x64x64, outside⟩,
    ⟨S16x64x64, outside⟩,
    ⟨S16x64x64, outside⟩,
    ⟨S16x64x64, outside⟩] concatenates_S16x64x64_S16x64x64_S16x64x64_S16x64x64_S16x64x64_S16x64x64_S16x64x64_S16x64x64_S16x64x64_S16x64x64_S16x64x64_S16x64x64_S16x64x768_d2

/-- Row 1 of the query block, band of variant 1. -/
def row_1_1 (T : FVec Ideal S16x15x64x64 .f32) : FVec Ideal S16x64x768 .f32 :=
  concatenate S16x64x768 2 [⟨S16x64x64, outside⟩,
    ⟨S16x64x64, shapeCast S16x64x64 (extractStridedSlice S16x1x64x64 ![0, 3, 0, 0] T slices_S16x15x64x64_S16x1x64x64_0_3_0_0) shapeCasts_S16x1x64x64_S16x64x64⟩,
    ⟨S16x64x64, shapeCast S16x64x64 (extractStridedSlice S16x1x64x64 ![0, 4, 0, 0] T slices_S16x15x64x64_S16x1x64x64_0_4_0_0) shapeCasts_S16x1x64x64_S16x64x64⟩,
    ⟨S16x64x64, shapeCast S16x64x64 (extractStridedSlice S16x1x64x64 ![0, 5, 0, 0] T slices_S16x15x64x64_S16x1x64x64_0_5_0_0) shapeCasts_S16x1x64x64_S16x64x64⟩,
    ⟨S16x64x64, shapeCast S16x64x64 (extractStridedSlice S16x1x64x64 ![0, 6, 0, 0] T slices_S16x15x64x64_S16x1x64x64_0_6_0_0) shapeCasts_S16x1x64x64_S16x64x64⟩,
    ⟨S16x64x64, shapeCast S16x64x64 (extractStridedSlice S16x1x64x64 ![0, 7, 0, 0] T slices_S16x15x64x64_S16x1x64x64_0_7_0_0) shapeCasts_S16x1x64x64_S16x64x64⟩,
    ⟨S16x64x64, shapeCast S16x64x64 (extractStridedSlice S16x1x64x64 ![0, 8, 0, 0] T slices_S16x15x64x64_S16x1x64x64_0_8_0_0) shapeCasts_S16x1x64x64_S16x64x64⟩,
    ⟨S16x64x64, shapeCast S16x64x64 (extractStridedSlice S16x1x64x64 ![0, 9, 0, 0] T slices_S16x15x64x64_S16x1x64x64_0_9_0_0) shapeCasts_S16x1x64x64_S16x64x64⟩,
    ⟨S16x64x64, shapeCast S16x64x64 (extractStridedSlice S16x1x64x64 ![0, 10, 0, 0] T slices_S16x15x64x64_S16x1x64x64_0_10_0_0) shapeCasts_S16x1x64x64_S16x64x64⟩,
    ⟨S16x64x64, outside⟩,
    ⟨S16x64x64, outside⟩,
    ⟨S16x64x64, outside⟩] concatenates_S16x64x64_S16x64x64_S16x64x64_S16x64x64_S16x64x64_S16x64x64_S16x64x64_S16x64x64_S16x64x64_S16x64x64_S16x64x64_S16x64x64_S16x64x768_d2

/-- Row 2 of the query block, band of variant 1. -/
def row_1_2 (T : FVec Ideal S16x15x64x64 .f32) : FVec Ideal S16x64x768 .f32 :=
  concatenate S16x64x768 2 [⟨S16x64x64, outside⟩,
    ⟨S16x64x64, outside⟩,
    ⟨S16x64x64, shapeCast S16x64x64 (extractStridedSlice S16x1x64x64 ![0, 3, 0, 0] T slices_S16x15x64x64_S16x1x64x64_0_3_0_0) shapeCasts_S16x1x64x64_S16x64x64⟩,
    ⟨S16x64x64, shapeCast S16x64x64 (extractStridedSlice S16x1x64x64 ![0, 4, 0, 0] T slices_S16x15x64x64_S16x1x64x64_0_4_0_0) shapeCasts_S16x1x64x64_S16x64x64⟩,
    ⟨S16x64x64, shapeCast S16x64x64 (extractStridedSlice S16x1x64x64 ![0, 5, 0, 0] T slices_S16x15x64x64_S16x1x64x64_0_5_0_0) shapeCasts_S16x1x64x64_S16x64x64⟩,
    ⟨S16x64x64, shapeCast S16x64x64 (extractStridedSlice S16x1x64x64 ![0, 6, 0, 0] T slices_S16x15x64x64_S16x1x64x64_0_6_0_0) shapeCasts_S16x1x64x64_S16x64x64⟩,
    ⟨S16x64x64, shapeCast S16x64x64 (extractStridedSlice S16x1x64x64 ![0, 7, 0, 0] T slices_S16x15x64x64_S16x1x64x64_0_7_0_0) shapeCasts_S16x1x64x64_S16x64x64⟩,
    ⟨S16x64x64, shapeCast S16x64x64 (extractStridedSlice S16x1x64x64 ![0, 8, 0, 0] T slices_S16x15x64x64_S16x1x64x64_0_8_0_0) shapeCasts_S16x1x64x64_S16x64x64⟩,
    ⟨S16x64x64, shapeCast S16x64x64 (extractStridedSlice S16x1x64x64 ![0, 9, 0, 0] T slices_S16x15x64x64_S16x1x64x64_0_9_0_0) shapeCasts_S16x1x64x64_S16x64x64⟩,
    ⟨S16x64x64, shapeCast S16x64x64 (extractStridedSlice S16x1x64x64 ![0, 10, 0, 0] T slices_S16x15x64x64_S16x1x64x64_0_10_0_0) shapeCasts_S16x1x64x64_S16x64x64⟩,
    ⟨S16x64x64, outside⟩,
    ⟨S16x64x64, outside⟩] concatenates_S16x64x64_S16x64x64_S16x64x64_S16x64x64_S16x64x64_S16x64x64_S16x64x64_S16x64x64_S16x64x64_S16x64x64_S16x64x64_S16x64x64_S16x64x768_d2

/-- Row 3 of the query block, band of variant 1. -/
def row_1_3 (T : FVec Ideal S16x15x64x64 .f32) : FVec Ideal S16x64x768 .f32 :=
  concatenate S16x64x768 2 [⟨S16x64x64, outside⟩,
    ⟨S16x64x64, outside⟩,
    ⟨S16x64x64, outside⟩,
    ⟨S16x64x64, shapeCast S16x64x64 (extractStridedSlice S16x1x64x64 ![0, 3, 0, 0] T slices_S16x15x64x64_S16x1x64x64_0_3_0_0) shapeCasts_S16x1x64x64_S16x64x64⟩,
    ⟨S16x64x64, shapeCast S16x64x64 (extractStridedSlice S16x1x64x64 ![0, 4, 0, 0] T slices_S16x15x64x64_S16x1x64x64_0_4_0_0) shapeCasts_S16x1x64x64_S16x64x64⟩,
    ⟨S16x64x64, shapeCast S16x64x64 (extractStridedSlice S16x1x64x64 ![0, 5, 0, 0] T slices_S16x15x64x64_S16x1x64x64_0_5_0_0) shapeCasts_S16x1x64x64_S16x64x64⟩,
    ⟨S16x64x64, shapeCast S16x64x64 (extractStridedSlice S16x1x64x64 ![0, 6, 0, 0] T slices_S16x15x64x64_S16x1x64x64_0_6_0_0) shapeCasts_S16x1x64x64_S16x64x64⟩,
    ⟨S16x64x64, shapeCast S16x64x64 (extractStridedSlice S16x1x64x64 ![0, 7, 0, 0] T slices_S16x15x64x64_S16x1x64x64_0_7_0_0) shapeCasts_S16x1x64x64_S16x64x64⟩,
    ⟨S16x64x64, shapeCast S16x64x64 (extractStridedSlice S16x1x64x64 ![0, 8, 0, 0] T slices_S16x15x64x64_S16x1x64x64_0_8_0_0) shapeCasts_S16x1x64x64_S16x64x64⟩,
    ⟨S16x64x64, shapeCast S16x64x64 (extractStridedSlice S16x1x64x64 ![0, 9, 0, 0] T slices_S16x15x64x64_S16x1x64x64_0_9_0_0) shapeCasts_S16x1x64x64_S16x64x64⟩,
    ⟨S16x64x64, shapeCast S16x64x64 (extractStridedSlice S16x1x64x64 ![0, 10, 0, 0] T slices_S16x15x64x64_S16x1x64x64_0_10_0_0) shapeCasts_S16x1x64x64_S16x64x64⟩,
    ⟨S16x64x64, outside⟩] concatenates_S16x64x64_S16x64x64_S16x64x64_S16x64x64_S16x64x64_S16x64x64_S16x64x64_S16x64x64_S16x64x64_S16x64x64_S16x64x64_S16x64x64_S16x64x768_d2

/-- Row 0 of the query block, band of variant 2. -/
def row_2_0 (T : FVec Ideal S16x15x64x64 .f32) : FVec Ideal S16x64x768 .f32 :=
  concatenate S16x64x768 2 [⟨S16x64x64, outside⟩,
    ⟨S16x64x64, outside⟩,
    ⟨S16x64x64, outside⟩,
    ⟨S16x64x64, outside⟩,
    ⟨S16x64x64, shapeCast S16x64x64 (extractStridedSlice S16x1x64x64 ![0, 3, 0, 0] T slices_S16x15x64x64_S16x1x64x64_0_3_0_0) shapeCasts_S16x1x64x64_S16x64x64⟩,
    ⟨S16x64x64, shapeCast S16x64x64 (extractStridedSlice S16x1x64x64 ![0, 4, 0, 0] T slices_S16x15x64x64_S16x1x64x64_0_4_0_0) shapeCasts_S16x1x64x64_S16x64x64⟩,
    ⟨S16x64x64, shapeCast S16x64x64 (extractStridedSlice S16x1x64x64 ![0, 5, 0, 0] T slices_S16x15x64x64_S16x1x64x64_0_5_0_0) shapeCasts_S16x1x64x64_S16x64x64⟩,
    ⟨S16x64x64, shapeCast S16x64x64 (extractStridedSlice S16x1x64x64 ![0, 6, 0, 0] T slices_S16x15x64x64_S16x1x64x64_0_6_0_0) shapeCasts_S16x1x64x64_S16x64x64⟩,
    ⟨S16x64x64, shapeCast S16x64x64 (extractStridedSlice S16x1x64x64 ![0, 7, 0, 0] T slices_S16x15x64x64_S16x1x64x64_0_7_0_0) shapeCasts_S16x1x64x64_S16x64x64⟩,
    ⟨S16x64x64, shapeCast S16x64x64 (extractStridedSlice S16x1x64x64 ![0, 8, 0, 0] T slices_S16x15x64x64_S16x1x64x64_0_8_0_0) shapeCasts_S16x1x64x64_S16x64x64⟩,
    ⟨S16x64x64, shapeCast S16x64x64 (extractStridedSlice S16x1x64x64 ![0, 9, 0, 0] T slices_S16x15x64x64_S16x1x64x64_0_9_0_0) shapeCasts_S16x1x64x64_S16x64x64⟩,
    ⟨S16x64x64, shapeCast S16x64x64 (extractStridedSlice S16x1x64x64 ![0, 10, 0, 0] T slices_S16x15x64x64_S16x1x64x64_0_10_0_0) shapeCasts_S16x1x64x64_S16x64x64⟩] concatenates_S16x64x64_S16x64x64_S16x64x64_S16x64x64_S16x64x64_S16x64x64_S16x64x64_S16x64x64_S16x64x64_S16x64x64_S16x64x64_S16x64x64_S16x64x768_d2

/-- Row 1 of the query block, band of variant 2. -/
def row_2_1 (T : FVec Ideal S16x15x64x64 .f32) : FVec Ideal S16x64x768 .f32 :=
  concatenate S16x64x768 2 [⟨S16x64x64, outside⟩,
    ⟨S16x64x64, outside⟩,
    ⟨S16x64x64, outside⟩,
    ⟨S16x64x64, outside⟩,
    ⟨S16x64x64, shapeCast S16x64x64 (extractStridedSlice S16x1x64x64 ![0, 2, 0, 0] T slices_S16x15x64x64_S16x1x64x64_0_2_0_0) shapeCasts_S16x1x64x64_S16x64x64⟩,
    ⟨S16x64x64, shapeCast S16x64x64 (extractStridedSlice S16x1x64x64 ![0, 3, 0, 0] T slices_S16x15x64x64_S16x1x64x64_0_3_0_0) shapeCasts_S16x1x64x64_S16x64x64⟩,
    ⟨S16x64x64, shapeCast S16x64x64 (extractStridedSlice S16x1x64x64 ![0, 4, 0, 0] T slices_S16x15x64x64_S16x1x64x64_0_4_0_0) shapeCasts_S16x1x64x64_S16x64x64⟩,
    ⟨S16x64x64, shapeCast S16x64x64 (extractStridedSlice S16x1x64x64 ![0, 5, 0, 0] T slices_S16x15x64x64_S16x1x64x64_0_5_0_0) shapeCasts_S16x1x64x64_S16x64x64⟩,
    ⟨S16x64x64, shapeCast S16x64x64 (extractStridedSlice S16x1x64x64 ![0, 6, 0, 0] T slices_S16x15x64x64_S16x1x64x64_0_6_0_0) shapeCasts_S16x1x64x64_S16x64x64⟩,
    ⟨S16x64x64, shapeCast S16x64x64 (extractStridedSlice S16x1x64x64 ![0, 7, 0, 0] T slices_S16x15x64x64_S16x1x64x64_0_7_0_0) shapeCasts_S16x1x64x64_S16x64x64⟩,
    ⟨S16x64x64, shapeCast S16x64x64 (extractStridedSlice S16x1x64x64 ![0, 8, 0, 0] T slices_S16x15x64x64_S16x1x64x64_0_8_0_0) shapeCasts_S16x1x64x64_S16x64x64⟩,
    ⟨S16x64x64, shapeCast S16x64x64 (extractStridedSlice S16x1x64x64 ![0, 9, 0, 0] T slices_S16x15x64x64_S16x1x64x64_0_9_0_0) shapeCasts_S16x1x64x64_S16x64x64⟩] concatenates_S16x64x64_S16x64x64_S16x64x64_S16x64x64_S16x64x64_S16x64x64_S16x64x64_S16x64x64_S16x64x64_S16x64x64_S16x64x64_S16x64x64_S16x64x768_d2

/-- Row 2 of the query block, band of variant 2. -/
def row_2_2 (T : FVec Ideal S16x15x64x64 .f32) : FVec Ideal S16x64x768 .f32 :=
  concatenate S16x64x768 2 [⟨S16x64x64, outside⟩,
    ⟨S16x64x64, outside⟩,
    ⟨S16x64x64, outside⟩,
    ⟨S16x64x64, outside⟩,
    ⟨S16x64x64, shapeCast S16x64x64 (extractStridedSlice S16x1x64x64 ![0, 1, 0, 0] T slices_S16x15x64x64_S16x1x64x64_0_1_0_0) shapeCasts_S16x1x64x64_S16x64x64⟩,
    ⟨S16x64x64, shapeCast S16x64x64 (extractStridedSlice S16x1x64x64 ![0, 2, 0, 0] T slices_S16x15x64x64_S16x1x64x64_0_2_0_0) shapeCasts_S16x1x64x64_S16x64x64⟩,
    ⟨S16x64x64, shapeCast S16x64x64 (extractStridedSlice S16x1x64x64 ![0, 3, 0, 0] T slices_S16x15x64x64_S16x1x64x64_0_3_0_0) shapeCasts_S16x1x64x64_S16x64x64⟩,
    ⟨S16x64x64, shapeCast S16x64x64 (extractStridedSlice S16x1x64x64 ![0, 4, 0, 0] T slices_S16x15x64x64_S16x1x64x64_0_4_0_0) shapeCasts_S16x1x64x64_S16x64x64⟩,
    ⟨S16x64x64, shapeCast S16x64x64 (extractStridedSlice S16x1x64x64 ![0, 5, 0, 0] T slices_S16x15x64x64_S16x1x64x64_0_5_0_0) shapeCasts_S16x1x64x64_S16x64x64⟩,
    ⟨S16x64x64, shapeCast S16x64x64 (extractStridedSlice S16x1x64x64 ![0, 6, 0, 0] T slices_S16x15x64x64_S16x1x64x64_0_6_0_0) shapeCasts_S16x1x64x64_S16x64x64⟩,
    ⟨S16x64x64, shapeCast S16x64x64 (extractStridedSlice S16x1x64x64 ![0, 7, 0, 0] T slices_S16x15x64x64_S16x1x64x64_0_7_0_0) shapeCasts_S16x1x64x64_S16x64x64⟩,
    ⟨S16x64x64, shapeCast S16x64x64 (extractStridedSlice S16x1x64x64 ![0, 8, 0, 0] T slices_S16x15x64x64_S16x1x64x64_0_8_0_0) shapeCasts_S16x1x64x64_S16x64x64⟩] concatenates_S16x64x64_S16x64x64_S16x64x64_S16x64x64_S16x64x64_S16x64x64_S16x64x64_S16x64x64_S16x64x64_S16x64x64_S16x64x64_S16x64x64_S16x64x768_d2

/-- Row 3 of the query block, band of variant 2. -/
def row_2_3 (T : FVec Ideal S16x15x64x64 .f32) : FVec Ideal S16x64x768 .f32 :=
  concatenate S16x64x768 2 [⟨S16x64x64, outside⟩,
    ⟨S16x64x64, outside⟩,
    ⟨S16x64x64, outside⟩,
    ⟨S16x64x64, outside⟩,
    ⟨S16x64x64, shapeCast S16x64x64 (extractStridedSlice S16x1x64x64 ![0, 0, 0, 0] T slices_S16x15x64x64_S16x1x64x64_0_0_0_0) shapeCasts_S16x1x64x64_S16x64x64⟩,
    ⟨S16x64x64, shapeCast S16x64x64 (extractStridedSlice S16x1x64x64 ![0, 1, 0, 0] T slices_S16x15x64x64_S16x1x64x64_0_1_0_0) shapeCasts_S16x1x64x64_S16x64x64⟩,
    ⟨S16x64x64, shapeCast S16x64x64 (extractStridedSlice S16x1x64x64 ![0, 2, 0, 0] T slices_S16x15x64x64_S16x1x64x64_0_2_0_0) shapeCasts_S16x1x64x64_S16x64x64⟩,
    ⟨S16x64x64, shapeCast S16x64x64 (extractStridedSlice S16x1x64x64 ![0, 3, 0, 0] T slices_S16x15x64x64_S16x1x64x64_0_3_0_0) shapeCasts_S16x1x64x64_S16x64x64⟩,
    ⟨S16x64x64, shapeCast S16x64x64 (extractStridedSlice S16x1x64x64 ![0, 4, 0, 0] T slices_S16x15x64x64_S16x1x64x64_0_4_0_0) shapeCasts_S16x1x64x64_S16x64x64⟩,
    ⟨S16x64x64, shapeCast S16x64x64 (extractStridedSlice S16x1x64x64 ![0, 5, 0, 0] T slices_S16x15x64x64_S16x1x64x64_0_5_0_0) shapeCasts_S16x1x64x64_S16x64x64⟩,
    ⟨S16x64x64, shapeCast S16x64x64 (extractStridedSlice S16x1x64x64 ![0, 6, 0, 0] T slices_S16x15x64x64_S16x1x64x64_0_6_0_0) shapeCasts_S16x1x64x64_S16x64x64⟩,
    ⟨S16x64x64, shapeCast S16x64x64 (extractStridedSlice S16x1x64x64 ![0, 7, 0, 0] T slices_S16x15x64x64_S16x1x64x64_0_7_0_0) shapeCasts_S16x1x64x64_S16x64x64⟩] concatenates_S16x64x64_S16x64x64_S16x64x64_S16x64x64_S16x64x64_S16x64x64_S16x64x64_S16x64x64_S16x64x64_S16x64x64_S16x64x64_S16x64x64_S16x64x768_d2

/-- The whole table. -/
def biasB (T : FVec Ideal S16x15x64x64 .f32) : FVec Ideal S3x16x256x768 .f32 :=
  concatenate S3x16x256x768 0 [⟨S1x16x256x768, broadcastInDim S1x16x256x768 ![1, 2, 3] bcast_S16x256x768_S1x16x256x768_1_2_3 (concatenate S16x256x768 1 [⟨S16x64x768, row_0_0 T⟩, ⟨S16x64x768, row_0_1 T⟩, ⟨S16x64x768, row_0_2 T⟩, ⟨S16x64x768, row_0_3 T⟩] concatenates_S16x64x768_S16x64x768_S16x64x768_S16x64x768_S16x256x768_d1)⟩, ⟨S1x16x256x768, broadcastInDim S1x16x256x768 ![1, 2, 3] bcast_S16x256x768_S1x16x256x768_1_2_3 (concatenate S16x256x768 1 [⟨S16x64x768, row_1_0 T⟩, ⟨S16x64x768, row_1_1 T⟩, ⟨S16x64x768, row_1_2 T⟩, ⟨S16x64x768, row_1_3 T⟩] concatenates_S16x64x768_S16x64x768_S16x64x768_S16x64x768_S16x256x768_d1)⟩, ⟨S1x16x256x768, broadcastInDim S1x16x256x768 ![1, 2, 3] bcast_S16x256x768_S1x16x256x768_1_2_3 (concatenate S16x256x768 1 [⟨S16x64x768, row_2_0 T⟩, ⟨S16x64x768, row_2_1 T⟩, ⟨S16x64x768, row_2_2 T⟩, ⟨S16x64x768, row_2_3 T⟩] concatenates_S16x64x768_S16x64x768_S16x64x768_S16x64x768_S16x256x768_d1)⟩] concatenates_S1x16x256x768_S1x16x256x768_S1x16x256x768_S3x16x256x768_d0

set_option maxHeartbeats 4000000 in
theorem bias_after (W : Valuation τ sig (Elt Ideal)) :
    StableHlo.after hostOps0_6 W (Proc.tc.devRef main_v254) = biasB (W (Proc.tc.devRef main_v42)) := by
  unfold hostOps0_6
  after_results
  rfl

end Cert.NaIdeal.Value

end
-- ==== Proof.NaBiasAt.lean ====
/- The neighbourhood attention's bias table, read at an index. -/
module

public import proofs.«01_k».proof.Proof.NaBias

@[expose] public section

set_option maxRecDepth 65536

noncomputable section

open Idealize.ShloMosaic Idealize.ShloMosaic.TcCoe Idealize.SL.Sem
open Idealize.ShloMosaic.Pipeline (Dat)

namespace Cert.NaIdeal.Value

open Cert.NaIdeal Cert.NaIdeal.Gen

/-- The value outside every window. -/
abbrev out0 : EReal := Ideal.ofBits FTy.f32 0xFF800000#32

theorem slice_apply (o : ℕ) (ho : o < 15) (hs : S16x15x64x64.Slices ![0, o, 0, 0] S16x1x64x64) (hc : S16x1x64x64.ShapeCasts S16x64x64)
    (T : FVec Ideal S16x15x64x64 .f32) (h : Fin 16) (q k : Fin 64) :
    shapeCast S16x64x64 (extractStridedSlice S16x1x64x64 ![0, o, 0, 0] T hs) hc (ix3 h q k) = T (ix4 h ⟨o, ho⟩ q k) := by
  rw [shapeCast_apply _ hc (ix3 h q k) (ix4 h 0 q k) (by
    rw [Shape.rowMajor_val_four, Shape.rowMajor_val_three]; simp [ix3, ix4])]
  refine extractStridedSlice_apply ![0, o, 0, 0] T hs (ix4 h 0 q k) (ix4 h ⟨o, ho⟩ q k) ?_
  intro a
  fin_cases a <;> simp [ix4]

/-- The first band row of the window of row `rr` of the query block, in the band of variant `v`. -/
def startOf (v : Fin 3) (rr : Fin 4) : ℕ := if v.val = 0 then 0 else if v.val = 1 then rr.val else 4

/-- One tile of the table at an index. -/
def tileF (v : Fin 3) (rr : Fin 4) (T : FVec Ideal S16x15x64x64 .f32) (h : Fin 16) (q : Fin 64) (i : ℕ) (kk : Fin 64) : EReal :=
  if startOf v rr ≤ i ∧ i < startOf v rr + 8 then T (ix4 h ⟨(i + 7 - 4 * v.val - rr.val) % 15, Nat.mod_lt _ (by decide)⟩ q kk) else out0

/-- The tiles of one row of the query block. -/
abbrev pieces_0_0 (T : FVec Ideal S16x15x64x64 .f32) : Fin 12 → FVec Ideal S16x64x64 .f32 := ![shapeCast S16x64x64 (extractStridedSlice S16x1x64x64 ![0, 7, 0, 0] T slices_S16x15x64x64_S16x1x64x64_0_7_0_0) shapeCasts_S16x1x64x64_S16x64x64, shapeCast S16x64x64 (extractStridedSlice S16x1x64x64 ![0, 8, 0, 0] T slices_S16x15x64x64_S16x1x64x64_0_8_0_0) shapeCasts_S16x1x64x64_S16x64x64, shapeCast S16x64x64 (extractStridedSlice S16x1x64x64 ![0, 9, 0, 0] T slices_S16x15x64x64_S16x1x64x64_0_9_0_0) shapeCasts_S16x1x64x64_S16x64x64, shapeCast S16x64x64 (extractStridedSlice S16x1x64x64 ![0, 10, 0, 0] T slices_S16x15x64x64_S16x1x64x64_0_10_0_0) shapeCasts_S16x1x64x64_S16x64x64, shapeCast S16x64x64 (extractStridedSlice S16x1x64x64 ![0, 11, 0, 0] T slices_S16x15x64x64_S16x1x64x64_0_11_0_0) shapeCasts_S16x1x64x64_S16x64x64, shapeCast S16x64x64 (extractStridedSlice S16x1x64x64 ![0, 12, 0, 0] T slices_S16x15x64x64_S16x1x64x64_0_12_0_0) shapeCasts_S16x1x64x64_S16x64x64, shapeCast S16x64x64 (extractStridedSlice S16x1x64x64 ![0, 13, 0, 0] T slices_S16x15x64x64_S16x1x64x64_0_13_0_0) shapeCasts_S16x1x64x64_S16x64x64, shapeCast S16x64x64 (extractStridedSlice S16x1x64x64 ![0, 14, 0, 0] T slices_S16x15x64x64_S16x1x64x64_0_14_0_0) shapeCasts_S16x1x64x64_S16x64x64, outside, outside, outside, outside]

theorem pieces_0_0_apply (T : FVec Ideal S16x15x64x64 .f32) (h : Fin 16) (q kk : Fin 64) (n : Fin 12) :
    pieces_0_0 T n (ix3 h q kk) = tileF 0 0 T h q n.val kk := by
  fin_cases n
  · exact (slice_apply 7 (by decide) slices_S16x15x64x64_S16x1x64x64_0_7_0_0 shapeCasts_S16x1x64x64_S16x64x64 T h q kk).trans (if_pos (by decide)).symm
  · exact (slice_apply 8 (by decide) slices_S16x15x64x64_S16x1x64x64_0_8_0_0 shapeCasts_S16x1x64x64_S16x64x64 T h q kk).trans (if_pos (by decide)).symm
  · exact (slice_apply 9 (by decide) slices_S16x15x64x64_S16x1x64x64_0_9_0_0 shapeCasts_S16x1x64x64_S16x64x64 T h q kk).trans (if_pos (by decide)).symm
  · exact (slice_apply 10 (by decide) slices_S16x15x64x64_S16x1x64x64_0_10_0_0 shapeCasts_S16x1x64x64_S16x64x64 T h q kk).trans (if_pos (by decide)).symm
  · exact (slice_apply 11 (by decide) slices_S16x15x64x64_S16x1x64x64_0_11_0_0 shapeCasts_S16x1x64x64_S16x64x64 T h q kk).trans (if_pos (by decide)).symm
  · exact (slice_apply 12 (by decide) slices_S16x15x64x64_S16x1x64x64_0_12_0_0 shapeCasts_S16x1x64x64_S16x64x64 T h q kk).trans (if_pos (by decide)).symm
  · exact (slice_apply 13 (by decide) slices_S16x15x64x64_S16x1x64x64_0_13_0_0 shapeCasts_S16x1x64x64_S16x64x64 T h q kk).trans (if_pos (by decide)).symm
  · exact (slice_apply 14 (by decide) slices_S16x15x64x64_S16x1x64x64_0_14_0_0 shapeCasts_S16x1x64x64_S16x64x64 T h q kk).trans (if_pos (by decide)).symm
  · exact Eq.symm (if_neg (by decide))
  · exact Eq.symm (if_neg (by decide))
  · exact Eq.symm (if_neg (by decide))
  · exact Eq.symm (if_neg (by decide))

theorem row_0_0_apply (T : FVec Ideal S16x15x64x64 .f32) (h : Fin 16) (q : Fin 64) (k : Fin 768) :
    row_0_0 T (ix3 h q k) = tileF 0 0 T h q (k.val / 64) ⟨k.val % 64, Nat.mod_lt _ (by decide)⟩ := by
  refine (concatenate_ofFn_apply (2 : Fin S16x64x768.rank) (pieces_0_0 T) (s₁ := S16x64x64) (t := S16x64x768) concatenates_S16x64x64_S16x64x64_S16x64x64_S16x64x64_S16x64x64_S16x64x64_S16x64x64_S16x64x64_S16x64x64_S16x64x64_S16x64x64_S16x64x64_S16x64x768_d2 rfl 64 rfl (ix3 h q k) ⟨k.val / 64, by omega⟩ rfl (ix3 h q ⟨k.val % 64, Nat.mod_lt _ (by decide)⟩) rfl ?_).trans
    (pieces_0_0_apply T h q _ ⟨k.val / 64, by omega⟩)
  intro b hb; fin_cases b
  · rfl
  · rfl
  · exact absurd rfl hb

/-- The tiles of one row of the query block. -/
abbrev pieces_0_1 (T : FVec Ideal S16x15x64x64 .f32) : Fin 12 → FVec Ideal S16x64x64 .f32 := ![shapeCast S16x64x64 (extractStridedSlice S16x1x64x64 ![0, 6, 0, 0] T slices_S16x15x64x64_S16x1x64x64_0_6_0_0) shapeCasts_S16x1x64x64_S16x64x64, shapeCast S16x64x64 (extractStridedSlice S16x1x64x64 ![0, 7, 0, 0] T slices_S16x15x64x64_S16x1x64x64_0_7_0_0) shapeCasts_S16x1x64x64_S16x64x64, shapeCast S16x64x64 (extractStridedSlice S16x1x64x64 ![0, 8, 0, 0] T slices_S16x15x64x64_S16x1x64x64_0_8_0_0) shapeCasts_S16x1x64x64_S16x64x64, shapeCast S16x64x64 (extractStridedSlice S16x1x64x64 ![0, 9, 0, 0] T slices_S16x15x64x64_S16x1x64x64_0_9_0_0) shapeCasts_S16x1x64x64_S16x64x64, shapeCast S16x64x64 (extractStridedSlice S16x1x64x64 ![0, 10, 0, 0] T slices_S16x15x64x64_S16x1x64x64_0_10_0_0) shapeCasts_S16x1x64x64_S16x64x64, shapeCast S16x64x64 (extractStridedSlice S16x1x64x64 ![0, 11, 0, 0] T slices_S16x15x64x64_S16x1x64x64_0_11_0_0) shapeCasts_S16x1x64x64_S16x64x64, shapeCast S16x64x64 (extractStridedSlice S16x1x64x64 ![0, 12, 0, 0] T slices_S16x15x64x64_S16x1x64x64_0_12_0_0) shapeCasts_S16x1x64x64_S16x64x64, shapeCast S16x64x64 (extractStridedSlice S16x1x64x64 ![0, 13, 0, 0] T slices_S16x15x64x64_S16x1x64x64_0_13_0_0) shapeCasts_S16x1x64x64_S16x64x64, outside, outside, outside, outside]

theorem pieces_0_1_apply (T : FVec Ideal S16x15x64x64 .f32) (h : Fin 16) (q kk : Fin 64) (n : Fin 12) :
    pieces_0_1 T n (ix3 h q kk) = tileF 0 1 T h q n.val kk := by
  fin_cases n
  · exact (slice_apply 6 (by decide) slices_S16x15x64x64_S16x1x64x64_0_6_0_0 shapeCasts_S16x1x64x64_S16x64x64 T h q kk).trans (if_pos (by decide)).symm
  · exact (slice_apply 7 (by decide) slices_S16x15x64x64_S16x1x64x64_0_7_0_0 shapeCasts_S16x1x64x64_S16x64x64 T h q kk).trans (if_pos (by decide)).symm
  · exact (slice_apply 8 (by decide) slices_S16x15x64x64_S16x1x64x64_0_8_0_0 shapeCasts_S16x1x64x64_S16x64x64 T h q kk).trans (if_pos (by decide)).symm
  · exact (slice_apply 9 (by decide) slices_S16x15x64x64_S16x1x64x64_0_9_0_0 shapeCasts_S16x1x64x64_S16x64x64 T h q kk).trans (if_pos (by decide)).symm
  · exact (slice_apply 10 (by decide) slices_S16x15x64x64_S16x1x64x64_0_10_0_0 shapeCasts_S16x1x64x64_S16x64x64 T h q kk).trans (if_pos (by decide)).symm
  · exact (slice_apply 11 (by decide) slices_S16x15x64x64_S16x1x64x64_0_11_0_0 shapeCasts_S16x1x64x64_S16x64x64 T h q kk).trans (if_pos (by decide)).symm
  · exact (slice_apply 12 (by decide) slices_S16x15x64x64_S16x1x64x64_0_12_0_0 shapeCasts_S16x1x64x64_S16x64x64 T h q kk).trans (if_pos (by decide)).symm
  · exact (slice_apply 13 (by decide) slices_S16x15x64x64_S16x1x64x64_0_13_0_0 shapeCasts_S16x1x64x64_S16x64x64 T h q kk).trans (if_pos (by decide)).symm
  · exact Eq.symm (if_neg (by decide))
  · exact Eq.symm (if_neg (by decide))
  · exact Eq.symm (if_neg (by decide))
  · exact Eq.symm (if_neg (by decide))

theorem row_0_1_apply (T : FVec Ideal S16x15x64x64 .f32) (h : Fin 16) (q : Fin 64) (k : Fin 768) :
    row_0_1 T (ix3 h q k) = tileF 0 1 T h q (k.val / 64) ⟨k.val % 64, Nat.mod_lt _ (by decide)⟩ := by
  refine (concatenate_ofFn_apply (2 : Fin S16x64x768.rank) (pieces_0_1 T) (s₁ := S16x64x64) (t := S16x64x768) concatenates_S16x64x64_S16x64x64_S16x64x64_S16x64x64_S16x64x64_S16x64x64_S16x64x64_S16x64x64_S16x64x64_S16x64x64_S16x64x64_S16x64x64_S16x64x768_d2 rfl 64 rfl (ix3 h q k) ⟨k.val / 64, by omega⟩ rfl (ix3 h q ⟨k.val % 64, Nat.mod_lt _ (by decide)⟩) rfl ?_).trans
    (pieces_0_1_apply T h q _ ⟨k.val / 64, by omega⟩)
  intro b hb; fin_cases b
  · rfl
  · rfl
  · exact absurd rfl hb

/-- The tiles of one row of the query block. -/
abbrev pieces_0_2 (T : FVec Ideal S16x15x64x64 .f32) : Fin 12 → FVec Ideal S16x64x64 .f32 := ![shapeCast S16x64x64 (extractStridedSlice S16x1x64x64 ![0, 5, 0, 0] T slices_S16x15x64x64_S16x1x64x64_0_5_0_0) shapeCasts_S16x1x64x64_S16x64x64, shapeCast S16x64x64 (extractStridedSlice S16x1x64x64 ![0, 6, 0, 0] T slices_S16x15x64x64_S16x1x64x64_0_6_0_0) shapeCasts_S16x1x64x64_S16x64x64, shapeCast S16x64x64 (extractStridedSlice S16x1x64x64 ![0, 7, 0, 0] T slices_S16x15x64x64_S16x1x64x64_0_7_0_0) shapeCasts_S16x1x64x64_S16x64x64, shapeCast S16x64x64 (extractStridedSlice S16x1x64x64 ![0, 8, 0, 0] T slices_S16x15x64x64_S16x1x64x64_0_8_0_0) shapeCasts_S16x1x64x64_S16x64x64, shapeCast S16x64x64 (extractStridedSlice S16x1x64x64 ![0, 9, 0, 0] T slices_S16x15x64x64_S16x1x64x64_0_9_0_0) shapeCasts_S16x1x64x64_S16x64x64, shapeCast S16x64x64 (extractStridedSlice S16x1x64x64 ![0, 10, 0, 0] T slices_S16x15x64x64_S16x1x64x64_0_10_0_0) shapeCasts_S16x1x64x64_S16x64x64, shapeCast S16x64x64 (extractStridedSlice S16x1x64x64 ![0, 11, 0, 0] T slices_S16x15x64x64_S16x1x64x64_0_11_0_0) shapeCasts_S16x1x64x64_S16x64x64, shapeCast S16x64x64 (extractStridedSlice S16x1x64x64 ![0, 12, 0, 0] T slices_S16x15x64x64_S16x1x64x64_0_12_0_0) shapeCasts_S16x1x64x64_S16x64x64, outside, outside, outside, outside]

theorem pieces_0_2_apply (T : FVec Ideal S16x15x64x64 .f32) (h : Fin 16) (q kk : Fin 64) (n : Fin 12) :
    pieces_0_2 T n (ix3 h q kk) = tileF 0 2 T h q n.val kk := by
  fin_cases n
  · exact (slice_apply 5 (by decide) slices_S16x15x64x64_S16x1x64x64_0_5_0_0 shapeCasts_S16x1x64x64_S16x64x64 T h q kk).trans (if_pos (by decide)).symm
  · exact (slice_apply 6 (by decide) slices_S16x15x64x64_S16x1x64x64_0_6_0_0 shapeCasts_S16x1x64x64_S16x64x64 T h q kk).trans (if_pos (by decide)).symm
  · exact (slice_apply 7 (by decide) slices_S16x15x64x64_S16x1x64x64_0_7_0_0 shapeCasts_S16x1x64x64_S16x64x64 T h q kk).trans (if_pos (by decide)).symm
  · exact (slice_apply 8 (by decide) slices_S16x15x64x64_S16x1x64x64_0_8_0_0 shapeCasts_S16x1x64x64_S16x64x64 T h q kk).trans (if_pos (by decide)).symm
  · exact (slice_apply 9 (by decide) slices_S16x15x64x64_S16x1x64x64_0_9_0_0 shapeCasts_S16x1x64x64_S16x64x64 T h q kk).trans (if_pos (by decide)).symm
  · exact (slice_apply 10 (by decide) slices_S16x15x64x64_S16x1x64x64_0_10_0_0 shapeCasts_S16x1x64x64_S16x64x64 T h q kk).trans (if_pos (by decide)).symm
  · exact (slice_apply 11 (by decide) slices_S16x15x64x64_S16x1x64x64_0_11_0_0 shapeCasts_S16x1x64x64_S16x64x64 T h q kk).trans (if_pos (by decide)).symm
  · exact (slice_apply 12 (by decide) slices_S16x15x64x64_S16x1x64x64_0_12_0_0 shapeCasts_S16x1x64x64_S16x64x64 T h q kk).trans (if_pos (by decide)).symm
  · exact Eq.symm (if_neg (by decide))
  · exact Eq.symm (if_neg (by decide))
  · exact Eq.symm (if_neg (by decide))
  · exact Eq.symm (if_neg (by decide))

theorem row_0_2_apply (T : FVec Ideal S16x15x64x64 .f32) (h : Fin 16) (q : Fin 64) (k : Fin 768) :
    row_0_2 T (ix3 h q k) = tileF 0 2 T h q (k.val / 64) ⟨k.val % 64, Nat.mod_lt _ (by decide)⟩ := by
  refine (concatenate_ofFn_apply (2 : Fin S16x64x768.rank) (pieces_0_2 T) (s₁ := S16x64x64) (t := S16x64x768) concatenates_S16x64x64_S16x64x64_S16x64x64_S16x64x64_S16x64x64_S16x64x64_S16x64x64_S16x64x64_S16x64x64_S16x64x64_S16x64x64_S16x64x64_S16x64x768_d2 rfl 64 rfl (ix3 h q k) ⟨k.val / 64, by omega⟩ rfl (ix3 h q ⟨k.val % 64, Nat.mod_lt _ (by decide)⟩) rfl ?_).trans
    (pieces_0_2_apply T h q _ ⟨k.val / 64, by omega⟩)
  intro b hb; fin_cases b
  · rfl
  · rfl
  · exact absurd rfl hb

/-- The tiles of one row of the query block. -/
abbrev pieces_0_3 (T : FVec Ideal S16x15x64x64 .f32) : Fin 12 → FVec Ideal S16x64x64 .f32 := ![shapeCast S16x64x64 (extractStridedSlice S16x1x64x64 ![0, 4, 0, 0] T slices_S16x15x64x64_S16x1x64x64_0_4_0_0) shapeCasts_S16x1x64x64_S16x64x64, shapeCast S16x64x64 (extractStridedSlice S16x1x64x64 ![0, 5, 0, 0] T slices_S16x15x64x64_S16x1x64x64_0_5_0_0) shapeCasts_S16x1x64x64_S16x64x64, shapeCast S16x64x64 (extractStridedSlice S16x1x64x64 ![0, 6, 0, 0] T slices_S16x15x64x64_S16x1x64x64_0_6_0_0) shapeCasts_S16x1x64x64_S16x64x64, shapeCast S16x64x64 (extractStridedSlice S16x1x64x64 ![0, 7, 0, 0] T slices_S16x15x64x64_S16x1x64x64_0_7_0_0) shapeCasts_S16x1x64x64_S16x64x64, shapeCast S16x64x64 (extractStridedSlice S16x1x64x64 ![0, 8, 0, 0] T slices_S16x15x64x64_S16x1x64x64_0_8_0_0) shapeCasts_S16x1x64x64_S16x64x64, shapeCast S16x64x64 (extractStridedSlice S16x1x64x64 ![0, 9, 0, 0] T slices_S16x15x64x64_S16x1x64x64_0_9_0_0) shapeCasts_S16x1x64x64_S16x64x64, shapeCast S16x64x64 (extractStridedSlice S16x1x64x64 ![0, 10, 0, 0] T slices_S16x15x64x64_S16x1x64x64_0_10_0_0) shapeCasts_S16x1x64x64_S16x64x64, shapeCast S16x64x64 (extractStridedSlice S16x1x64x64 ![0, 11, 0, 0] T slices_S16x15x64x64_S16x1x64x64_0_11_0_0) shapeCasts_S16x1x64x64_S16x64x64, outside, outside, outside, outside]

theorem pieces_0_3_apply (T : FVec Ideal S16x15x64x64 .f32) (h : Fin 16) (q kk : Fin 64) (n : Fin 12) :
    pieces_0_3 T n (ix3 h q kk) = tileF 0 3 T h q n.val kk := by
  fin_cases n
  · exact (slice_apply 4 (by decide) slices_S16x15x64x64_S16x1x64x64_0_4_0_0 shapeCasts_S16x1x64x64_S16x64x64 T h q kk).trans (if_pos (by decide)).symm
  · exact (slice_apply 5 (by decide) slices_S16x15x64x64_S16x1x64x64_0_5_0_0 shapeCasts_S16x1x64x64_S16x64x64 T h q kk).trans (if_pos (by decide)).symm
  · exact (slice_apply 6 (by decide) slices_S16x15x64x64_S16x1x64x64_0_6_0_0 shapeCasts_S16x1x64x64_S16x64x64 T h q kk).trans (if_pos (by decide)).symm
  · exact (slice_apply 7 (by decide) slices_S16x15x64x64_S16x1x64x64_0_7_0_0 shapeCasts_S16x1x64x64_S16x64x64 T h q kk).trans (if_pos (by decide)).symm
  · exact (slice_apply 8 (by decide) slices_S16x15x64x64_S16x1x64x64_0_8_0_0 shapeCasts_S16x1x64x64_S16x64x64 T h q kk).trans (if_pos (by decide)).symm
  · exact (slice_apply 9 (by decide) slices_S16x15x64x64_S16x1x64x64_0_9_0_0 shapeCasts_S16x1x64x64_S16x64x64 T h q kk).trans (if_pos (by decide)).symm
  · exact (slice_apply 10 (by decide) slices_S16x15x64x64_S16x1x64x64_0_10_0_0 shapeCasts_S16x1x64x64_S16x64x64 T h q kk).trans (if_pos (by decide)).symm
  · exact (slice_apply 11 (by decide) slices_S16x15x64x64_S16x1x64x64_0_11_0_0 shapeCasts_S16x1x64x64_S16x64x64 T h q kk).trans (if_pos (by decide)).symm
  · exact Eq.symm (if_neg (by decide))
  · exact Eq.symm (if_neg (by decide))
  · exact Eq.symm (if_neg (by decide))
  · exact Eq.symm (if_neg (by decide))

theorem row_0_3_apply (T : FVec Ideal S16x15x64x64 .f32) (h : Fin 16) (q : Fin 64) (k : Fin 768) :
    row_0_3 T (ix3 h q k) = tileF 0 3 T h q (k.val / 64) ⟨k.val % 64, Nat.mod_lt _ (by decide)⟩ := by
  refine (concatenate_ofFn_apply (2 : Fin S16x64x768.rank) (pieces_0_3 T) (s₁ := S16x64x64) (t := S16x64x768) concatenates_S16x64x64_S16x64x64_S16x64x64_S16x64x64_S16x64x64_S16x64x64_S16x64x64_S16x64x64_S16x64x64_S16x64x64_S16x64x64_S16x64x64_S16x64x768_d2 rfl 64 rfl (ix3 h q k) ⟨k.val / 64, by omega⟩ rfl (ix3 h q ⟨k.val % 64, Nat.mod_lt _ (by decide)⟩) rfl ?_).trans
    (pieces_0_3_apply T h q _ ⟨k.val / 64, by omega⟩)
  intro b hb; fin_cases b
  · rfl
  · rfl
  · exact absurd rfl hb

/-- The tiles of one row of the query block. -/
abbrev pieces_1_0 (T : FVec Ideal S16x15x64x64 .f32) : Fin 12 → FVec Ideal S16x64x64 .f32 := ![shapeCast S16x64x64 (extractStridedSlice S16x1x64x64 ![0, 3, 0, 0] T slices_S16x15x64x64_S16x1x64x64_0_3_0_0) shapeCasts_S16x1x64x64_S16x64x64, shapeCast S16x64x64 (extractStridedSlice S16x1x64x64 ![0, 4, 0, 0] T slices_S16x15x64x64_S16x1x64x64_0_4_0_0) shapeCasts_S16x1x64x64_S16x64x64, shapeCast S16x64x64 (extractStridedSlice S16x1x64x64 ![0, 5, 0, 0] T slices_S16x15x64x64_S16x1x64x64_0_5_0_0) shapeCasts_S16x1x64x64_S16x64x64, shapeCast S16x64x64 (extractStridedSlice S16x1x64x64 ![0, 6, 0, 0] T slices_S16x15x64x64_S16x1x64x64_0_6_0_0) shapeCasts_S16x1x64x64_S16x64x64, shapeCast S16x64x64 (extractStridedSlice S16x1x64x64 ![0, 7, 0, 0] T slices_S16x15x64x64_S16x1x64x64_0_7_0_0) shapeCasts_S16x1x64x64_S16x64x64, shapeCast S16x64x64 (extractStridedSlice S16x1x64x64 ![0, 8, 0, 0] T slices_S16x15x64x64_S16x1x64x64_0_8_0_0) shapeCasts_S16x1x64x64_S16x64x64, shapeCast S16x64x64 (extractStridedSlice S16x1x64x64 ![0, 9, 0, 0] T slices_S16x15x64x64_S16x1x64x64_0_9_0_0) shapeCasts_S16x1x64x64_S16x64x64, shapeCast S16x64x64 (extractStridedSlice S16x1x64x64 ![0, 10, 0, 0] T slices_S16x15x64x64_S16x1x64x64_0_10_0_0) shapeCasts_S16x1x64x64_S16x64x64, outside, outside, outside, outside]

theorem pieces_1_0_apply (T : FVec Ideal S16x15x64x64 .f32) (h : Fin 16) (q kk : Fin 64) (n : Fin 12) :
    pieces_1_0 T n (ix3 h q kk) = tileF 1 0 T h q n.val kk := by
  fin_cases n
  · exact (slice_apply 3 (by decide) slices_S16x15x64x64_S16x1x64x64_0_3_0_0 shapeCasts_S16x1x64x64_S16x64x64 T h q kk).trans (if_pos (by decide)).symm
  · exact (slice_apply 4 (by decide) slices_S16x15x64x64_S16x1x64x64_0_4_0_0 shapeCasts_S16x1x64x64_S16x64x64 T h q kk).trans (if_pos (by decide)).symm
  · exact (slice_apply 5 (by decide) slices_S16x15x64x64_S16x1x64x64_0_5_0_0 shapeCasts_S16x1x64x64_S16x64x64 T h q kk).trans (if_pos (by decide)).symm
  · exact (slice_apply 6 (by decide) slices_S16x15x64x64_S16x1x64x64_0_6_0_0 shapeCasts_S16x1x64x64_S16x64x64 T h q kk).trans (if_pos (by decide)).symm
  · exact (slice_apply 7 (by decide) slices_S16x15x64x64_S16x1x64x64_0_7_0_0 shapeCasts_S16x1x64x64_S16x64x64 T h q kk).trans (if_pos (by decide)).symm
  · exact (slice_apply 8 (by decide) slices_S16x15x64x64_S16x1x64x64_0_8_0_0 shapeCasts_S16x1x64x64_S16x64x64 T h q kk).trans (if_pos (by decide)).symm
  · exact (slice_apply 9 (by decide) slices_S16x15x64x64_S16x1x64x64_0_9_0_0 shapeCasts_S16x1x64x64_S16x64x64 T h q kk).trans (if_pos (by decide)).symm
  · exact (slice_apply 10 (by decide) slices_S16x15x64x64_S16x1x64x64_0_10_0_0 shapeCasts_S16x1x64x64_S16x64x64 T h q kk).trans (if_pos (by decide)).symm
  · exact Eq.symm (if_neg (by decide))
  · exact Eq.symm (if_neg (by decide))
  · exact Eq.symm (if_neg (by decide))
  · exact Eq.symm (if_neg (by decide))

theorem row_1_0_apply (T : FVec Ideal S16x15x64x64 .f32) (h : Fin 16) (q : Fin 64) (k : Fin 768) :
    row_1_0 T (ix3 h q k) = tileF 1 0 T h q (k.val / 64) ⟨k.val % 64, Nat.mod_lt _ (by decide)⟩ := by
  refine (concatenate_ofFn_apply (2 : Fin S16x64x768.rank) (pieces_1_0 T) (s₁ := S16x64x64) (t := S16x64x768) concatenates_S16x64x64_S16x64x64_S16x64x64_S16x64x64_S16x64x64_S16x64x64_S16x64x64_S16x64x64_S16x64x64_S16x64x64_S16x64x64_S16x64x64_S16x64x768_d2 rfl 64 rfl (ix3 h q k) ⟨k.val / 64, by omega⟩ rfl (ix3 h q ⟨k.val % 64, Nat.mod_lt _ (by decide)⟩) rfl ?_).trans
    (pieces_1_0_apply T h q _ ⟨k.val / 64, by omega⟩)
  intro b hb; fin_cases b
  · rfl
  · rfl
  · exact absurd rfl hb

/-- The tiles of one row of the query block. -/
abbrev pieces_1_1 (T : FVec Ideal S16x15x64x64 .f32) : Fin 12 → FVec Ideal S16x64x64 .f32 := ![outside, shapeCast S16x64x64 (extractStridedSlice S16x1x64x64 ![0, 3, 0, 0] T slices_S16x15x64x64_S16x1x64x64_0_3_0_0) shapeCasts_S16x1x64x64_S16x64x64, shapeCast S16x64x64 (extractStridedSlice S16x1x64x64 ![0, 4, 0, 0] T slices_S16x15x64x64_S16x1x64x64_0_4_0_0) shapeCasts_S16x1x64x64_S16x64x64, shapeCast S16x64x64 (extractStridedSlice S16x1x64x64 ![0, 5, 0, 0] T slices_S16x15x64x64_S16x1x64x64_0_5_0_0) shapeCasts_S16x1x64x64_S16x64x64, shapeCast S16x64x64 (extractStridedSlice S16x1x64x64 ![0, 6, 0, 0] T slices_S16x15x64x64_S16x1x64x64_0_6_0_0) shapeCasts_S16x1x64x64_S16x64x64, shapeCast S16x64x64 (extractStridedSlice S16x1x64x64 ![0, 7, 0, 0] T slices_S16x15x64x64_S16x1x64x64_0_7_0_0) shapeCasts_S16x1x64x64_S16x64x64, shapeCast S16x64x64 (extractStridedSlice S16x1x64x64 ![0, 8, 0, 0] T slices_S16x15x64x64_S16x1x64x64_0_8_0_0) shapeCasts_S16x1x64x64_S16x64x64, shapeCast S16x64x64 (extractStridedSlice S16x1x64x64 ![0, 9, 0, 0] T slices_S16x15x64x64_S16x1x64x64_0_9_0_0) shapeCasts_S16x1x64x64_S16x64x64, shapeCast S16x64x64 (extractStridedSlice S16x1x64x64 ![0, 10, 0, 0] T slices_S16x15x64x64_S16x1x64x64_0_10_0_0) shapeCasts_S16x1x64x64_S16x64x64, outside, outside, outside]

theorem pieces_1_1_apply (T : FVec Ideal S16x15x64x64 .f32) (h : Fin 16) (q kk : Fin 64) (n : Fin 12) :
    pieces_1_1 T n (ix3 h q kk) = tileF 1 1 T h q n.val kk := by
  fin_cases n
  · exact Eq.symm (if_neg (by decide))
  · exact (slice_apply 3 (by decide) slices_S16x15x64x64_S16x1x64x64_0_3_0_0 shapeCasts_S16x1x64x64_S16x64x64 T h q kk).trans (if_pos (by decide)).symm
  · exact (slice_apply 4 (by decide) slices_S16x15x64x64_S16x1x64x64_0_4_0_0 shapeCasts_S16x1x64x64_S16x64x64 T h q kk).trans (if_pos (by decide)).symm
  · exact (slice_apply 5 (by decide) slices_S16x15x64x64_S16x1x64x64_0_5_0_0 shapeCasts_S16x1x64x64_S16x64x64 T h q kk).trans (if_pos (by decide)).symm
  · exact (slice_apply 6 (by decide) slices_S16x15x64x64_S16x1x64x64_0_6_0_0 shapeCasts_S16x1x64x64_S16x64x64 T h q kk).trans (if_pos (by decide)).symm
  · exact (slice_apply 7 (by decide) slices_S16x15x64x64_S16x1x64x64_0_7_0_0 shapeCasts_S16x1x64x64_S16x64x64 T h q kk).trans (if_pos (by decide)).symm
  · exact (slice_apply 8 (by decide) slices_S16x15x64x64_S16x1x64x64_0_8_0_0 shapeCasts_S16x1x64x64_S16x64x64 T h q kk).trans (if_pos (by decide)).symm
  · exact (slice_apply 9 (by decide) slices_S16x15x64x64_S16x1x64x64_0_9_0_0 shapeCasts_S16x1x64x64_S16x64x64 T h q kk).trans (if_pos (by decide)).symm
  · exact (slice_apply 10 (by decide) slices_S16x15x64x64_S16x1x64x64_0_10_0_0 shapeCasts_S16x1x64x64_S16x64x64 T h q kk).trans (if_pos (by decide)).symm
  · exact Eq.symm (if_neg (by decide))
  · exact Eq.symm (if_neg (by decide))
  · exact Eq.symm (if_neg (by decide))

theorem row_1_1_apply (T : FVec Ideal S16x15x64x64 .f32) (h : Fin 16) (q : Fin 64) (k : Fin 768) :
    row_1_1 T (ix3 h q k) = tileF 1 1 T h q (k.val / 64) ⟨k.val % 64, Nat.mod_lt _ (by decide)⟩ := by
  refine (concatenate_ofFn_apply (2 : Fin S16x64x768.rank) (pieces_1_1 T) (s₁ := S16x64x64) (t := S16x64x768) concatenates_S16x64x64_S16x64x64_S16x64x64_S16x64x64_S16x64x64_S16x64x64_S16x64x64_S16x64x64_S16x64x64_S16x64x64_S16x64x64_S16x64x64_S16x64x768_d2 rfl 64 rfl (ix3 h q k) ⟨k.val / 64, by omega⟩ rfl (ix3 h q ⟨k.val % 64, Nat.mod_lt _ (by decide)⟩) rfl ?_).trans
    (pieces_1_1_apply T h q _ ⟨k.val / 64, by omega⟩)
  intro b hb; fin_cases b
  · rfl
  · rfl
  · exact absurd rfl hb

/-- The tiles of one row of the query block. -/
abbrev pieces_1_2 (T : FVec Ideal S16x15x64x64 .f32) : Fin 12 → FVec Ideal S16x64x64 .f32 := ![outside, outside, shapeCast S16x64x64 (extractStridedSlice S16x1x64x64 ![0, 3, 0, 0] T slices_S16x15x64x64_S16x1x64x64_0_3_0_0) shapeCasts_S16x1x64x64_S16x64x64, shapeCast S16x64x64 (extractStridedSlice S16x1x64x64 ![0, 4, 0, 0] T slices_S16x15x64x64_S16x1x64x64_0_4_0_0) shapeCasts_S16x1x64x64_S16x64x64, shapeCast S16x64x64 (extractStridedSlice S16x1x64x64 ![0, 5, 0, 0] T slices_S16x15x64x64_S16x1x64x64_0_5_0_0) shapeCasts_S16x1x64x64_S16x64x64, shapeCast S16x64x64 (extractStridedSlice S16x1x64x64 ![0, 6, 0, 0] T slices_S16x15x64x64_S16x1x64x64_0_6_0_0) shapeCasts_S16x1x64x64_S16x64x64, shapeCast S16x64x64 (extractStridedSlice S16x1x64x64 ![0, 7, 0, 0] T slices_S16x15x64x64_S16x1x64x64_0_7_0_0) shapeCasts_S16x1x64x64_S16x64x64, shapeCast S16x64x64 (extractStridedSlice S16x1x64x64 ![0, 8, 0, 0] T slices_S16x15x64x64_S16x1x64x64_0_8_0_0) shapeCasts_S16x1x64x64_S16x64x64, shapeCast S16x64x64 (extractStridedSlice S16x1x64x64 ![0, 9, 0, 0] T slices_S16x15x64x64_S16x1x64x64_0_9_0_0) shapeCasts_S16x1x64x64_S16x64x64, shapeCast S16x64x64 (extractStridedSlice S16x1x64x64 ![0, 10, 0, 0] T slices_S16x15x64x64_S16x1x64x64_0_10_0_0) shapeCasts_S16x1x64x64_S16x64x64, outside, outside]

theorem pieces_1_2_apply (T : FVec Ideal S16x15x64x64 .f32) (h : Fin 16) (q kk : Fin 64) (n : Fin 12) :
    pieces_1_2 T n (ix3 h q kk) = tileF 1 2 T h q n.val kk := by
  fin_cases n
  · exact Eq.symm (if_neg (by decide))
  · exact Eq.symm (if_neg (by decide))
  · exact (slice_apply 3 (by decide) slices_S16x15x64x64_S16x1x64x64_0_3_0_0 shapeCasts_S16x1x64x64_S16x64x64 T h q kk).trans (if_pos (by decide)).symm
  · exact (slice_apply 4 (by decide) slices_S16x15x64x64_S16x1x64x64_0_4_0_0 shapeCasts_S16x1x64x64_S16x64x64 T h q kk).trans (if_pos (by decide)).symm
  · exact (slice_apply 5 (by decide) slices_S16x15x64x64_S16x1x64x64_0_5_0_0 shapeCasts_S16x1x64x64_S16x64x64 T h q kk).trans (if_pos (by decide)).symm
  · exact (slice_apply 6 (by decide) slices_S16x15x64x64_S16x1x64x64_0_6_0_0 shapeCasts_S16x1x64x64_S16x64x64 T h q kk).trans (if_pos (by decide)).symm
  · exact (slice_apply 7 (by decide) slices_S16x15x64x64_S16x1x64x64_0_7_0_0 shapeCasts_S16x1x64x64_S16x64x64 T h q kk).trans (if_pos (by decide)).symm
  · exact (slice_apply 8 (by decide) slices_S16x15x64x64_S16x1x64x64_0_8_0_0 shapeCasts_S16x1x64x64_S16x64x64 T h q kk).trans (if_pos (by decide)).symm
  · exact (slice_apply 9 (by decide) slices_S16x15x64x64_S16x1x64x64_0_9_0_0 shapeCasts_S16x1x64x64_S16x64x64 T h q kk).trans (if_pos (by decide)).symm
  · exact (slice_apply 10 (by decide) slices_S16x15x64x64_S16x1x64x64_0_10_0_0 shapeCasts_S16x1x64x64_S16x64x64 T h q kk).trans (if_pos (by decide)).symm
  · exact Eq.symm (if_neg (by decide))
  · exact Eq.symm (if_neg (by decide))

theorem row_1_2_apply (T : FVec Ideal S16x15x64x64 .f32) (h : Fin 16) (q : Fin 64) (k : Fin 768) :
    row_1_2 T (ix3 h q k) = tileF 1 2 T h q (k.val / 64) ⟨k.val % 64, Nat.mod_lt _ (by decide)⟩ := by
  refine (concatenate_ofFn_apply (2 : Fin S16x64x768.rank) (pieces_1_2 T) (s₁ := S16x64x64) (t := S16x64x768) concatenates_S16x64x64_S16x64x64_S16x64x64_S16x64x64_S16x64x64_S16x64x64_S16x64x64_S16x64x64_S16x64x64_S16x64x64_S16x64x64_S16x64x64_S16x64x768_d2 rfl 64 rfl (ix3 h q k) ⟨k.val / 64, by omega⟩ rfl (ix3 h q ⟨k.val % 64, Nat.mod_lt _ (by decide)⟩) rfl ?_).trans
    (pieces_1_2_apply T h q _ ⟨k.val / 64, by omega⟩)
  intro b hb; fin_cases b
  · rfl
  · rfl
  · exact absurd rfl hb

/-- The tiles of one row of the query block. -/
abbrev pieces_1_3 (T : FVec Ideal S16x15x64x64 .f32) : Fin 12 → FVec Ideal S16x64x64 .f32 := ![outside, outside, outside, shapeCast S16x64x64 (extractStridedSlice S16x1x64x64 ![0, 3, 0, 0] T slices_S16x15x64x64_S16x1x64x64_0_3_0_0) shapeCasts_S16x1x64x64_S16x64x64, shapeCast S16x64x64 (extractStridedSlice S16x1x64x64 ![0, 4, 0, 0] T slices_S16x15x64x64_S16x1x64x64_0_4_0_0) shapeCasts_S16x1x64x64_S16x64x64, shapeCast S16x64x64 (extractStridedSlice S16x1x64x64 ![0, 5, 0, 0] T slices_S16x15x64x64_S16x1x64x64_0_5_0_0) shapeCasts_S16x1x64x64_S16x64x64, shapeCast S16x64x64 (extractStridedSlice S16x1x64x64 ![0, 6, 0, 0] T slices_S16x15x64x64_S16x1x64x64_0_6_0_0) shapeCasts_S16x1x64x64_S16x64x64, shapeCast S16x64x64 (extractStridedSlice S16x1x64x64 ![0, 7, 0, 0] T slices_S16x15x64x64_S16x1x64x64_0_7_0_0) shapeCasts_S16x1x64x64_S16x64x64, shapeCast S16x64x64 (extractStridedSlice S16x1x64x64 ![0, 8, 0, 0] T slices_S16x15x64x64_S16x1x64x64_0_8_0_0) shapeCasts_S16x1x64x64_S16x64x64, shapeCast S16x64x64 (extractStridedSlice S16x1x64x64 ![0, 9, 0, 0] T slices_S16x15x64x64_S16x1x64x64_0_9_0_0) shapeCasts_S16x1x64x64_S16x64x64, shapeCast S16x64x64 (extractStridedSlice S16x1x64x64 ![0, 10, 0, 0] T slices_S16x15x64x64_S16x1x64x64_0_10_0_0) shapeCasts_S16x1x64x64_S16x64x64, outside]

theorem pieces_1_3_apply (T : FVec Ideal S16x15x64x64 .f32) (h : Fin 16) (q kk : Fin 64) (n : Fin 12) :
    pieces_1_3 T n (ix3 h q kk) = tileF 1 3 T h q n.val kk := by
  fin_cases n
  · exact Eq.symm (if_neg (by decide))
  · exact Eq.symm (if_neg (by decide))
  · exact Eq.symm (if_neg (by decide))
  · exact (slice_apply 3 (by decide) slices_S16x15x64x64_S16x1x64x64_0_3_0_0 shapeCasts_S16x1x64x64_S16x64x64 T h q kk).trans (if_pos (by decide)).symm
  · exact (slice_apply 4 (by decide) slices_S16x15x64x64_S16x1x64x64_0_4_0_0 shapeCasts_S16x1x64x64_S16x64x64 T h q kk).trans (if_pos (by decide)).symm
  · exact (slice_apply 5 (by decide) slices_S16x15x64x64_S16x1x64x64_0_5_0_0 shapeCasts_S16x1x64x64_S16x64x64 T h q kk).trans (if_pos (by decide)).symm
  · exact (slice_apply 6 (by decide) slices_S16x15x64x64_S16x1x64x64_0_6_0_0 shapeCasts_S16x1x64x64_S16x64x64 T h q kk).trans (if_pos (by decide)).symm
  · exact (slice_apply 7 (by decide) slices_S16x15x64x64_S16x1x64x64_0_7_0_0 shapeCasts_S16x1x64x64_S16x64x64 T h q kk).trans (if_pos (by decide)).symm
  · exact (slice_apply 8 (by decide) slices_S16x15x64x64_S16x1x64x64_0_8_0_0 shapeCasts_S16x1x64x64_S16x64x64 T h q kk).trans (if_pos (by decide)).symm
  · exact (slice_apply 9 (by decide) slices_S16x15x64x64_S16x1x64x64_0_9_0_0 shapeCasts_S16x1x64x64_S16x64x64 T h q kk).trans (if_pos (by decide)).symm
  · exact (slice_apply 10 (by decide) slices_S16x15x64x64_S16x1x64x64_0_10_0_0 shapeCasts_S16x1x64x64_S16x64x64 T h q kk).trans (if_pos (by decide)).symm
  · exact Eq.symm (if_neg (by decide))

theorem row_1_3_apply (T : FVec Ideal S16x15x64x64 .f32) (h : Fin 16) (q : Fin 64) (k : Fin 768) :
    row_1_3 T (ix3 h q k) = tileF 1 3 T h q (k.val / 64) ⟨k.val % 64, Nat.mod_lt _ (by decide)⟩ := by
  refine (concatenate_ofFn_apply (2 : Fin S16x64x768.rank) (pieces_1_3 T) (s₁ := S16x64x64) (t := S16x64x768) concatenates_S16x64x64_S16x64x64_S16x64x64_S16x64x64_S16x64x64_S16x64x64_S16x64x64_S16x64x64_S16x64x64_S16x64x64_S16x64x64_S16x64x64_S16x64x768_d2 rfl 64 rfl (ix3 h q k) ⟨k.val / 64, by omega⟩ rfl (ix3 h q ⟨k.val % 64, Nat.mod_lt _ (by decide)⟩) rfl ?_).trans
    (pieces_1_3_apply T h q _ ⟨k.val / 64, by omega⟩)
  intro b hb; fin_cases b
  · rfl
  · rfl
  · exact absurd rfl hb

/-- The tiles of one row of the query block. -/
abbrev pieces_2_0 (T : FVec Ideal S16x15x64x64 .f32) : Fin 12 → FVec Ideal S16x64x64 .f32 := ![outside, outside, outside, outside, shapeCast S16x64x64 (extractStridedSlice S16x1x64x64 ![0, 3, 0, 0] T slices_S16x15x64x64_S16x1x64x64_0_3_0_0) shapeCasts_S16x1x64x64_S16x64x64, shapeCast S16x64x64 (extractStridedSlice S16x1x64x64 ![0, 4, 0, 0] T slices_S16x15x64x64_S16x1x64x64_0_4_0_0) shapeCasts_S16x1x64x64_S16x64x64, shapeCast S16x64x64 (extractStridedSlice S16x1x64x64 ![0, 5, 0, 0] T slices_S16x15x64x64_S16x1x64x64_0_5_0_0) shapeCasts_S16x1x64x64_S16x64x64, shapeCast S16x64x64 (extractStridedSlice S16x1x64x64 ![0, 6, 0, 0] T slices_S16x15x64x64_S16x1x64x64_0_6_0_0) shapeCasts_S16x1x64x64_S16x64x64, shapeCast S16x64x64 (extractStridedSlice S16x1x64x64 ![0, 7, 0, 0] T slices_S16x15x64x64_S16x1x64x64_0_7_0_0) shapeCasts_S16x1x64x64_S16x64x64, shapeCast S16x64x64 (extractStridedSlice S16x1x64x64 ![0, 8, 0, 0] T slices_S16x15x64x64_S16x1x64x64_0_8_0_0) shapeCasts_S16x1x64x64_S16x64x64, shapeCast S16x64x64 (extractStridedSlice S16x1x64x64 ![0, 9, 0, 0] T slices_S16x15x64x64_S16x1x64x64_0_9_0_0) shapeCasts_S16x1x64x64_S16x64x64, shapeCast S16x64x64 (extractStridedSlice S16x1x64x64 ![0, 10, 0, 0] T slices_S16x15x64x64_S16x1x64x64_0_10_0_0) shapeCasts_S16x1x64x64_S16x64x64]

theorem pieces_2_0_apply (T : FVec Ideal S16x15x64x64 .f32) (h : Fin 16) (q kk : Fin 64) (n : Fin 12) :
    pieces_2_0 T n (ix3 h q kk) = tileF 2 0 T h q n.val kk := by
  fin_cases n
  · exact Eq.symm (if_neg (by decide))
  · exact Eq.symm (if_neg (by decide))
  · exact Eq.symm (if_neg (by decide))
  · exact Eq.symm (if_neg (by decide))
  · exact (slice_apply 3 (by decide) slices_S16x15x64x64_S16x1x64x64_0_3_0_0 shapeCasts_S16x1x64x64_S16x64x64 T h q kk).trans (if_pos (by decide)).symm
  · exact (slice_apply 4 (by decide) slices_S16x15x64x64_S16x1x64x64_0_4_0_0 shapeCasts_S16x1x64x64_S16x64x64 T h q kk).trans (if_pos (by decide)).symm
  · exact (slice_apply 5 (by decide) slices_S16x15x64x64_S16x1x64x64_0_5_0_0 shapeCasts_S16x1x64x64_S16x64x64 T h q kk).trans (if_pos (by decide)).symm
  · exact (slice_apply 6 (by decide) slices_S16x15x64x64_S16x1x64x64_0_6_0_0 shapeCasts_S16x1x64x64_S16x64x64 T h q kk).trans (if_pos (by decide)).symm
  · exact (slice_apply 7 (by decide) slices_S16x15x64x64_S16x1x64x64_0_7_0_0 shapeCasts_S16x1x64x64_S16x64x64 T h q kk).trans (if_pos (by decide)).symm
  · exact (slice_apply 8 (by decide) slices_S16x15x64x64_S16x1x64x64_0_8_0_0 shapeCasts_S16x1x64x64_S16x64x64 T h q kk).trans (if_pos (by decide)).symm
  · exact (slice_apply 9 (by decide) slices_S16x15x64x64_S16x1x64x64_0_9_0_0 shapeCasts_S16x1x64x64_S16x64x64 T h q kk).trans (if_pos (by decide)).symm
  · exact (slice_apply 10 (by decide) slices_S16x15x64x64_S16x1x64x64_0_10_0_0 shapeCasts_S16x1x64x64_S16x64x64 T h q kk).trans (if_pos (by decide)).symm

theorem row_2_0_apply (T : FVec Ideal S16x15x64x64 .f32) (h : Fin 16) (q : Fin 64) (k : Fin 768) :
    row_2_0 T (ix3 h q k) = tileF 2 0 T h q (k.val / 64) ⟨k.val % 64, Nat.mod_lt _ (by decide)⟩ := by
  refine (concatenate_ofFn_apply (2 : Fin S16x64x768.rank) (pieces_2_0 T) (s₁ := S16x64x64) (t := S16x64x768) concatenates_S16x64x64_S16x64x64_S16x64x64_S16x64x64_S16x64x64_S16x64x64_S16x64x64_S16x64x64_S16x64x64_S16x64x64_S16x64x64_S16x64x64_S16x64x768_d2 rfl 64 rfl (ix3 h q k) ⟨k.val / 64, by omega⟩ rfl (ix3 h q ⟨k.val % 64, Nat.mod_lt _ (by decide)⟩) rfl ?_).trans
    (pieces_2_0_apply T h q _ ⟨k.val / 64, by omega⟩)
  intro b hb; fin_cases b
  · rfl
  · rfl
  · exact absurd rfl hb

/-- The tiles of one row of the query block. -/
abbrev pieces_2_1 (T : FVec Ideal S16x15x64x64 .f32) : Fin 12 → FVec Ideal S16x64x64 .f32 := ![outside, outside, outside, outside, shapeCast S16x64x64 (extractStridedSlice S16x1x64x64 ![0, 2, 0, 0] T slices_S16x15x64x64_S16x1x64x64_0_2_0_0) shapeCasts_S16x1x64x64_S16x64x64, shapeCast S16x64x64 (extractStridedSlice S16x1x64x64 ![0, 3, 0, 0] T slices_S16x15x64x64_S16x1x64x64_0_3_0_0) shapeCasts_S16x1x64x64_S16x64x64, shapeCast S16x64x64 (extractStridedSlice S16x1x64x64 ![0, 4, 0, 0] T slices_S16x15x64x64_S16x1x64x64_0_4_0_0) shapeCasts_S16x1x64x64_S16x64x64, shapeCast S16x64x64 (extractStridedSlice S16x1x64x64 ![0, 5, 0, 0] T slices_S16x15x64x64_S16x1x64x64_0_5_0_0) shapeCasts_S16x1x64x64_S16x64x64, shapeCast S16x64x64 (extractStridedSlice S16x1x64x64 ![0, 6, 0, 0] T slices_S16x15x64x64_S16x1x64x64_0_6_0_0) shapeCasts_S16x1x64x64_S16x64x64, shapeCast S16x64x64 (extractStridedSlice S16x1x64x64 ![0, 7, 0, 0] T slices_S16x15x64x64_S16x1x64x64_0_7_0_0) shapeCasts_S16x1x64x64_S16x64x64, shapeCast S16x64x64 (extractStridedSlice S16x1x64x64 ![0, 8, 0, 0] T slices_S16x15x64x64_S16x1x64x64_0_8_0_0) shapeCasts_S16x1x64x64_S16x64x64, shapeCast S16x64x64 (extractStridedSlice S16x1x64x64 ![0, 9, 0, 0] T slices_S16x15x64x64_S16x1x64x64_0_9_0_0) shapeCasts_S16x1x64x64_S16x64x64]

theorem pieces_2_1_apply (T : FVec Ideal S16x15x64x64 .f32) (h : Fin 16) (q kk : Fin 64) (n : Fin 12) :
    pieces_2_1 T n (ix3 h q kk) = tileF 2 1 T h q n.val kk := by
  fin_cases n
  · exact Eq.symm (if_neg (by decide))
  · exact Eq.symm (if_neg (by decide))
  · exact Eq.symm (if_neg (by decide))
  · exact Eq.symm (if_neg (by decide))
  · exact (slice_apply 2 (by decide) slices_S16x15x64x64_S16x1x64x64_0_2_0_0 shapeCasts_S16x1x64x64_S16x64x64 T h q kk).trans (if_pos (by decide)).symm
  · exact (slice_apply 3 (by decide) slices_S16x15x64x64_S16x1x64x64_0_3_0_0 shapeCasts_S16x1x64x64_S16x64x64 T h q kk).trans (if_pos (by decide)).symm
  · exact (slice_apply 4 (by decide) slices_S16x15x64x64_S16x1x64x64_0_4_0_0 shapeCasts_S16x1x64x64_S16x64x64 T h q kk).trans (if_pos (by decide)).symm
  · exact (slice_apply 5 (by decide) slices_S16x15x64x64_S16x1x64x64_0_5_0_0 shapeCasts_S16x1x64x64_S16x64x64 T h q kk).trans (if_pos (by decide)).symm
  · exact (slice_apply 6 (by decide) slices_S16x15x64x64_S16x1x64x64_0_6_0_0 shapeCasts_S16x1x64x64_S16x64x64 T h q kk).trans (if_pos (by decide)).symm
  · exact (slice_apply 7 (by decide) slices_S16x15x64x64_S16x1x64x64_0_7_0_0 shapeCasts_S16x1x64x64_S16x64x64 T h q kk).trans (if_pos (by decide)).symm
  · exact (slice_apply 8 (by decide) slices_S16x15x64x64_S16x1x64x64_0_8_0_0 shapeCasts_S16x1x64x64_S16x64x64 T h q kk).trans (if_pos (by decide)).symm
  · exact (slice_apply 9 (by decide) slices_S16x15x64x64_S16x1x64x64_0_9_0_0 shapeCasts_S16x1x64x64_S16x64x64 T h q kk).trans (if_pos (by decide)).symm

theorem row_2_1_apply (T : FVec Ideal S16x15x64x64 .f32) (h : Fin 16) (q : Fin 64) (k : Fin 768) :
    row_2_1 T (ix3 h q k) = tileF 2 1 T h q (k.val / 64) ⟨k.val % 64, Nat.mod_lt _ (by decide)⟩ := by
  refine (concatenate_ofFn_apply (2 : Fin S16x64x768.rank) (pieces_2_1 T) (s₁ := S16x64x64) (t := S16x64x768) concatenates_S16x64x64_S16x64x64_S16x64x64_S16x64x64_S16x64x64_S16x64x64_S16x64x64_S16x64x64_S16x64x64_S16x64x64_S16x64x64_S16x64x64_S16x64x768_d2 rfl 64 rfl (ix3 h q k) ⟨k.val / 64, by omega⟩ rfl (ix3 h q ⟨k.val % 64, Nat.mod_lt _ (by decide)⟩) rfl ?_).trans
    (pieces_2_1_apply T h q _ ⟨k.val / 64, by omega⟩)
  intro b hb; fin_cases b
  · rfl
  · rfl
  · exact absurd rfl hb

/-- The tiles of one row of the query block. -/
abbrev pieces_2_2 (T : FVec Ideal S16x15x64x64 .f32) : Fin 12 → FVec Ideal S16x64x64 .f32 := ![outside, outside, outside, outside, shapeCast S16x64x64 (extractStridedSlice S16x1x64x64 ![0, 1, 0, 0] T slices_S16x15x64x64_S16x1x64x64_0_1_0_0) shapeCasts_S16x1x64x64_S16x64x64, shapeCast S16x64x64 (extractStridedSlice S16x1x64x64 ![0, 2, 0, 0] T slices_S16x15x64x64_S16x1x64x64_0_2_0_0) shapeCasts_S16x1x64x64_S16x64x64, shapeCast S16x64x64 (extractStridedSlice S16x1x64x64 ![0, 3, 0, 0] T slices_S16x15x64x64_S16x1x64x64_0_3_0_0) shapeCasts_S16x1x64x64_S16x64x64, shapeCast S16x64x64 (extractStridedSlice S16x1x64x64 ![0, 4, 0, 0] T slices_S16x15x64x64_S16x1x64x64_0_4_0_0) shapeCasts_S16x1x64x64_S16x64x64, shapeCast S16x64x64 (extractStridedSlice S16x1x64x64 ![0, 5, 0, 0] T slices_S16x15x64x64_S16x1x64x64_0_5_0_0) shapeCasts_S16x1x64x64_S16x64x64, shapeCast S16x64x64 (extractStridedSlice S16x1x64x64 ![0, 6, 0, 0] T slices_S16x15x64x64_S16x1x64x64_0_6_0_0) shapeCasts_S16x1x64x64_S16x64x64, shapeCast S16x64x64 (extractStridedSlice S16x1x64x64 ![0, 7, 0, 0] T slices_S16x15x64x64_S16x1x64x64_0_7_0_0) shapeCasts_S16x1x64x64_S16x64x64, shapeCast S16x64x64 (extractStridedSlice S16x1x64x64 ![0, 8, 0, 0] T slices_S16x15x64x64_S16x1x64x64_0_8_0_0) shapeCasts_S16x1x64x64_S16x64x64]

theorem pieces_2_2_apply (T : FVec Ideal S16x15x64x64 .f32) (h : Fin 16) (q kk : Fin 64) (n : Fin 12) :
    pieces_2_2 T n (ix3 h q kk) = tileF 2 2 T h q n.val kk := by
  fin_cases n
  · exact Eq.symm (if_neg (by decide))
  · exact Eq.symm (if_neg (by decide))
  · exact Eq.symm (if_neg (by decide))
  · exact Eq.symm (if_neg (by decide))
  · exact (slice_apply 1 (by decide) slices_S16x15x64x64_S16x1x64x64_0_1_0_0 shapeCasts_S16x1x64x64_S16x64x64 T h q kk).trans (if_pos (by decide)).symm
  · exact (slice_apply 2 (by decide) slices_S16x15x64x64_S16x1x64x64_0_2_0_0 shapeCasts_S16x1x64x64_S16x64x64 T h q kk).trans (if_pos (by decide)).symm
  · exact (slice_apply 3 (by decide) slices_S16x15x64x64_S16x1x64x64_0_3_0_0 shapeCasts_S16x1x64x64_S16x64x64 T h q kk).trans (if_pos (by decide)).symm
  · exact (slice_apply 4 (by decide) slices_S16x15x64x64_S16x1x64x64_0_4_0_0 shapeCasts_S16x1x64x64_S16x64x64 T h q kk).trans (if_pos (by decide)).symm
  · exact (slice_apply 5 (by decide) slices_S16x15x64x64_S16x1x64x64_0_5_0_0 shapeCasts_S16x1x64x64_S16x64x64 T h q kk).trans (if_pos (by decide)).symm
  · exact (slice_apply 6 (by decide) slices_S16x15x64x64_S16x1x64x64_0_6_0_0 shapeCasts_S16x1x64x64_S16x64x64 T h q kk).trans (if_pos (by decide)).symm
  · exact (slice_apply 7 (by decide) slices_S16x15x64x64_S16x1x64x64_0_7_0_0 shapeCasts_S16x1x64x64_S16x64x64 T h q kk).trans (if_pos (by decide)).symm
  · exact (slice_apply 8 (by decide) slices_S16x15x64x64_S16x1x64x64_0_8_0_0 shapeCasts_S16x1x64x64_S16x64x64 T h q kk).trans (if_pos (by decide)).symm

theorem row_2_2_apply (T : FVec Ideal S16x15x64x64 .f32) (h : Fin 16) (q : Fin 64) (k : Fin 768) :
    row_2_2 T (ix3 h q k) = tileF 2 2 T h q (k.val / 64) ⟨k.val % 64, Nat.mod_lt _ (by decide)⟩ := by
  refine (concatenate_ofFn_apply (2 : Fin S16x64x768.rank) (pieces_2_2 T) (s₁ := S16x64x64) (t := S16x64x768) concatenates_S16x64x64_S16x64x64_S16x64x64_S16x64x64_S16x64x64_S16x64x64_S16x64x64_S16x64x64_S16x64x64_S16x64x64_S16x64x64_S16x64x64_S16x64x768_d2 rfl 64 rfl (ix3 h q k) ⟨k.val / 64, by omega⟩ rfl (ix3 h q ⟨k.val % 64, Nat.mod_lt _ (by decide)⟩) rfl ?_).trans
    (pieces_2_2_apply T h q _ ⟨k.val / 64, by omega⟩)
  intro b hb; fin_cases b
  · rfl
  · rfl
  · exact absurd rfl hb

/-- The tiles of one row of the query block. -/
abbrev pieces_2_3 (T : FVec Ideal S16x15x64x64 .f32) : Fin 12 → FVec Ideal S16x64x64 .f32 := ![outside, outside, outside, outside, shapeCast S16x64x64 (extractStridedSlice S16x1x64x64 ![0, 0, 0, 0] T slices_S16x15x64x64_S16x1x64x64_0_0_0_0) shapeCasts_S16x1x64x64_S16x64x64, shapeCast S16x64x64 (extractStridedSlice S16x1x64x64 ![0, 1, 0, 0] T slices_S16x15x64x64_S16x1x64x64_0_1_0_0) shapeCasts_S16x1x64x64_S16x64x64, shapeCast S16x64x64 (extractStridedSlice S16x1x64x64 ![0, 2, 0, 0] T slices_S16x15x64x64_S16x1x64x64_0_2_0_0) shapeCasts_S16x1x64x64_S16x64x64, shapeCast S16x64x64 (extractStridedSlice S16x1x64x64 ![0, 3, 0, 0] T slices_S16x15x64x64_S16x1x64x64_0_3_0_0) shapeCasts_S16x1x64x64_S16x64x64, shapeCast S16x64x64 (extractStridedSlice S16x1x64x64 ![0, 4, 0, 0] T slices_S16x15x64x64_S16x1x64x64_0_4_0_0) shapeCasts_S16x1x64x64_S16x64x64, shapeCast S16x64x64 (extractStridedSlice S16x1x64x64 ![0, 5, 0, 0] T slices_S16x15x64x64_S16x1x64x64_0_5_0_0) shapeCasts_S16x1x64x64_S16x64x64, shapeCast S16x64x64 (extractStridedSlice S16x1x64x64 ![0, 6, 0, 0] T slices_S16x15x64x64_S16x1x64x64_0_6_0_0) shapeCasts_S16x1x64x64_S16x64x64, shapeCast S16x64x64 (extractStridedSlice S16x1x64x64 ![0, 7, 0, 0] T slices_S16x15x64x64_S16x1x64x64_0_7_0_0) shapeCasts_S16x1x64x64_S16x64x64]

theorem pieces_2_3_apply (T : FVec Ideal S16x15x64x64 .f32) (h : Fin 16) (q kk : Fin 64) (n : Fin 12) :
    pieces_2_3 T n (ix3 h q kk) = tileF 2 3 T h q n.val kk := by
  fin_cases n
  · exact Eq.symm (if_neg (by decide))
  · exact Eq.symm (if_neg (by decide))
  · exact Eq.symm (if_neg (by decide))
  · exact Eq.symm (if_neg (by decide))
  · exact (slice_apply 0 (by decide) slices_S16x15x64x64_S16x1x64x64_0_0_0_0 shapeCasts_S16x1x64x64_S16x64x64 T h q kk).trans (if_pos (by decide)).symm
  · exact (slice_apply 1 (by decide) slices_S16x15x64x64_S16x1x64x64_0_1_0_0 shapeCasts_S16x1x64x64_S16x64x64 T h q kk).trans (if_pos (by decide)).symm
  · exact (slice_apply 2 (by decide) slices_S16x15x64x64_S16x1x64x64_0_2_0_0 shapeCasts_S16x1x64x64_S16x64x64 T h q kk).trans (if_pos (by decide)).symm
  · exact (slice_apply 3 (by decide) slices_S16x15x64x64_S16x1x64x64_0_3_0_0 shapeCasts_S16x1x64x64_S16x64x64 T h q kk).trans (if_pos (by decide)).symm
  · exact (slice_apply 4 (by decide) slices_S16x15x64x64_S16x1x64x64_0_4_0_0 shapeCasts_S16x1x64x64_S16x64x64 T h q kk).trans (if_pos (by decide)).symm
  · exact (slice_apply 5 (by decide) slices_S16x15x64x64_S16x1x64x64_0_5_0_0 shapeCasts_S16x1x64x64_S16x64x64 T h q kk).trans (if_pos (by decide)).symm
  · exact (slice_apply 6 (by decide) slices_S16x15x64x64_S16x1x64x64_0_6_0_0 shapeCasts_S16x1x64x64_S16x64x64 T h q kk).trans (if_pos (by decide)).symm
  · exact (slice_apply 7 (by decide) slices_S16x15x64x64_S16x1x64x64_0_7_0_0 shapeCasts_S16x1x64x64_S16x64x64 T h q kk).trans (if_pos (by decide)).symm

theorem row_2_3_apply (T : FVec Ideal S16x15x64x64 .f32) (h : Fin 16) (q : Fin 64) (k : Fin 768) :
    row_2_3 T (ix3 h q k) = tileF 2 3 T h q (k.val / 64) ⟨k.val % 64, Nat.mod_lt _ (by decide)⟩ := by
  refine (concatenate_ofFn_apply (2 : Fin S16x64x768.rank) (pieces_2_3 T) (s₁ := S16x64x64) (t := S16x64x768) concatenates_S16x64x64_S16x64x64_S16x64x64_S16x64x64_S16x64x64_S16x64x64_S16x64x64_S16x64x64_S16x64x64_S16x64x64_S16x64x64_S16x64x64_S16x64x768_d2 rfl 64 rfl (ix3 h q k) ⟨k.val / 64, by omega⟩ rfl (ix3 h q ⟨k.val % 64, Nat.mod_lt _ (by decide)⟩) rfl ?_).trans
    (pieces_2_3_apply T h q _ ⟨k.val / 64, by omega⟩)
  intro b hb; fin_cases b
  · rfl
  · rfl
  · exact absurd rfl hb

theorem var_0_apply (T : FVec Ideal S16x15x64x64 .f32) (h : Fin 16) (r : Fin 256) (k : Fin 768) :
    concatenate S16x256x768 1 [⟨S16x64x768, row_0_0 T⟩, ⟨S16x64x768, row_0_1 T⟩, ⟨S16x64x768, row_0_2 T⟩, ⟨S16x64x768, row_0_3 T⟩] concatenates_S16x64x768_S16x64x768_S16x64x768_S16x64x768_S16x256x768_d1 (ix3 h r k)
      = tileF 0 ⟨r.val / 64, by omega⟩ T h ⟨r.val % 64, Nat.mod_lt _ (by decide)⟩ (k.val / 64) ⟨k.val % 64, Nat.mod_lt _ (by decide)⟩ := by
  refine (concatenate_ofFn_apply (1 : Fin S16x256x768.rank) (![row_0_0 T, row_0_1 T, row_0_2 T, row_0_3 T] : Fin 4 → FVec Ideal S16x64x768 .f32) (s₁ := S16x64x768) (t := S16x256x768) concatenates_S16x64x768_S16x64x768_S16x64x768_S16x64x768_S16x256x768_d1 rfl 64 rfl (ix3 h r k) ⟨r.val / 64, by omega⟩ rfl (ix3 h ⟨r.val % 64, Nat.mod_lt _ (by decide)⟩ k) rfl ?_).trans ?_
  · intro b hb; fin_cases b
    · rfl
    · exact absurd rfl hb
    · rfl
  · refine (show ∀ n : Fin 4, (![row_0_0 T, row_0_1 T, row_0_2 T, row_0_3 T] : Fin 4 → FVec Ideal S16x64x768 .f32) n (ix3 h ⟨r.val % 64, Nat.mod_lt _ (by decide)⟩ k) = tileF 0 n T h ⟨r.val % 64, Nat.mod_lt _ (by decide)⟩ (k.val / 64) ⟨k.val % 64, Nat.mod_lt _ (by decide)⟩ from ?_) ⟨r.val / 64, by omega⟩
    intro n
    fin_cases n
    · exact row_0_0_apply T h _ k
    · exact row_0_1_apply T h _ k
    · exact row_0_2_apply T h _ k
    · exact row_0_3_apply T h _ k

theorem var_1_apply (T : FVec Ideal S16x15x64x64 .f32) (h : Fin 16) (r : Fin 256) (k : Fin 768) :
    concatenate S16x256x768 1 [⟨S16x64x768, row_1_0 T⟩, ⟨S16x64x768, row_1_1 T⟩, ⟨S16x64x768, row_1_2 T⟩, ⟨S16x64x768, row_1_3 T⟩] concatenates_S16x64x768_S16x64x768_S16x64x768_S16x64x768_S16x256x768_d1 (ix3 h r k)
      = tileF 1 ⟨r.val / 64, by omega⟩ T h ⟨r.val % 64, Nat.mod_lt _ (by decide)⟩ (k.val / 64) ⟨k.val % 64, Nat.mod_lt _ (by decide)⟩ := by
  refine (concatenate_ofFn_apply (1 : Fin S16x256x768.rank) (![row_1_0 T, row_1_1 T, row_1_2 T, row_1_3 T] : Fin 4 → FVec Ideal S16x64x768 .f32) (s₁ := S16x64x768) (t := S16x256x768) concatenates_S16x64x768_S16x64x768_S16x64x768_S16x64x768_S16x256x768_d1 rfl 64 rfl (ix3 h r k) ⟨r.val / 64, by omega⟩ rfl (ix3 h ⟨r.val % 64, Nat.mod_lt _ (by decide)⟩ k) rfl ?_).trans ?_
  · intro b hb; fin_cases b
    · rfl
    · exact absurd rfl hb
    · rfl
  · refine (show ∀ n : Fin 4, (![row_1_0 T, row_1_1 T, row_1_2 T, row_1_3 T] : Fin 4 → FVec Ideal S16x64x768 .f32) n (ix3 h ⟨r.val % 64, Nat.mod_lt _ (by decide)⟩ k) = tileF 1 n T h ⟨r.val % 64, Nat.mod_lt _ (by decide)⟩ (k.val / 64) ⟨k.val % 64, Nat.mod_lt _ (by decide)⟩ from ?_) ⟨r.val / 64, by omega⟩
    intro n
    fin_cases n
    · exact row_1_0_apply T h _ k
    · exact row_1_1_apply T h _ k
    · exact row_1_2_apply T h _ k
    · exact row_1_3_apply T h _ k

theorem var_2_apply (T : FVec Ideal S16x15x64x64 .f32) (h : Fin 16) (r : Fin 256) (k : Fin 768) :
    concatenate S16x256x768 1 [⟨S16x64x768, row_2_0 T⟩, ⟨S16x64x768, row_2_1 T⟩, ⟨S16x64x768, row_2_2 T⟩, ⟨S16x64x768, row_2_3 T⟩] concatenates_S16x64x768_S16x64x768_S16x64x768_S16x64x768_S16x256x768_d1 (ix3 h r k)
      = tileF 2 ⟨r.val / 64, by omega⟩ T h ⟨r.val % 64, Nat.mod_lt _ (by decide)⟩ (k.val / 64) ⟨k.val % 64, Nat.mod_lt _ (by decide)⟩ := by
  refine (concatenate_ofFn_apply (1 : Fin S16x256x768.rank) (![row_2_0 T, row_2_1 T, row_2_2 T, row_2_3 T] : Fin 4 → FVec Ideal S16x64x768 .f32) (s₁ := S16x64x768) (t := S16x256x768) concatenates_S16x64x768_S16x64x768_S16x64x768_S16x64x768_S16x256x768_d1 rfl 64 rfl (ix3 h r k) ⟨r.val / 64, by omega⟩ rfl (ix3 h ⟨r.val % 64, Nat.mod_lt _ (by decide)⟩ k) rfl ?_).trans ?_
  · intro b hb; fin_cases b
    · rfl
    · exact absurd rfl hb
    · rfl
  · refine (show ∀ n : Fin 4, (![row_2_0 T, row_2_1 T, row_2_2 T, row_2_3 T] : Fin 4 → FVec Ideal S16x64x768 .f32) n (ix3 h ⟨r.val % 64, Nat.mod_lt _ (by decide)⟩ k) = tileF 2 n T h ⟨r.val % 64, Nat.mod_lt _ (by decide)⟩ (k.val / 64) ⟨k.val % 64, Nat.mod_lt _ (by decide)⟩ from ?_) ⟨r.val / 64, by omega⟩
    intro n
    fin_cases n
    · exact row_2_0_apply T h _ k
    · exact row_2_1_apply T h _ k
    · exact row_2_2_apply T h _ k
    · exact row_2_3_apply T h _ k

theorem lead_apply (z : FVec Ideal S16x256x768 .f32) (h : Fin 16) (r : Fin 256) (k : Fin 768) :
    broadcastInDim S1x16x256x768 ![1, 2, 3] bcast_S16x256x768_S1x16x256x768_1_2_3 z (ix4 0 h r k) = z (ix3 h r k) :=
  broadcastInDim_apply _ bcast_S16x256x768_S1x16x256x768_1_2_3 z (ix4 0 h r k) (ix3 h r k) (fun a => match a with
    | ⟨0, _⟩ => rfl
    | ⟨1, _⟩ => rfl
    | ⟨2, _⟩ => rfl)

theorem biasB_apply (T : FVec Ideal S16x15x64x64 .f32) (v : Fin 3) (h : Fin 16) (r : Fin 256) (k : Fin 768) :
    biasB T (ix4 v h r k) = tileF v ⟨r.val / 64, by omega⟩ T h ⟨r.val % 64, Nat.mod_lt _ (by decide)⟩ (k.val / 64) ⟨k.val % 64, Nat.mod_lt _ (by decide)⟩ := by
  refine (concatenate_ofFn_apply (0 : Fin S3x16x256x768.rank) (![broadcastInDim S1x16x256x768 ![1, 2, 3] bcast_S16x256x768_S1x16x256x768_1_2_3 (concatenate S16x256x768 1 [⟨S16x64x768, row_0_0 T⟩, ⟨S16x64x768, row_0_1 T⟩, ⟨S16x64x768, row_0_2 T⟩, ⟨S16x64x768, row_0_3 T⟩] concatenates_S16x64x768_S16x64x768_S16x64x768_S16x64x768_S16x256x768_d1), broadcastInDim S1x16x256x768 ![1, 2, 3] bcast_S16x256x768_S1x16x256x768_1_2_3 (concatenate S16x256x768 1 [⟨S16x64x768, row_1_0 T⟩, ⟨S16x64x768, row_1_1 T⟩, ⟨S16x64x768, row_1_2 T⟩, ⟨S16x64x768, row_1_3 T⟩] concatenates_S16x64x768_S16x64x768_S16x64x768_S16x64x768_S16x256x768_d1), broadcastInDim S1x16x256x768 ![1, 2, 3] bcast_S16x256x768_S1x16x256x768_1_2_3 (concatenate S16x256x768 1 [⟨S16x64x768, row_2_0 T⟩, ⟨S16x64x768, row_2_1 T⟩, ⟨S16x64x768, row_2_2 T⟩, ⟨S16x64x768, row_2_3 T⟩] concatenates_S16x64x768_S16x64x768_S16x64x768_S16x64x768_S16x256x768_d1)] : Fin 3 → FVec Ideal S1x16x256x768 .f32) (s₁ := S1x16x256x768) (t := S3x16x256x768) concatenates_S1x16x256x768_S1x16x256x768_S1x16x256x768_S3x16x256x768_d0 rfl 1 rfl (ix4 v h r k) v (by show v.val / 1 = v.val; omega) (ix4 0 h r k) (by show (0 : ℕ) = v.val % 1; omega) ?_).trans ?_
  · intro b hb; fin_cases b
    · exact absurd rfl hb
    · rfl
    · rfl
    · rfl
  · fin_cases v
    · exact (lead_apply _ h r k).trans (var_0_apply T h r k)
    · exact (lead_apply _ h r k).trans (var_1_apply T h r k)
    · exact (lead_apply _ h r k).trans (var_2_apply T h r k)

end Cert.NaIdeal.Value

end
-- ==== Proof.NaTab.lean ====
/- The neighbourhood attention's table of bias tiles: the host lines before the table is laid out. -/
module

public import proofs.«01_k».proof.Proof.Gen.NaIdeal.Frame
public import Idealize.ShloMosaic.Lib.Pipeline.ValueKit
public import Idealize.ShloMosaic.Lib.Pipeline.ReadBack
public import Idealize.ShloMosaic.Lib.Pointwise

@[expose] public section

set_option maxRecDepth 65536

noncomputable section

open Idealize.ShloMosaic Idealize.ShloMosaic.TcCoe Idealize.SL.Sem
open Idealize.ShloMosaic.Pipeline (Dat)

namespace Cert.NaIdeal.Value

open Cert.NaIdeal Cert.NaIdeal.Gen

/-- The first column of the window of each column. -/
def colStart : IVec S64 32 :=
  minsi (broadcastInDim S64 ![] bcast_S_S64 (constantI S_ 32 48#32))
    (maxsi (broadcastInDim S64 ![] bcast_S_S64 (constantI S_ 32 0#32)) (subi (iotaInDim S64 32 0) (broadcastInDim S64 ![] bcast_S_S64 (constantI S_ 32 8#32))))

/-- Whether a key's column lies in the window of a query's column. -/
def colOk : IVec S64x64 1 :=
  andi (cmpi .sge (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 colStart)))
    (cmpi .slt (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (addi (broadcastInDim S64x1 ![0] bcast_S64_S64x1_0 colStart) (broadcastInDim S64x1 ![] bcast_S_S64x1 (constantI S_ 32 16#32)))))

/-- Which of the 31 column offsets a pair of columns has, inside the window. -/
def colSel : IVec S64x64x31 1 :=
  andi (cmpi .eq (broadcastInDim S64x64x31 ![0, 1, 2] bcast_S64x64x1_S64x64x31_0_1_2 (broadcastInDim S64x64x1 ![0, 1] bcast_S64x64_S64x64x1_0_1
        (addi (subi (broadcastInDim S64x64 ![0, 1] bcast_S1x64_S64x64_0_1 (broadcastInDim S1x64 ![1] bcast_S64_S1x64_1 (iotaInDim S64 32 0)))
          (broadcastInDim S64x64 ![0, 1] bcast_S64x1_S64x64_0_1 (broadcastInDim S64x1 ![0] bcast_S64_S64x1_0 (iotaInDim S64 32 0))))
          (broadcastInDim S64x64 ![] bcast_S_S64x64 (constantI S_ 32 15#32)))))
      (broadcastInDim S64x64x31 ![0, 1, 2] bcast_S1x1x31_S64x64x31_0_1_2 (broadcastInDim S1x1x31 ![2] bcast_S31_S1x1x31_2 (iotaInDim S31 32 0))))
    (broadcastInDim S64x64x31 ![0, 1, 2] bcast_S64x64x1_S64x64x31_0_1_2 (broadcastInDim S64x64x1 ![0, 1] bcast_S64x64_S64x64x1_0_1 colOk))

/-- The tiles of one head and one row offset. -/
def tiles (x : FVec Ideal S16x15x31 .f32) : FVec Ideal S16x15x64x64 .f32 :=
  select (broadcastInDim S16x15x64x64 ![0, 1, 2, 3] bcast_S1x1x64x64_S16x15x64x64_0_1_2_3 (broadcastInDim S1x1x64x64 ![2, 3] bcast_S64x64_S1x1x64x64_2_3 colOk))
    (Host.reduceAdd (mulf (broadcastInDim S16x15x64x64x31 ![0, 1, 2, 3, 4] bcast_S16x15x1x1x31_S16x15x64x64x31_0_1_2_3_4 (broadcastInDim S16x15x1x1x31 ![0, 1, 4] bcast_S16x15x31_S16x15x1x1x31_0_1_4 x))
      (broadcastInDim S16x15x64x64x31 ![0, 1, 2, 3, 4] bcast_S1x1x64x64x31_S16x15x64x64x31_0_1_2_3_4 (broadcastInDim S1x1x64x64x31 ![2, 3, 4] bcast_S64x64x31_S1x1x64x64x31_2_3_4
        (select colSel (broadcastInDim S64x64x31 ![] bcast_S_S64x64x31 (constant (F := Ideal) S_ .f32 0x3F800000#32)) (broadcastInDim S64x64x31 ![] bcast_S_S64x64x31 (constant (F := Ideal) S_ .f32 0x00000000#32))))))
      (constant (F := Ideal) S_ .f32 0x00000000#32) reducesTo_S16x15x64x64x31_S16x15x64x64_d4 h_S_)
    (broadcastInDim S16x15x64x64 ![] bcast_S_S16x15x64x64 (constant (F := Ideal) S_ .f32 0xFF800000#32))

set_option maxHeartbeats 4000000 in
theorem tiles_after (W : Valuation τ sig (Elt Ideal)) :
    StableHlo.after (hostOps0 ++ hostOps0_1 ++ hostOps0_2 ++ hostOps0_3 ++ hostOps0_4 ++ hostOps0_5) W (Proc.tc.devRef main_v42) = tiles (W (Proc.tc.devRef main_arg1)) := by
  unfold hostOps0 hostOps0_1 hostOps0_2 hostOps0_3 hostOps0_4 hostOps0_5
  simp only [List.nil_append, List.cons_append]
  after_results_simp
  rfl

/-- The first column of a window. -/
def cs (q : ℕ) : ℕ := min 48 (q - 8)

theorem colStart_apply (q : Fin 64) : colStart (ix1 q) = BitVec.ofNat 32 (cs q.val) := by
  have h : colStart (ix1 q) = IntOp.minsi 48#32 (IntOp.maxsi 0#32 (IntOp.subi (BitVec.ofNat 32 q.val) 8#32)) := rfl
  rw [h]; revert q; decide

theorem one_iff (p : Bool) (P : Prop) [Decidable P] (h : p = true ↔ P) : BitVec.ofBool p = if P then 1#1 else 0#1 := by
  cases p <;> simp at h <;> simp [h]

theorem toInt_small (a : ℕ) (h : a < 1000) : (BitVec.ofNat 32 a).toInt = a := by
  rw [BitVec.toInt_eq_toNat_cond, BitVec.toNat_ofNat]
  split <;> omega

theorem sge_small (a b : ℕ) (ha : a < 1000) (hb : b < 1000) : IntOp.cmpi .sge (BitVec.ofNat 32 a) (BitVec.ofNat 32 b) = if b ≤ a then 1#1 else 0#1 := by
  refine one_iff _ _ ?_
  simp only [BitVec.sle, decide_eq_true_eq, toInt_small a ha, toInt_small b hb]; omega

theorem slt_small (a b : ℕ) (ha : a < 1000) (hb : b < 1000) : IntOp.cmpi .slt (BitVec.ofNat 32 a) (BitVec.ofNat 32 b) = if a < b then 1#1 else 0#1 := by
  refine one_iff _ _ ?_
  simp only [BitVec.slt, decide_eq_true_eq, toInt_small a ha, toInt_small b hb]; omega

theorem eq_small (a b : ℕ) (ha : a < 1000) (hb : b < 1000) : IntOp.cmpi .eq (BitVec.ofNat 32 a) (BitVec.ofNat 32 b) = if a = b then 1#1 else 0#1 := by
  refine one_iff _ _ ?_
  rw [beq_iff_eq, ← BitVec.toNat_inj, BitVec.toNat_ofNat, BitVec.toNat_ofNat]; omega

theorem add_small (a b : ℕ) : IntOp.addi (BitVec.ofNat 32 a) (BitVec.ofNat 32 b) = BitVec.ofNat 32 (a + b) := (BitVec.ofNat_add a b).symm

theorem off_small (k q c : ℕ) (hk : k < 1000) (hq : q ≤ k + c) (hc : c < 1000) :
    IntOp.addi (IntOp.subi (BitVec.ofNat 32 k) (BitVec.ofNat 32 q)) (BitVec.ofNat 32 c) = BitVec.ofNat 32 (k + c - q) := by
  apply BitVec.eq_of_toNat_eq
  show (BitVec.ofNat 32 k - BitVec.ofNat 32 q + BitVec.ofNat 32 c).toNat = _
  rw [BitVec.toNat_add, BitVec.toNat_sub, BitVec.toNat_ofNat, BitVec.toNat_ofNat, BitVec.toNat_ofNat, BitVec.toNat_ofNat]
  omega

theorem and_if (P Q : Prop) [Decidable P] [Decidable Q] : IntOp.andi (if P then 1#1 else 0#1) (if Q then 1#1 else 0#1) = if P ∧ Q then (1#1 : BitVec 1) else 0#1 := by
  by_cases hP : P <;> by_cases hQ : Q <;> simp [hP, hQ, IntOp.andi]

theorem cs_lt (q : ℕ) : cs q ≤ 48 := by unfold cs; omega

theorem colOk_apply (q k : Fin 64) : colOk (ix2 q k) = if cs q.val ≤ k.val ∧ k.val < cs q.val + 16 then 1#1 else 0#1 := by
  have h : colOk (ix2 q k) = IntOp.andi (IntOp.cmpi .sge (BitVec.ofNat 32 k.val) (colStart (ix1 q)))
      (IntOp.cmpi .slt (BitVec.ofNat 32 k.val) (IntOp.addi (colStart (ix1 q)) 16#32)) := by
    pointwise [colOk]
  have hc := cs_lt q.val
  have h16 : (16#32 : BitVec 32) = BitVec.ofNat 32 16 := rfl
  rw [h, colStart_apply, h16, add_small, sge_small _ _ (by omega) (by omega), slt_small _ _ (by omega) (by omega), and_if]

theorem colSel_apply (q k : Fin 64) (x : Fin 31) : colSel (ix3 q k x) = if x.val + q.val = k.val + 15 ∧ (cs q.val ≤ k.val ∧ k.val < cs q.val + 16) then 1#1 else 0#1 := by
  have h : colSel (ix3 q k x) = IntOp.andi (IntOp.cmpi .eq (IntOp.addi (IntOp.subi (BitVec.ofNat 32 k.val) (BitVec.ofNat 32 q.val)) 15#32) (BitVec.ofNat 32 x.val)) (colOk (ix2 q k)) := by
    pointwise [colSel]
  rw [h, colOk_apply]
  by_cases hk : cs q.val ≤ k.val ∧ k.val < cs q.val + 16
  · have hq : q.val ≤ k.val + 15 := by have := hk.1; have := hk.2; unfold cs at *; omega
    have h15 : (15#32 : BitVec 32) = BitVec.ofNat 32 15 := rfl
    rw [h15, off_small _ _ _ (by omega) hq (by omega), eq_small _ _ (by omega) (by omega), and_if]
    refine if_congr ?_ rfl rfl
    constructor
    · rintro ⟨a, b⟩; exact ⟨by omega, b⟩
    · rintro ⟨a, b⟩; exact ⟨by omega, b⟩
  · rw [if_neg hk, if_neg (fun h => hk h.2)]
    exact BitVec.and_zero

theorem tiles_apply (x : FVec Ideal S16x15x31 .f32) (h : Fin 16) (o : Fin 15) (q k : Fin 64) :
    tiles x (ix4 h o q k) = if cs q.val ≤ k.val ∧ k.val < cs q.val + 16 then x (ix3 h o ⟨(k.val + 15 - q.val) % 31, Nat.mod_lt _ (by decide)⟩) else Ideal.ofBits FTy.f32 0xFF800000#32 := by
  pointwise [tiles]
  rw [colOk_apply]
  by_cases hk : cs q.val ≤ k.val ∧ k.val < cs q.val + 16
  · rw [if_pos hk, if_pos hk]
    have hq : q.val ≤ k.val + 15 ∧ k.val + 15 - q.val < 31 := by have := hk.1; have := hk.2; unfold cs at *; omega
    refine Eq.trans (show _ = ∑ y : Fin 31, Scalar.select (colSel (ix3 q k y)) (x (ix3 h o y)) 0 from rfl) ?_
    rw [Finset.sum_eq_single (⟨(k.val + 15 - q.val) % 31, Nat.mod_lt _ (by decide)⟩ : Fin 31)]
    · rw [colSel_apply, if_pos ⟨by show (k.val + 15 - q.val) % 31 + q.val = _; omega, hk⟩]; rfl
    · intro y _ hy
      rw [colSel_apply, if_neg]
      · rfl
      · rintro ⟨h1, -⟩
        exact hy (Fin.ext (by show y.val = (k.val + 15 - q.val) % 31; omega))
    · intro h; exact absurd (Finset.mem_univ _) h
  · rw [if_neg hk, if_neg hk]; rfl

end Cert.NaIdeal.Value

end
-- ==== Proof.NaBlocks.lean ====
/- The neighbourhood attention's windows: which rows and columns of the qkv array each staged block holds, and which bias variant. -/
module

public import proofs.«01_k».proof.Proof.NaBiasAt
public import proofs.«01_k».proof.Proof.NaTab

@[expose] public section

set_option maxRecDepth 65536

noncomputable section

open Idealize.ShloMosaic Idealize.ShloMosaic.TcCoe Idealize.SL.Sem
open Idealize.ShloMosaic.Pipeline (Dat)

namespace Cert.NaIdeal.Value

open Cert.NaIdeal Cert.NaIdeal.Gen

variable (m : (ℓ : Loc nD τ sig) → Buf (Elt Ideal) ℓ)

/-- The first row of the band of query block `g`. -/
def bs (g : ℕ) : ℕ := min 244 (4 * g - 4)

/-- The bias variant of query block `g`. -/
def vof (g : ℕ) : Fin 3 := if g = 0 then 0 else if g = 63 then 2 else 1

theorem idx : ∀ t : Fin cfg0.N,
    win0_0.index t = ![t.val / 64, t.val % 64, 0]
    ∧ win0_1.index t = ![t.val / 64, bs (t.val % 64) * 64, 1024] ∧ win0_2.index t = ![t.val / 64, bs (t.val % 64) * 64, 2048]
    ∧ win0_3.index t = ![t.val / 64, 64, 1] ∧ win0_4.index t = ![t.val / 64, 64, 2]
    ∧ win0_5.index t = ![(vof (t.val % 64)).val, 0, 0, 0] ∧ win0_6.index t = ![t.val / 64, t.val % 64, 0] :=
  (by decide +kernel : ∀ t : Fin grid0.N, _)

theorem bs_le (g : ℕ) : bs g ≤ 244 := by unfold bs; omega

theorem blk0 (c : Dev nD) (t : Fin cfg0.N) (r : Fin 256) (x : Fin 1024) : iblk m c 0 t (ix3 0 r x)
    = m ((c : Thread nD τ).loc main_arg0) (ix3 ⟨t.val / 64, by have : t.val < 128 := t.isLt; omega⟩ ⟨t.val % 64 * 256 + r.val, by omega⟩ ⟨x.val, by omega⟩) := by
  have ht : t.val < 128 := t.isLt
  show V m c main_arg0 (((View.whole main_arg0).slice (win0_0.rect t)).emb (ix3 0 r x)) = _
  have hi : ((View.whole main_arg0).slice (win0_0.rect t)).emb (ix3 0 r x) = ix3 ⟨t.val / 64, by omega⟩ ⟨t.val % 64 * 256 + r.val, by omega⟩ ⟨x.val, by omega⟩ := by
    blk_ext [idx t]
  rw [hi, V_main_arg0]

theorem blk1 (c : Dev nD) (t : Fin cfg0.N) (p : Fin 768) (x : Fin 1024) : iblk m c 1 t (ix3 0 p x)
    = m ((c : Thread nD τ).loc main_arg0) (ix3 ⟨t.val / 64, by have : t.val < 128 := t.isLt; omega⟩ ⟨bs (t.val % 64) * 64 + p.val, by have := bs_le (t.val % 64); omega⟩ ⟨1024 + x.val, by omega⟩) := by
  have ht : t.val < 128 := t.isLt
  have hb := bs_le (t.val % 64)
  show V m c main_arg0 (((View.whole main_arg0).slice (win0_1.rect t)).emb (ix3 0 p x)) = _
  have hi : ((View.whole main_arg0).slice (win0_1.rect t)).emb (ix3 0 p x) = ix3 ⟨t.val / 64, by omega⟩ ⟨bs (t.val % 64) * 64 + p.val, by omega⟩ ⟨1024 + x.val, by omega⟩ := by
    have e := (idx t).2.1
    funext a
    fin_cases a
    · refine Fin.ext ?_
      show win0_1.index t 0 + 1 * 0 = t.val / 64
      rw [e]; rfl
    · refine Fin.ext ?_
      show win0_1.index t 1 + 1 * p.val = bs (t.val % 64) * 64 + p.val
      rw [e, one_mul]; rfl
    · refine Fin.ext ?_
      show win0_1.index t 2 + 1 * x.val = 1024 + x.val
      rw [e, one_mul]; rfl
  rw [hi, V_main_arg0]

theorem blk2 (c : Dev nD) (t : Fin cfg0.N) (p : Fin 768) (x : Fin 1024) : iblk m c 2 t (ix3 0 p x)
    = m ((c : Thread nD τ).loc main_arg0) (ix3 ⟨t.val / 64, by have : t.val < 128 := t.isLt; omega⟩ ⟨bs (t.val % 64) * 64 + p.val, by have := bs_le (t.val % 64); omega⟩ ⟨2048 + x.val, by omega⟩) := by
  have ht : t.val < 128 := t.isLt
  have hb := bs_le (t.val % 64)
  show V m c main_arg0 (((View.whole main_arg0).slice (win0_2.rect t)).emb (ix3 0 p x)) = _
  have hi : ((View.whole main_arg0).slice (win0_2.rect t)).emb (ix3 0 p x) = ix3 ⟨t.val / 64, by omega⟩ ⟨bs (t.val % 64) * 64 + p.val, by omega⟩ ⟨2048 + x.val, by omega⟩ := by
    have e := (idx t).2.2.1
    funext a
    fin_cases a
    · refine Fin.ext ?_
      show win0_2.index t 0 + 1 * 0 = t.val / 64
      rw [e]; rfl
    · refine Fin.ext ?_
      show win0_2.index t 1 + 1 * p.val = bs (t.val % 64) * 64 + p.val
      rw [e, one_mul]; rfl
    · refine Fin.ext ?_
      show win0_2.index t 2 + 1 * x.val = 2048 + x.val
      rw [e, one_mul]; rfl
  rw [hi, V_main_arg0]

theorem blk3 (c : Dev nD) (t : Fin cfg0.N) (p : Fin 256) (x : Fin 1024) : iblk m c 3 t (ix3 0 p x)
    = m ((c : Thread nD τ).loc main_arg0) (ix3 ⟨t.val / 64, by have : t.val < 128 := t.isLt; omega⟩ ⟨16384 + p.val, by omega⟩ ⟨1024 + x.val, by omega⟩) := by
  have ht : t.val < 128 := t.isLt
  show V m c main_arg0 (((View.whole main_arg0).slice (win0_3.rect t)).emb (ix3 0 p x)) = _
  have hi : ((View.whole main_arg0).slice (win0_3.rect t)).emb (ix3 0 p x) = ix3 ⟨t.val / 64, by omega⟩ ⟨16384 + p.val, by omega⟩ ⟨1024 + x.val, by omega⟩ := by
    blk_ext [idx t]
  rw [hi, V_main_arg0]

theorem blk4 (c : Dev nD) (t : Fin cfg0.N) (p : Fin 256) (x : Fin 1024) : iblk m c 4 t (ix3 0 p x)
    = m ((c : Thread nD τ).loc main_arg0) (ix3 ⟨t.val / 64, by have : t.val < 128 := t.isLt; omega⟩ ⟨16384 + p.val, by omega⟩ ⟨2048 + x.val, by omega⟩) := by
  have ht : t.val < 128 := t.isLt
  show V m c main_arg0 (((View.whole main_arg0).slice (win0_4.rect t)).emb (ix3 0 p x)) = _
  have hi : ((View.whole main_arg0).slice (win0_4.rect t)).emb (ix3 0 p x) = ix3 ⟨t.val / 64, by omega⟩ ⟨16384 + p.val, by omega⟩ ⟨2048 + x.val, by omega⟩ := by
    blk_ext [idx t]
  rw [hi, V_main_arg0]

theorem V_bias (c : Dev nD) : V m c main_v254 = biasB (tiles (m ((c : Thread nD τ).loc main_arg1))) := by
  have h := bias_after (StableHlo.after (hostOps0 ++ hostOps0_1 ++ hostOps0_2 ++ hostOps0_3 ++ hostOps0_4 ++ hostOps0_5) (fun b => m (c, b)))
  rw [tiles_after] at h
  rw [← StableHlo.after_append] at h
  refine Eq.trans ?_ h
  have hl : (List.flatten [hostOps0, hostOps0_1, hostOps0_2, hostOps0_3, hostOps0_4, hostOps0_5, hostOps0_6] : List (HloOp τ sig (Elt Ideal))) = hostOps0 ++ hostOps0_1 ++ hostOps0_2 ++ hostOps0_3 ++ hostOps0_4 ++ hostOps0_5 ++ hostOps0_6 := by
    simp only [List.flatten_cons, List.flatten_nil, List.append_nil, List.append_assoc]
  show StableHlo.after (List.flatten [hostOps0, hostOps0_1, hostOps0_2, hostOps0_3, hostOps0_4, hostOps0_5, hostOps0_6]) _ _ = _
  rw [hl]

theorem blk5 (c : Dev nD) (t : Fin cfg0.N) (h : Fin 16) (r : Fin 256) (k : Fin 768) : iblk m c 5 t (ix4 0 h r k)
    = tileF (vof (t.val % 64)) ⟨r.val / 64, by omega⟩ (tiles (m ((c : Thread nD τ).loc main_arg1))) h ⟨r.val % 64, Nat.mod_lt _ (by decide)⟩ (k.val / 64) ⟨k.val % 64, Nat.mod_lt _ (by decide)⟩ := by
  show V m c main_v254 (((View.whole main_v254).slice (win0_5.rect t)).emb (ix4 0 h r k)) = _
  have hi : ((View.whole main_v254).slice (win0_5.rect t)).emb (ix4 0 h r k) = ix4 (vof (t.val % 64)) h r k := by
    blk_ext [idx t]
  rw [hi, V_bias, biasB_apply]

end Cert.NaIdeal.Value

end
-- ==== Proof.NaMath.lean ====
/- A softmax whose masked keys weigh nothing is the softmax of the keys that are left; and the division can be done before or after
the sum over the values. -/
module

public import Idealize.ShloMosaic.PureOps
public import Idealize.ShloMosaic.Lib.StableHlo
public import Idealize.ShloMosaic.Lib.ValueIdxCore
public import Idealize.ShloMosaic.Lib.Pointwise

@[expose] public section

noncomputable section

namespace Cert.NaMath

open Idealize.ShloMosaic

theorem exp_coe (r : ℝ) : Ideal.exp (r : EReal) = ((Real.exp r : ℝ) : EReal) := rfl

theorem coe_sum {ι : Type} (t : Finset ι) (f : ι → ℝ) : (∑ i ∈ t, ((f i : ℝ) : EReal)) = ((∑ i ∈ t, f i : ℝ) : EReal) := by
  classical
  induction t using Finset.induction_on with
  | empty => simp
  | insert a t ha ih => rw [Finset.sum_insert ha, Finset.sum_insert ha, ih, EReal.coe_add]

theorem fold_sup {ι : Type} [Fintype ι] (f : ι → EReal) : Finset.fold max ⊥ f Finset.univ = Finset.univ.sup f := rfl

theorem bridge {κ κ' : Type} [Fintype κ] [Fintype κ'] [Nonempty κ'] (e : κ' → κ) (he : Function.Injective e)
    (s : κ → EReal) (s' : κ' → EReal) (hs : ∀ m, s (e m) = s' m) (hb : ∀ k, (∀ m, e m ≠ k) → s k = ⊥)
    (x : κ' → ℝ) (hx : ∀ m, s' m = x m) (V : κ → EReal) (vr : κ → ℝ) (hV : ∀ k, V k = vr k) :
    (∑ k, Ideal.exp (s k - Finset.fold max ⊥ s Finset.univ) * V k)
        * Ideal.div 1 (∑ k, Ideal.exp (s k - Finset.fold max ⊥ s Finset.univ))
      = ∑ m, Ideal.div (Ideal.exp (s' m - Finset.fold max ⊥ s' Finset.univ))
          (∑ m, Ideal.exp (s' m - Finset.fold max ⊥ s' Finset.univ)) * V (e m) := by
  classical
  have hM : Finset.fold max ⊥ s Finset.univ = Finset.fold max ⊥ s' Finset.univ := by
    rw [fold_sup, fold_sup]
    apply le_antisymm
    · refine Finset.sup_le fun k _ => ?_
      by_cases h : ∃ m, e m = k
      · obtain ⟨m, rfl⟩ := h
        rw [hs]; exact Finset.le_sup (f := s') (Finset.mem_univ m)
      · rw [hb k (fun m hm => h ⟨m, hm⟩)]; exact bot_le
    · refine Finset.sup_le fun m _ => ?_
      rw [← hs]; exact Finset.le_sup (f := s) (Finset.mem_univ (e m))
  obtain ⟨m₀, -, h₀⟩ := Finset.exists_mem_eq_sup Finset.univ Finset.univ_nonempty s'
  have hμ : Finset.fold max ⊥ s' Finset.univ = ((x m₀ : ℝ) : EReal) := by rw [fold_sup, h₀, hx]
  rw [hM, hμ]
  have hw' : ∀ m, Ideal.exp (s' m - ((x m₀ : ℝ) : EReal)) = ((Real.exp (x m - x m₀) : ℝ) : EReal) := fun m => by
    rw [hx, ← EReal.coe_sub, exp_coe]
  have hw0 : ∀ k, (∀ m, e m ≠ k) → Ideal.exp (s k - ((x m₀ : ℝ) : EReal)) = 0 := fun k hk => by
    rw [hb k hk, EReal.bot_sub]; rfl
  have sumE : ∀ f : κ → EReal, (∀ k, (∀ m, e m ≠ k) → f k = 0) → ∑ k, f k = ∑ m, f (e m) := fun f hf => by
    refine (Finset.sum_of_injOn e he.injOn (fun _ _ => Finset.mem_coe.mpr (Finset.mem_univ _)) (fun k _ hk => hf k fun m hm => hk ?_) (fun _ _ => rfl)).symm
    exact ⟨m, Finset.mem_coe.mpr (Finset.mem_univ _), hm⟩
  have hL : ∑ k, Ideal.exp (s k - ((x m₀ : ℝ) : EReal)) = ((∑ m, Real.exp (x m - x m₀) : ℝ) : EReal) := by
    rw [sumE _ hw0, ← coe_sum]
    exact Finset.sum_congr rfl fun m _ => by rw [hs, hw']
  have hL' : ∑ m, Ideal.exp (s' m - ((x m₀ : ℝ) : EReal)) = ((∑ m, Real.exp (x m - x m₀) : ℝ) : EReal) := by
    rw [← coe_sum]
    exact Finset.sum_congr rfl fun m _ => by rw [hw']
  have hpos : 0 < ∑ m, Real.exp (x m - x m₀) := Finset.sum_pos (fun m _ => Real.exp_pos _) Finset.univ_nonempty
  have hdiv : ∀ y : ℝ, Ideal.div (y : EReal) ((∑ m, Real.exp (x m - x m₀) : ℝ) : EReal) = ((y * (∑ m, Real.exp (x m - x m₀))⁻¹ : ℝ) : EReal) := fun y => by
    rw [Ideal.div, if_neg (by exact_mod_cast hpos.ne'), EReal.coe_mul, EReal.coe_inv]
  have hN : ∑ k, Ideal.exp (s k - ((x m₀ : ℝ) : EReal)) * V k = ((∑ m, Real.exp (x m - x m₀) * vr (e m) : ℝ) : EReal) := by
    rw [sumE _ (fun k hk => by rw [hw0 k hk, zero_mul]), ← coe_sum]
    exact Finset.sum_congr rfl fun m _ => by rw [hs, hw', hV, EReal.coe_mul]
  have h1 : (1 : EReal) = ((1 : ℝ) : EReal) := rfl
  rw [hL, hL', hN, h1, hdiv, ← EReal.coe_mul, one_mul]
  have hR : ∀ m, Ideal.div (Ideal.exp (s' m - ((x m₀ : ℝ) : EReal))) ((∑ m, Real.exp (x m - x m₀) : ℝ) : EReal) * V (e m)
      = ((Real.exp (x m - x m₀) * (∑ m, Real.exp (x m - x m₀))⁻¹ * vr (e m) : ℝ) : EReal) := fun m => by
    rw [hw', hdiv, hV, EReal.coe_mul (Real.exp (x m - x m₀) * _)]
  rw [Finset.sum_congr rfl fun m _ => hR m, coe_sum, Finset.sum_mul]
  congr 1
  exact Finset.sum_congr rfl fun m _ => by ring

/-- A sum over 128 lanes of which only one half of 64 is kept. -/
theorem half_sum (f : Fin 128 → EReal) (b : Bool) (hf : ∀ x : Fin 128, ((x.val < 64) ≠ (b = true)) → f x = 0) :
    ∑ x, f x = ∑ d : Fin 64, f ⟨(if b then 0 else 64) + d.val, by split <;> omega⟩ := by
  have h := Fin.sum_univ_add (M := EReal) (a := 64) (b := 64) f
  refine h.trans ?_
  cases b
  · rw [Finset.sum_eq_zero (s := Finset.univ) (f := fun i : Fin 64 => f (Fin.castAdd 64 i)) (fun i _ => hf _ (by simp)), zero_add]
    exact Finset.sum_congr rfl fun d _ => congrArg f (Fin.ext rfl)
  · rw [Finset.sum_eq_zero (s := Finset.univ) (f := fun i : Fin 64 => f (Fin.natAdd 64 i)) (fun i _ => hf _ (by simp)), add_zero]
    exact Finset.sum_congr rfl fun d _ => congrArg f (Fin.ext (by simp))

end Cert.NaMath

end
-- ==== Proof.Gather.lean ====
/- Taking blocks of a stack by a column of block numbers, read at an index. -/
module

public import Idealize.ShloMosaic.PureOps
public import Idealize.ShloMosaic.Lib.StableHlo
public import Idealize.ShloMosaic.Lib.ValueIdxCore
public import Idealize.ShloMosaic.Lib.Pointwise

@[expose] public section

noncomputable section

namespace Cert.Take

open Idealize.ShloMosaic

variable {α : Type}

/-- `x[idx]` over a stack of `N` matrices. -/
abbrev dims3 (N n A B : ℕ) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- `x[idx]` over a stack of `N` rows. -/
abbrev dims2 (N n B : ℕ) (wf : GatherDims.WF ⟨2, ![N, B]⟩ ⟨2, ![n, 1]⟩ ⟨2, ![n, B]⟩ [1] [0] [] [0] [] 1 ![1, B]) :
    GatherDims ⟨2, ![N, B]⟩ ⟨2, ![n, 1]⟩ ⟨2, ![n, B]⟩ where
  offsetDims := [1]
  collapsedSliceDims := [0]
  operandBatchingDims := []
  startIndicesBatchingDims := []
  startIndexMap := [0]
  indexVectorDim := 1
  sliceSizes := ![1, B]
  wf := wf

theorem clamp {w N : ℕ} (v : BitVec w) (e : Fin N) (h : v.toInt = e.val) : min v.toInt.toNat (N - 1) = e.val := by
  have := e.isLt
  rw [h, Int.toNat_natCast]; omega

theorem take3 {w N n A B : ℕ} (wf) (x : (⟨3, ![N, A, B]⟩ : Shape).Idx → α) (idx : IVec ⟨2, ![n, 1]⟩ w) (c : Fin n) (p : Fin A) (q : Fin B) (e : Fin N)
    (h : (idx (ix2 c (0 : Fin 1))).toInt = e.val) : Host.gather (dims3 N n A B wf) x idx (ix3 c p q) = x (ix3 e p q) := by
  unfold Host.gather
  refine congrArg x (funext fun a => Fin.ext ?_)
  show (dims3 N n A B wf).start (ix3 c p q) idx a + (dims3 N n A B wf).batchCoord (ix3 c p q) a + (dims3 N n A B wf).offCoord (ix3 c p q) a = _
  rw [GatherDims.batchCoord_eq_zero _ _ _ List.not_mem_nil]
  have hc : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases hc with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (dims3 N n A B wf).startIndexMap from List.mem_singleton.mpr rfl)]
    have hsi : (dims3 N n A B wf).siIdx (ix3 c p q) ⟨List.idxOf (0 : Fin 3) (dims3 N n A B wf).startIndexMap,
        List.idxOf_lt_length_iff.2 (List.mem_singleton.mpr rfl)⟩ = ix2 c (0 : Fin 1) := by
      funext b; refine Fin.ext ?_
      match b with
      | ⟨0, _⟩ => rfl
      | ⟨1, _⟩ => rfl
    rw [hsi]
    exact clamp _ e h
  · unfold GatherDims.start
    rw [dif_neg (show (1 : Fin 3) ∉ (dims3 N n A B wf).startIndexMap from fun h => absurd (Fin.val_eq_of_eq (List.mem_singleton.mp h)) (by show ¬_; simp))]
    simp only [Nat.zero_add]
    rfl
  · unfold GatherDims.start
    rw [dif_neg (show (2 : Fin 3) ∉ (dims3 N n A B wf).startIndexMap from fun h => absurd (Fin.val_eq_of_eq (List.mem_singleton.mp h)) (by show ¬_; simp))]
    simp only [Nat.zero_add]
    rfl

theorem take2 {w N n B : ℕ} (wf) (x : (⟨2, ![N, B]⟩ : Shape).Idx → α) (idx : IVec ⟨2, ![n, 1]⟩ w) (c : Fin n) (q : Fin B) (e : Fin N)
    (h : (idx (ix2 c (0 : Fin 1))).toInt = e.val) : Host.gather (dims2 N n B wf) x idx (ix2 c q) = x (ix2 e q) := by
  unfold Host.gather
  refine congrArg x (funext fun a => Fin.ext ?_)
  show (dims2 N n B wf).start (ix2 c q) idx a + (dims2 N n B wf).batchCoord (ix2 c q) a + (dims2 N n B wf).offCoord (ix2 c q) a = _
  rw [GatherDims.batchCoord_eq_zero _ _ _ List.not_mem_nil]
  have hc : a = 0 ∨ a = 1 := by
    match a with
    | ⟨0, _⟩ => exact Or.inl rfl
    | ⟨1, _⟩ => exact Or.inr rfl
  rcases hc with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims2 N n B wf).startIndexMap from List.mem_singleton.mpr rfl)]
    have hsi : (dims2 N n B wf).siIdx (ix2 c q) ⟨List.idxOf (0 : Fin 2) (dims2 N n B wf).startIndexMap,
        List.idxOf_lt_length_iff.2 (List.mem_singleton.mpr rfl)⟩ = ix2 c (0 : Fin 1) := by
      funext b; refine Fin.ext ?_
      match b with
      | ⟨0, _⟩ => rfl
      | ⟨1, _⟩ => rfl
    rw [hsi]
    exact clamp _ e h
  · unfold GatherDims.start
    rw [dif_neg (show (1 : Fin 2) ∉ (dims2 N n B wf).startIndexMap from fun h => absurd (Fin.val_eq_of_eq (List.mem_singleton.mp h)) (by show ¬_; simp))]
    simp only [Nat.zero_add]
    rfl

end Cert.Take

end
-- ==== Proof.NaRef.lean ====
/- The neighbourhood attention's reference, read at an index. -/
module

public import proofs.«01_k».proof.Proof.Gen.NaRefIdeal.Read
public import proofs.«01_k».proof.Proof.Gather
public import proofs.«01_k».proof.Proof.NaTab
public import Idealize.ShloMosaic.Lib.ValueIdxRank6
public import Idealize.ShloMosaic.Lib.MatmulPlain

@[expose] public section

set_option maxRecDepth 65536

noncomputable section

open Idealize.ShloMosaic Idealize.ShloMosaic.TcCoe Idealize.SL.Sem

namespace Cert.NaRefIdeal.At

open Cert.NaRefIdeal Cert.NaRefIdeal.Gen Cert.NaRefIdeal.Read
open Cert.NaIdeal.Value (cs cs_lt add_small off_small slt_small toInt_small)

/-- A rank-7 index from its coordinates. -/
abbrev ix7 {n0 n1 n2 n3 n4 n5 n6 : Nat} (a : Fin n0) (b : Fin n1) (c : Fin n2) (d : Fin n3) (e : Fin n4) (f : Fin n5) (g : Fin n6) :
    (⟨7, ![n0, n1, n2, n3, n4, n5, n6]⟩ : Shape).Idx :=
  fun z => match z with | ⟨0, _⟩ => a | ⟨1, _⟩ => b | ⟨2, _⟩ => c | ⟨3, _⟩ => d | ⟨4, _⟩ => e | ⟨5, _⟩ => f | ⟨6, _⟩ => g

/-- The first row of a window. -/
def rs (r : ℕ) : ℕ := min 248 (r - 4)

theorem rs_le (r : ℕ) : rs r ≤ 248 := by unfold rs; omega

theorem rowIdx (r : Fin 256) (i : Fin 8) : val_main_v32 (F := Ideal) (ix2 r i) = BitVec.ofNat 32 (rs r.val + i.val) := by
  have h : val_main_v32 (F := Ideal) (ix2 r i) = IntOp.addi (IntOp.minsi 248#32 (IntOp.maxsi 0#32 (IntOp.subi (BitVec.ofNat 32 r.val) 4#32))) (BitVec.ofNat 32 i.val) := rfl
  have h2 : IntOp.minsi 248#32 (IntOp.maxsi 0#32 (IntOp.subi (BitVec.ofNat 32 r.val) 4#32)) = BitVec.ofNat 32 (rs r.val) := by
    clear h; revert r; decide
  rw [h, h2, add_small]

theorem colIdx (q : Fin 64) (j : Fin 16) : val_main_v41 (F := Ideal) (ix2 q j) = BitVec.ofNat 32 (cs q.val + j.val) := by
  have h : val_main_v41 (F := Ideal) (ix2 q j) = IntOp.addi (IntOp.minsi 48#32 (IntOp.maxsi 0#32 (IntOp.subi (BitVec.ofNat 32 q.val) 8#32))) (BitVec.ofNat 32 j.val) := rfl
  have h2 : IntOp.minsi 48#32 (IntOp.maxsi 0#32 (IntOp.subi (BitVec.ofNat 32 q.val) 8#32)) = BitVec.ofNat 32 (cs q.val) := by
    clear h; revert q; decide
  rw [h, h2, add_small]

theorem rowOff (r : Fin 256) (i : Fin 8) : val_main_v46 (F := Ideal) (ix2 r i) = BitVec.ofNat 32 (rs r.val + i.val + 7 - r.val) := by
  have h : val_main_v46 (F := Ideal) (ix2 r i) = IntOp.addi (IntOp.subi (val_main_v32 (F := Ideal) (ix2 r i)) (BitVec.ofNat 32 r.val)) 7#32 := rfl
  have h7 : (7#32 : BitVec 32) = BitVec.ofNat 32 7 := rfl
  have := rs_le r.val
  rw [h, rowIdx, h7, off_small _ _ _ (by omega) (by unfold rs; omega) (by omega)]

theorem colOff (q : Fin 64) (j : Fin 16) : val_main_v51 (F := Ideal) (ix2 q j) = BitVec.ofNat 32 (cs q.val + j.val + 15 - q.val) := by
  have h : val_main_v51 (F := Ideal) (ix2 q j) = IntOp.addi (IntOp.subi (val_main_v41 (F := Ideal) (ix2 q j)) (BitVec.ofNat 32 q.val)) 15#32 := rfl
  have h7 : (15#32 : BitVec 32) = BitVec.ofNat 32 15 := rfl
  have := cs_lt q.val
  rw [h, colIdx, h7, off_small _ _ _ (by omega) (by unfold cs; omega) (by omega)]

theorem nonneg (a : ℕ) (ha : a < 1000) (y : BitVec 32) : Scalar.select (IntOp.cmpi .slt (BitVec.ofNat 32 a) 0#32) y (BitVec.ofNat 32 a) = BitVec.ofNat 32 a := by
  have h0 : (0#32 : BitVec 32) = BitVec.ofNat 32 0 := rfl
  rw [h0, slt_small a 0 ha (by omega), if_neg (by omega)]; rfl

/-- Two columns of start indices side by side. -/
theorem pair_apply (a b : IVec S256x64x8x16x1 32) (r : Fin 256) (q : Fin 64) (i : Fin 8) (j : Fin 16) :
    concatenate S256x64x8x16x2 4 [⟨S256x64x8x16x1, a⟩, ⟨S256x64x8x16x1, b⟩] concatenates_S256x64x8x16x1_S256x64x8x16x1_S256x64x8x16x2_d4 (ix5 r q i j 0) = a (ix5 r q i j 0)
    ∧ concatenate S256x64x8x16x2 4 [⟨S256x64x8x16x1, a⟩, ⟨S256x64x8x16x1, b⟩] concatenates_S256x64x8x16x1_S256x64x8x16x1_S256x64x8x16x2_d4 (ix5 r q i j 1) = b (ix5 r q i j 0) := by
  constructor
  · refine concatenate_ofFn_apply (4 : Fin S256x64x8x16x2.rank) (![a, b] : Fin 2 → IVec S256x64x8x16x1 32) (s₁ := S256x64x8x16x1) (t := S256x64x8x16x2) concatenates_S256x64x8x16x1_S256x64x8x16x1_S256x64x8x16x2_d4 rfl 1 rfl (ix5 r q i j 0) (0 : Fin 2) ((Nat.div_one _).trans rfl) (ix5 r q i j (0 : Fin 1)) (Nat.mod_one _).symm ?_
    intro b hb; fin_cases b
    · rfl
    · rfl
    · rfl
    · rfl
    · exact absurd rfl hb
  · refine concatenate_ofFn_apply (4 : Fin S256x64x8x16x2.rank) (![a, b] : Fin 2 → IVec S256x64x8x16x1 32) (s₁ := S256x64x8x16x1) (t := S256x64x8x16x2) concatenates_S256x64x8x16x1_S256x64x8x16x1_S256x64x8x16x2_d4 rfl 1 rfl (ix5 r q i j 1) (1 : Fin 2) ((Nat.div_one _).trans rfl) (ix5 r q i j (0 : Fin 1)) (Nat.mod_one _).symm ?_
    intro b hb; fin_cases b
    · rfl
    · rfl
    · rfl
    · rfl
    · exact absurd rfl hb

theorem start68 (r : Fin 256) (q : Fin 64) (i : Fin 8) (j : Fin 16) :
    val_main_v68 (F := Ideal) (ix5 r q i j 0) = BitVec.ofNat 32 (rs r.val + i.val) ∧ val_main_v68 (F := Ideal) (ix5 r q i j 1) = BitVec.ofNat 32 (cs q.val + j.val) := by
  have hr := rs_le r.val
  have hc := cs_lt q.val
  constructor
  · refine ((pair_apply _ _ r q i j).1).trans ?_
    have h : val_main_v66 (F := Ideal) (ix5 r q i j 0) = Scalar.select (IntOp.cmpi .slt (val_main_v32 (F := Ideal) (ix2 r i)) 0#32) (IntOp.addi (val_main_v32 (F := Ideal) (ix2 r i)) 256#32) (val_main_v32 (F := Ideal) (ix2 r i)) := rfl
    rw [h, rowIdx, nonneg _ (by omega)]
  · refine ((pair_apply _ _ r q i j).2).trans ?_
    have h : val_main_v67 (F := Ideal) (ix5 r q i j 0) = Scalar.select (IntOp.cmpi .slt (val_main_v41 (F := Ideal) (ix2 q j)) 0#32) (IntOp.addi (val_main_v41 (F := Ideal) (ix2 q j)) 64#32) (val_main_v41 (F := Ideal) (ix2 q j)) := rfl
    rw [h, colIdx, nonneg _ (by omega)]

theorem start86 (r : Fin 256) (q : Fin 64) (i : Fin 8) (j : Fin 16) :
    val_main_v86 (F := Ideal) (ix5 r q i j 0) = BitVec.ofNat 32 (rs r.val + i.val) ∧ val_main_v86 (F := Ideal) (ix5 r q i j 1) = BitVec.ofNat 32 (cs q.val + j.val) := by
  have hr := rs_le r.val
  have hc := cs_lt q.val
  constructor
  · refine ((pair_apply _ _ r q i j).1).trans ?_
    have h : val_main_v84 (F := Ideal) (ix5 r q i j 0) = Scalar.select (IntOp.cmpi .slt (val_main_v32 (F := Ideal) (ix2 r i)) 0#32) (IntOp.addi (val_main_v32 (F := Ideal) (ix2 r i)) 256#32) (val_main_v32 (F := Ideal) (ix2 r i)) := rfl
    rw [h, rowIdx, nonneg _ (by omega)]
  · refine ((pair_apply _ _ r q i j).2).trans ?_
    have h : val_main_v85 (F := Ideal) (ix5 r q i j 0) = Scalar.select (IntOp.cmpi .slt (val_main_v41 (F := Ideal) (ix2 q j)) 0#32) (IntOp.addi (val_main_v41 (F := Ideal) (ix2 q j)) 64#32) (val_main_v41 (F := Ideal) (ix2 q j)) := rfl
    rw [h, colIdx, nonneg _ (by omega)]

theorem start104 (r : Fin 256) (q : Fin 64) (i : Fin 8) (j : Fin 16) :
    val_main_v104 (F := Ideal) (ix5 r q i j 0) = BitVec.ofNat 32 (rs r.val + i.val + 7 - r.val) ∧ val_main_v104 (F := Ideal) (ix5 r q i j 1) = BitVec.ofNat 32 (cs q.val + j.val + 15 - q.val) := by
  have hr := rs_le r.val
  have hc := cs_lt q.val
  constructor
  · refine ((pair_apply _ _ r q i j).1).trans ?_
    have h : val_main_v102 (F := Ideal) (ix5 r q i j 0) = Scalar.select (IntOp.cmpi .slt (val_main_v46 (F := Ideal) (ix2 r i)) 0#32) (IntOp.addi (val_main_v46 (F := Ideal) (ix2 r i)) 15#32) (val_main_v46 (F := Ideal) (ix2 r i)) := rfl
    rw [h, rowOff, nonneg _ (by omega)]
  · refine ((pair_apply _ _ r q i j).2).trans ?_
    have h : val_main_v103 (F := Ideal) (ix5 r q i j 0) = Scalar.select (IntOp.cmpi .slt (val_main_v51 (F := Ideal) (ix2 q j)) 0#32) (IntOp.addi (val_main_v51 (F := Ideal) (ix2 q j)) 31#32) (val_main_v51 (F := Ideal) (ix2 q j)) := rfl
    rw [h, colOff, nonneg _ (by omega)]

/-- The rows and columns taken from the keys or the values. -/
theorem take7 (x : FVec Ideal S2x16x256x64x64 .f32) (idx : IVec S256x64x8x16x2 32) (b : Fin 2) (h : Fin 16) (r : Fin 256) (q : Fin 64) (i : Fin 8) (j : Fin 16) (d : Fin 64)
    (e : Fin 256) (f : Fin 64) (he : (idx (ix5 r q i j 0)).toInt = e.val) (hf : (idx (ix5 r q i j 1)).toInt = f.val) :
    Host.gather gather_S2x16x256x64x64_S256x64x8x16x2_S2x16x256x64x8x16x64_016_23_n_n_23_4_2161164 x idx (ix7 b h r q i j d) = x (ix5 b h e f d) := by
  unfold Host.gather
  refine congrArg x (funext fun a => Fin.ext ?_)
  show (gather_S2x16x256x64x64_S256x64x8x16x2_S2x16x256x64x8x16x64_016_23_n_n_23_4_2161164).start (ix7 b h r q i j d) idx a + (gather_S2x16x256x64x64_S256x64x8x16x2_S2x16x256x64x8x16x64_016_23_n_n_23_4_2161164).batchCoord (ix7 b h r q i j d) a + (gather_S2x16x256x64x64_S256x64x8x16x2_S2x16x256x64x8x16x64_016_23_n_n_23_4_2161164).offCoord (ix7 b h r q i j d) a = _
  rw [GatherDims.batchCoord_eq_zero _ _ _ List.not_mem_nil]
  set D := gather_S2x16x256x64x64_S256x64x8x16x2_S2x16x256x64x8x16x64_016_23_n_n_23_4_2161164 with hD
  have hc : a = 0 ∨ a = 1 ∨ a = 2 ∨ a = 3 ∨ a = 4 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr (Or.inl rfl)))
    | ⟨4, _⟩ => exact Or.inr (Or.inr (Or.inr (Or.inr rfl)))
  have m2 : (2 : Fin 5) ∈ D.startIndexMap := by show (2 : Fin 5) ∈ [2, 3]; decide
  have m3 : (3 : Fin 5) ∈ D.startIndexMap := by show (3 : Fin 5) ∈ [2, 3]; decide
  have n0 : (0 : Fin 5) ∉ D.startIndexMap := by show (0 : Fin 5) ∉ [2, 3]; decide
  have n1 : (1 : Fin 5) ∉ D.startIndexMap := by show (1 : Fin 5) ∉ [2, 3]; decide
  have n4 : (4 : Fin 5) ∉ D.startIndexMap := by show (4 : Fin 5) ∉ [2, 3]; decide
  rcases hc with rfl | rfl | rfl | rfl | rfl
  · unfold GatherDims.start
    rw [dif_neg n0]; simp only [Nat.zero_add]; rfl
  · unfold GatherDims.start
    rw [dif_neg n1]; simp only [Nat.zero_add]; rfl
  · rw [GatherDims.offCoord_eq_zero _ _ _ (fun h => ((GatherDims.mem_sKept _ _).mp h).1 (by show (2 : Fin 5) ∈ [2, 3]; decide))]
    simp only [Nat.add_zero]
    unfold GatherDims.start
    rw [dif_pos m2]
    have hsi : D.siIdx (ix7 b h r q i j d) ⟨List.idxOf (2 : Fin 5) D.startIndexMap, List.idxOf_lt_length_iff.2 m2⟩ = ix5 r q i j 0 := by
      funext z; refine Fin.ext ?_
      match z with
      | ⟨0, _⟩ => rfl
      | ⟨1, _⟩ => rfl
      | ⟨2, _⟩ => rfl
      | ⟨3, _⟩ => rfl
      | ⟨4, _⟩ => rfl
    rw [hsi]
    exact Cert.Take.clamp _ e he
  · rw [GatherDims.offCoord_eq_zero _ _ _ (fun h => ((GatherDims.mem_sKept _ _).mp h).1 (by show (3 : Fin 5) ∈ [2, 3]; decide))]
    simp only [Nat.add_zero]
    unfold GatherDims.start
    rw [dif_pos m3]
    have hsi : D.siIdx (ix7 b h r q i j d) ⟨List.idxOf (3 : Fin 5) D.startIndexMap, List.idxOf_lt_length_iff.2 m3⟩ = ix5 r q i j 1 := by
      funext z; refine Fin.ext ?_
      match z with
      | ⟨0, _⟩ => rfl
      | ⟨1, _⟩ => rfl
      | ⟨2, _⟩ => rfl
      | ⟨3, _⟩ => rfl
      | ⟨4, _⟩ => rfl
    rw [hsi]
    exact Cert.Take.clamp _ f hf
  · unfold GatherDims.start
    rw [dif_neg n4]; simp only [Nat.zero_add]; rfl

/-- The biases taken by row and column offset. -/
theorem takeB (x : FVec Ideal S16x15x31 .f32) (idx : IVec S256x64x8x16x2 32) (h : Fin 16) (r : Fin 256) (q : Fin 64) (i : Fin 8) (j : Fin 16)
    (e : Fin 15) (f : Fin 31) (he : (idx (ix5 r q i j 0)).toInt = e.val) (hf : (idx (ix5 r q i j 1)).toInt = f.val) :
    Host.gather gather_S16x15x31_S256x64x8x16x2_S16x256x64x8x16_0_12_n_n_12_4_1611 x idx (ix5 h r q i j) = x (ix3 h e f) := by
  unfold Host.gather
  refine congrArg x (funext fun a => Fin.ext ?_)
  show (gather_S16x15x31_S256x64x8x16x2_S16x256x64x8x16_0_12_n_n_12_4_1611).start (ix5 h r q i j) idx a + (gather_S16x15x31_S256x64x8x16x2_S16x256x64x8x16_0_12_n_n_12_4_1611).batchCoord (ix5 h r q i j) a + (gather_S16x15x31_S256x64x8x16x2_S16x256x64x8x16_0_12_n_n_12_4_1611).offCoord (ix5 h r q i j) a = _
  rw [GatherDims.batchCoord_eq_zero _ _ _ List.not_mem_nil]
  set D := gather_S16x15x31_S256x64x8x16x2_S16x256x64x8x16_0_12_n_n_12_4_1611 with hD
  have hc : a = 0 ∨ a = 1 ∨ a = 2 := by
    match a with
    | ⟨0, _⟩ => exact Or.inl rfl
    | ⟨1, _⟩ => exact Or.inr (Or.inl rfl)
    | ⟨2, _⟩ => exact Or.inr (Or.inr rfl)
  have m2 : (1 : Fin 3) ∈ D.startIndexMap := by show (1 : Fin 3) ∈ [1, 2]; decide
  have m3 : (2 : Fin 3) ∈ D.startIndexMap := by show (2 : Fin 3) ∈ [1, 2]; decide
  have n0 : (0 : Fin 3) ∉ D.startIndexMap := by show (0 : Fin 3) ∉ [1, 2]; decide
  rcases hc with rfl | rfl | rfl
  · unfold GatherDims.start
    rw [dif_neg n0]; simp only [Nat.zero_add]; rfl
  · rw [GatherDims.offCoord_eq_zero _ _ _ (fun h => ((GatherDims.mem_sKept _ _).mp h).1 (by show (1 : Fin 3) ∈ [1, 2]; decide))]
    simp only [Nat.add_zero]
    unfold GatherDims.start
    rw [dif_pos m2]
    have hsi : D.siIdx (ix5 h r q i j) ⟨List.idxOf (1 : Fin 3) D.startIndexMap, List.idxOf_lt_length_iff.2 m2⟩ = ix5 r q i j 0 := by
      funext z; refine Fin.ext ?_
      match z with
      | ⟨0, _⟩ => rfl
      | ⟨1, _⟩ => rfl
      | ⟨2, _⟩ => rfl
      | ⟨3, _⟩ => rfl
      | ⟨4, _⟩ => rfl
    rw [hsi]
    exact Cert.Take.clamp _ e he
  · rw [GatherDims.offCoord_eq_zero _ _ _ (fun h => ((GatherDims.mem_sKept _ _).mp h).1 (by show (2 : Fin 3) ∈ [1, 2]; decide))]
    simp only [Nat.add_zero]
    unfold GatherDims.start
    rw [dif_pos m3]
    have hsi : D.siIdx (ix5 h r q i j) ⟨List.idxOf (2 : Fin 3) D.startIndexMap, List.idxOf_lt_length_iff.2 m3⟩ = ix5 r q i j 1 := by
      funext z; refine Fin.ext ?_
      match z with
      | ⟨0, _⟩ => rfl
      | ⟨1, _⟩ => rfl
      | ⟨2, _⟩ => rfl
      | ⟨3, _⟩ => rfl
      | ⟨4, _⟩ => rfl
    rw [hsi]
    exact Cert.Take.clamp _ f hf

end Cert.NaRefIdeal.At

end
-- ==== Proof.NaRefOut.lean ====
/- The neighbourhood attention's reference as one softmax over the 384 keys of a token. -/
module

public import proofs.«01_k».proof.Proof.NaRef
public import Idealize.ShloMosaic.Lib.TwoAxisContraction

@[expose] public section

set_option maxRecDepth 65536

noncomputable section

open Idealize.ShloMosaic Idealize.ShloMosaic.TcCoe Idealize.SL.Sem

namespace Cert.NaRefIdeal.At

open Cert.NaRefIdeal Cert.NaRefIdeal.Gen Cert.NaRefIdeal.Read
open Cert.NaIdeal.Value (cs cs_lt add_small off_small slt_small toInt_small)

/-- The queries' scale. -/
abbrev c8 : EReal := Ideal.ofBits FTy.f32 0x3E000000#32

/-- The arguments, as arrays of extended reals. -/
abbrev A0 := (⟨S2x16640x3072, .bf16⟩ : BufTy).Contents (Elt Ideal)
abbrev A1 := (⟨S16x15x31, .f32⟩ : BufTy).Contents (Elt Ideal)

variable (x0 : A0) (x1 : A1)

theorem v2_apply (b : Fin 2) (r : Fin 256) (q : Fin 64) (z : Fin 3) (h : Fin 16) (d : Fin 64) :
    val_main_v2 (F := Ideal) x0 (ix6 b r q z h d) = x0 (ix3 b ⟨64 * r.val + q.val, by omega⟩ ⟨1024 * z.val + 64 * h.val + d.val, by omega⟩) := by
  have e : val_main_v2 (F := Ideal) x0 (ix6 b r q z h d) = val_main_v1 (F := Ideal) x0 (ix3 b ⟨64 * r.val + q.val, by omega⟩ ⟨1024 * z.val + 64 * h.val + d.val, by omega⟩) := by
    unfold val_main_v2
    generalize val_main_v1 (F := Ideal) x0 = y
    refine shapeCast_apply _ _ _ _ ?_
    rewrite [Shape.rowMajor_val_three, Shape.rowMajor_val_six]
    show (b.val * 16384 + (64 * r.val + q.val)) * 3072 + (1024 * z.val + 64 * h.val + d.val) = ((((b.val * 256 + r.val) * 64 + q.val) * 3 + z.val) * 16 + h.val) * 64 + d.val
    omega
  rw [e, val_main_v1_apply, val_main_v0_apply]
  show x0 _ = x0 _
  refine congrArg x0 (funext fun a => Fin.ext ?_)
  match a with
  | ⟨0, _⟩ => show _ = b.val; simp [ix3, idx_main_v1]
  | ⟨1, _⟩ => show _ = 64 * r.val + q.val; simp [ix3, idx_main_v1]
  | ⟨2, _⟩ => show _ = 1024 * z.val + 64 * h.val + d.val; simp [ix3, idx_main_v1]

theorem drop1 (y : FVec Ideal S2x256x64x1x16x64 .f32) (b : Fin 2) (r : Fin 256) (q : Fin 64) (h : Fin 16) (d : Fin 64) :
    shapeCast S2x256x64x16x64 y shapeCasts_S2x256x64x1x16x64_S2x256x64x16x64 (ix5 b r q h d) = y (ix6 b r q 0 h d) := by
  refine shapeCast_apply _ _ _ _ ?_
  rewrite [Shape.rowMajor_val_five, Shape.rowMajor_val_six]
  show ((((b.val * 256 + r.val) * 64 + q.val) * 1 + 0) * 16 + h.val) * 64 + d.val = (((b.val * 256 + r.val) * 64 + q.val) * 16 + h.val) * 64 + d.val
  omega

theorem qv (b : Fin 2) (h : Fin 16) (r : Fin 256) (q : Fin 64) (d : Fin 64) :
    val_main_v7 (F := Ideal) x0 (ix5 b h r q d) = (x0 (ix3 b ⟨64 * r.val + q.val, by omega⟩ ⟨64 * h.val + d.val, by omega⟩) : EReal) * c8 := by
  rw [val_main_v7_apply, val_main_v5_apply]
  have hi : idx_main_v5 (ix5 b h r q d) = ix5 b r q h d := by
    funext a; match a with
    | ⟨0, _⟩ => rfl
    | ⟨1, _⟩ => rfl
    | ⟨2, _⟩ => rfl
    | ⟨3, _⟩ => rfl
    | ⟨4, _⟩ => rfl
  rw [hi]
  unfold val_main_v4
  rw [drop1, val_main_v3_apply]
  have hj : idx_main_v3 (ix6 b r q 0 h d) = ix6 b r q 0 h d := by
    funext a; match a with
    | ⟨0, _⟩ => rfl
    | ⟨1, _⟩ => rfl
    | ⟨2, _⟩ => rfl
    | ⟨3, _⟩ => rfl
    | ⟨4, _⟩ => rfl
    | ⟨5, _⟩ => rfl
  rw [hj, v2_apply, val_main_v6_apply, val_main_cst_apply]
  have hk : (ix3 b ⟨64 * r.val + q.val, by omega⟩ ⟨1024 * (0 : Fin 3).val + 64 * h.val + d.val, by simp; omega⟩ : S2x16640x3072.Idx) = ix3 b ⟨64 * r.val + q.val, by omega⟩ ⟨64 * h.val + d.val, by omega⟩ := by
    congr 1; apply Fin.ext; simp
  rw [hk]; rfl

theorem kk (b : Fin 2) (h : Fin 16) (r : Fin 256) (q : Fin 64) (d : Fin 64) :
    val_main_v10 (F := Ideal) x0 (ix5 b h r q d) = x0 (ix3 b ⟨64 * r.val + q.val, by omega⟩ ⟨1024 + 64 * h.val + d.val, by omega⟩) := by
  rw [val_main_v10_apply]
  have hi : idx_main_v10 (ix5 b h r q d) = ix5 b r q h d := by
    funext a; match a with
    | ⟨0, _⟩ => rfl
    | ⟨1, _⟩ => rfl
    | ⟨2, _⟩ => rfl
    | ⟨3, _⟩ => rfl
    | ⟨4, _⟩ => rfl
  rw [hi]
  unfold val_main_v9
  rw [drop1, val_main_v8_apply]
  have hj : idx_main_v8 (ix6 b r q 0 h d) = ix6 b r q 1 h d := by
    funext a; match a with
    | ⟨0, _⟩ => rfl
    | ⟨1, _⟩ => rfl
    | ⟨2, _⟩ => rfl
    | ⟨3, _⟩ => rfl
    | ⟨4, _⟩ => rfl
    | ⟨5, _⟩ => rfl
  rw [hj, v2_apply]
  rfl

theorem vv (b : Fin 2) (h : Fin 16) (r : Fin 256) (q : Fin 64) (d : Fin 64) :
    val_main_v13 (F := Ideal) x0 (ix5 b h r q d) = x0 (ix3 b ⟨64 * r.val + q.val, by omega⟩ ⟨2048 + 64 * h.val + d.val, by omega⟩) := by
  rw [val_main_v13_apply]
  have hi : idx_main_v13 (ix5 b h r q d) = ix5 b r q h d := by
    funext a; match a with
    | ⟨0, _⟩ => rfl
    | ⟨1, _⟩ => rfl
    | ⟨2, _⟩ => rfl
    | ⟨3, _⟩ => rfl
    | ⟨4, _⟩ => rfl
  rw [hi]
  unfold val_main_v12
  rw [drop1, val_main_v11_apply]
  have hj : idx_main_v11 (ix6 b r q 0 h d) = ix6 b r q 2 h d := by
    funext a; match a with
    | ⟨0, _⟩ => rfl
    | ⟨1, _⟩ => rfl
    | ⟨2, _⟩ => rfl
    | ⟨3, _⟩ => rfl
    | ⟨4, _⟩ => rfl
    | ⟨5, _⟩ => rfl
  rw [hj, v2_apply]
  rfl

theorem v15_apply (b : Fin 2) (p : Fin 256) (z : Fin 3) (h : Fin 16) (d : Fin 64) :
    val_main_v15 (F := Ideal) x0 (ix5 b p z h d) = x0 (ix3 b ⟨16384 + p.val, by omega⟩ ⟨1024 * z.val + 64 * h.val + d.val, by omega⟩) := by
  have e : val_main_v15 (F := Ideal) x0 (ix5 b p z h d) = val_main_v14 (F := Ideal) x0 (ix3 b p ⟨1024 * z.val + 64 * h.val + d.val, by omega⟩) := by
    unfold val_main_v15
    generalize val_main_v14 (F := Ideal) x0 = y
    refine shapeCast_apply _ _ _ _ ?_
    rewrite [Shape.rowMajor_val_three, Shape.rowMajor_val_five]
    show (b.val * 256 + p.val) * 3072 + (1024 * z.val + 64 * h.val + d.val) = (((b.val * 256 + p.val) * 3 + z.val) * 16 + h.val) * 64 + d.val
    omega
  rw [e, val_main_v14_apply, val_main_v0_apply]
  show x0 _ = x0 _
  refine congrArg x0 (funext fun a => ?_)
  match a with
  | ⟨0, _⟩ => rfl
  | ⟨1, _⟩ => rfl
  | ⟨2, _⟩ => rfl

theorem dropc (y : FVec Ideal S2x256x1x16x64 .f32) (b : Fin 2) (p : Fin 256) (h : Fin 16) (d : Fin 64) :
    shapeCast S2x256x16x64 y shapeCasts_S2x256x1x16x64_S2x256x16x64 (ix4 b p h d) = y (ix5 b p 0 h d) := by
  refine shapeCast_apply _ _ _ _ ?_
  rewrite [Shape.rowMajor_val_four, Shape.rowMajor_val_five]
  show (((b.val * 256 + p.val) * 1 + 0) * 16 + h.val) * 64 + d.val = ((b.val * 256 + p.val) * 16 + h.val) * 64 + d.val
  omega

theorem kc (b : Fin 2) (h : Fin 16) (p : Fin 256) (d : Fin 64) :
    val_main_v18 (F := Ideal) x0 (ix4 b h p d) = x0 (ix3 b ⟨16384 + p.val, by omega⟩ ⟨1024 + 64 * h.val + d.val, by omega⟩) := by
  rw [val_main_v18_apply]
  have hi : idx_main_v18 (ix4 b h p d) = ix4 b p h d := by
    funext a; match a with
    | ⟨0, _⟩ => rfl
    | ⟨1, _⟩ => rfl
    | ⟨2, _⟩ => rfl
    | ⟨3, _⟩ => rfl
  rw [hi]
  unfold val_main_v17
  rw [dropc, val_main_v16_apply]
  have hj : idx_main_v16 (ix5 b p 0 h d) = ix5 b p 1 h d := by
    funext a; match a with
    | ⟨0, _⟩ => rfl
    | ⟨1, _⟩ => rfl
    | ⟨2, _⟩ => rfl
    | ⟨3, _⟩ => rfl
    | ⟨4, _⟩ => rfl
  rw [hj, v15_apply]
  rfl

theorem vc (b : Fin 2) (h : Fin 16) (p : Fin 256) (d : Fin 64) :
    val_main_v21 (F := Ideal) x0 (ix4 b h p d) = x0 (ix3 b ⟨16384 + p.val, by omega⟩ ⟨2048 + 64 * h.val + d.val, by omega⟩) := by
  rw [val_main_v21_apply]
  have hi : idx_main_v21 (ix4 b h p d) = ix4 b p h d := by
    funext a; match a with
    | ⟨0, _⟩ => rfl
    | ⟨1, _⟩ => rfl
    | ⟨2, _⟩ => rfl
    | ⟨3, _⟩ => rfl
  rw [hi]
  unfold val_main_v20
  rw [dropc, val_main_v19_apply]
  have hj : idx_main_v19 (ix5 b p 0 h d) = ix5 b p 2 h d := by
    funext a; match a with
    | ⟨0, _⟩ => rfl
    | ⟨1, _⟩ => rfl
    | ⟨2, _⟩ => rfl
    | ⟨3, _⟩ => rfl
    | ⟨4, _⟩ => rfl
  rw [hj, v15_apply]
  rfl

/-- The row of `x0` that holds key `m` of token `(r, q)`. -/
def krow (r q m : ℕ) : ℕ := if m < 128 then 64 * (rs r + m / 16) + (cs q + m % 16) else 16384 + (m - 128)

theorem krow_lt (r q m : ℕ) (hm : m < 384) : krow r q m < 16640 := by
  have := rs_le r; have := cs_lt q
  unfold krow; split <;> omega

/-- The score of key `m`. -/
def sR (b : Fin 2) (h : Fin 16) (r : Fin 256) (q : Fin 64) (m : Fin 384) : EReal :=
  (∑ d : Fin 64, ((x0 (ix3 b ⟨64 * r.val + q.val, by omega⟩ ⟨64 * h.val + d.val, by omega⟩) : EReal) * c8) * (x0 (ix3 b ⟨krow r.val q.val m.val, krow_lt _ _ _ m.isLt⟩ ⟨1024 + 64 * h.val + d.val, by omega⟩) : EReal))
    + (if m.val < 128 then (x1 (ix3 h ⟨(rs r.val + m.val / 16 + 7 - r.val) % 15, Nat.mod_lt _ (by decide)⟩ ⟨(cs q.val + m.val % 16 + 15 - q.val) % 31, Nat.mod_lt _ (by decide)⟩) : EReal) else 0)

/-- The value of key `m`. -/
def vR (b : Fin 2) (h : Fin 16) (r : Fin 256) (q : Fin 64) (d : Fin 64) (m : Fin 384) : EReal :=
  x0 (ix3 b ⟨krow r.val q.val m.val, krow_lt _ _ _ m.isLt⟩ ⟨2048 + 64 * h.val + d.val, by omega⟩)

theorem krow_near (r : Fin 256) (q : Fin 64) (i : Fin 8) (j : Fin 16) : krow r.val q.val (16 * i.val + j.val) = 64 * (rs r.val + i.val) + (cs q.val + j.val) := by
  unfold krow
  rw [if_pos (by omega), show (16 * i.val + j.val) / 16 = i.val by omega, show (16 * i.val + j.val) % 16 = j.val by omega]

theorem krow_ctx (r : Fin 256) (q : Fin 64) (k : Fin 256) : krow r.val q.val (128 + k.val) = 16384 + k.val := by
  unfold krow
  rw [if_neg (by omega)]; omega

theorem near_score (b : Fin 2) (h : Fin 16) (r : Fin 256) (q : Fin 64) (i : Fin 8) (j : Fin 16) :
    val_main_v109 (F := Ideal) x0 x1 (ix6 b h r q i j) = sR x0 x1 b h r q ⟨16 * i.val + j.val, by omega⟩ := by
  have hr := rs_le r.val
  have hc := cs_lt q.val
  rw [val_main_v109_apply, val_main_v106_apply, val_main_v108_apply, val_main_v107_apply]
  unfold sR
  show (_ : EReal) + _ = _
  congr 1
  · refine Finset.sum_congr rfl fun d _ => ?_
    have h1 : lidx_main_v106 (ix6 b h r q i j) d = ix5 b h r q d := by
      funext a; match a with
      | ⟨0, _⟩ => rfl
      | ⟨1, _⟩ => rfl
      | ⟨2, _⟩ => rfl
      | ⟨3, _⟩ => rfl
      | ⟨4, _⟩ => rfl
    have h2 : ridx_main_v106 (ix6 b h r q i j) d = ix7 b h r q i j d := by
      funext a; match a with
      | ⟨0, _⟩ => rfl
      | ⟨1, _⟩ => rfl
      | ⟨2, _⟩ => rfl
      | ⟨3, _⟩ => rfl
      | ⟨4, _⟩ => rfl
      | ⟨5, _⟩ => rfl
      | ⟨6, _⟩ => rfl
    rw [h1, h2, qv]
    unfold val_main_v69
    rw [take7 _ _ b h r q i j d ⟨rs r.val + i.val, by omega⟩ ⟨cs q.val + j.val, by omega⟩
      (by rw [(start68 r q i j).1, toInt_small _ (by omega)])
      (by rw [(start68 r q i j).2, toInt_small _ (by omega)]), kk]
    refine congrArg₂ _ rfl (congrArg x0 ?_)
    congr 1
    exact Fin.ext (krow_near r q i j).symm
  · have h1 : idx_main_v107 (idx_main_v108 (ix6 b h r q i j)) = ix5 h r q i j := by
      funext a; match a with
      | ⟨0, _⟩ => rfl
      | ⟨1, _⟩ => rfl
      | ⟨2, _⟩ => rfl
      | ⟨3, _⟩ => rfl
      | ⟨4, _⟩ => rfl
    rw [h1]
    unfold val_main_v105
    rw [takeB _ _ h r q i j ⟨rs r.val + i.val + 7 - r.val, by unfold rs at *; omega⟩ ⟨cs q.val + j.val + 15 - q.val, by unfold cs at *; omega⟩
      (by rw [(start104 r q i j).1, toInt_small _ (by omega)])
      (by rw [(start104 r q i j).2, toInt_small _ (by omega)])]
    rw [if_pos (by show 16 * i.val + j.val < 128; omega)]
    refine congrArg x1 ?_
    congr 1
    · refine Fin.ext ?_
      show rs r.val + i.val + 7 - r.val = (rs r.val + (16 * i.val + j.val) / 16 + 7 - r.val) % 15
      unfold rs; omega
    · refine Fin.ext ?_
      show cs q.val + j.val + 15 - q.val = (cs q.val + (16 * i.val + j.val) % 16 + 15 - q.val) % 31
      unfold cs; omega

theorem ctx_score (b : Fin 2) (h : Fin 16) (r : Fin 256) (q : Fin 64) (k : Fin 256) :
    val_main_v110 (F := Ideal) x0 (ix5 b h r q k) = sR x0 x1 b h r q ⟨128 + k.val, by omega⟩ := by
  rw [val_main_v110_apply]
  unfold sR
  rw [if_neg (by show ¬ (128 + k.val < 128); omega), add_zero]
  refine Finset.sum_congr rfl fun d _ => ?_
  have h1 : lidx_main_v110 (ix5 b h r q k) d = ix5 b h r q d := by
    funext a; match a with
    | ⟨0, _⟩ => rfl
    | ⟨1, _⟩ => rfl
    | ⟨2, _⟩ => rfl
    | ⟨3, _⟩ => rfl
    | ⟨4, _⟩ => rfl
  have h2 : ridx_main_v110 (ix5 b h r q k) d = ix4 b h k d := by
    funext a; match a with
    | ⟨0, _⟩ => rfl
    | ⟨1, _⟩ => rfl
    | ⟨2, _⟩ => rfl
    | ⟨3, _⟩ => rfl
  rw [h1, h2, qv, kc]
  refine congrArg₂ _ rfl (congrArg x0 ?_)
  congr 1
  exact Fin.ext (krow_ctx r q k).symm

theorem scores (b : Fin 2) (h : Fin 16) (r : Fin 256) (q : Fin 64) (m : Fin 384) :
    val_main_v112 (F := Ideal) x0 x1 (ix5 b h r q m) = sR x0 x1 b h r q m := by
  unfold val_main_v112
  by_cases hm : m.val < 128
  · refine (concatenate_pair_apply_left (4 : Fin S2x16x256x64x384.rank) (s₁ := S2x16x256x64x128) (s₂ := S2x16x256x64x256) _ _ _ (ix5 b h r q m) rfl (ix5 b h r q (⟨m.val, hm⟩ : Fin 128)) ?_).trans ?_
    · intro a; match a with
      | ⟨0, _⟩ => rfl
      | ⟨1, _⟩ => rfl
      | ⟨2, _⟩ => rfl
      | ⟨3, _⟩ => rfl
      | ⟨4, _⟩ => rfl
    · unfold val_main_v111
      have e : shapeCast S2x16x256x64x128 (val_main_v109 (F := Ideal) x0 x1) shapeCasts_S2x16x256x64x8x16_S2x16x256x64x128 (ix5 b h r q (⟨m.val, hm⟩ : Fin 128)) = val_main_v109 (F := Ideal) x0 x1 (ix6 b h r q ⟨m.val / 16, by omega⟩ ⟨m.val % 16, by omega⟩) := by
        generalize val_main_v109 (F := Ideal) x0 x1 = y
        refine shapeCast_apply _ _ _ _ ?_
        rewrite [Shape.rowMajor_val_five, Shape.rowMajor_val_six]
        show ((((b.val * 16 + h.val) * 256 + r.val) * 64 + q.val) * 8 + m.val / 16) * 16 + m.val % 16 = (((b.val * 16 + h.val) * 256 + r.val) * 64 + q.val) * 128 + m.val
        omega
      rw [e, near_score]
      congr 1
      refine Fin.ext ?_
      show 16 * (m.val / 16) + m.val % 16 = m.val
      omega
  · refine (concatenate_pair_apply_right (4 : Fin S2x16x256x64x384.rank) (s₁ := S2x16x256x64x128) (s₂ := S2x16x256x64x256) _ _ _ (ix5 b h r q m) rfl rfl (ix5 b h r q (⟨m.val - 128, by omega⟩ : Fin 256)) ?_ ?_).trans ?_
    · intro a ha; match a with
      | ⟨0, _⟩ => rfl
      | ⟨1, _⟩ => rfl
      | ⟨2, _⟩ => rfl
      | ⟨3, _⟩ => rfl
      | ⟨4, _⟩ => exact absurd rfl ha
    · show m.val - 128 + 128 = m.val
      omega
    · rw [ctx_score x0 x1]
      congr 1
      refine Fin.ext ?_
      show 128 + (m.val - 128) = m.val
      omega

theorem ninf : Ideal.ofBits FTy.f32 0xFF800000#32 = (⊥ : EReal) := by
  simp [Ideal.ofBits, Ideal.ieee]

/-- The largest score. -/
abbrev mR (b : Fin 2) (h : Fin 16) (r : Fin 256) (q : Fin 64) : EReal := Finset.fold max ⊥ (fun m => sR x0 x1 b h r q m) Finset.univ

theorem top (b : Fin 2) (h : Fin 16) (r : Fin 256) (q : Fin 64) : val_main_v115 (F := Ideal) x0 x1 (ix4 b h r q) = mR x0 x1 b h r q := by
  have hR : S2x16x256x64x384.Reduces [4] S2x16x256x64 := by decide
  have e : val_main_v113 (F := Ideal) x0 x1 (ix4 b h r q) = mR x0 x1 b h r q := by
    unfold val_main_v113
    rw [Host.reduce_eq_fold_single FloatOps.maximumf _ _ _ hR]
    have hf : (val_main_v112 (F := Ideal) x0 x1 ∘ hR.lift (ix4 b h r q)) = fun m : Fin 384 => sR x0 x1 b h r q m := by
      funext m
      refine Eq.trans (congrArg (val_main_v112 (F := Ideal) x0 x1) ?_) (scores x0 x1 b h r q m)
      funext a; refine Fin.ext ?_
      match a with
      | ⟨0, _⟩ => rfl
      | ⟨1, _⟩ => rfl
      | ⟨2, _⟩ => rfl
      | ⟨3, _⟩ => rfl
      | ⟨4, _⟩ => rfl
    rw [hf]
    show Finset.fold max (Ideal.ofBits FTy.f32 0xFF800000#32) _ _ = _
    rw [ninf]; rfl
  rw [val_main_v115_apply, e, val_main_v114_apply, val_main_cst_20_apply]
  show max (Ideal.ofBits FTy.f32 0xFF800000#32) _ = _
  rw [ninf]; exact max_eq_right bot_le

theorem weight (b : Fin 2) (h : Fin 16) (r : Fin 256) (q : Fin 64) (m : Fin 384) :
    val_main_v119 (F := Ideal) x0 x1 (ix5 b h r q m) = Ideal.exp (sR x0 x1 b h r q m - mR x0 x1 b h r q) := by
  rw [val_main_v119_apply, val_main_v118_apply, val_main_v117_apply, val_main_v116_apply, scores]
  have hi : idx_main_v116 (idx_main_v117 (ix5 b h r q m)) = ix4 b h r q := by
    funext a; match a with
    | ⟨0, _⟩ => rfl
    | ⟨1, _⟩ => rfl
    | ⟨2, _⟩ => rfl
    | ⟨3, _⟩ => rfl
  rw [hi, top]
  rfl

/-- One softmax weight. -/
abbrev pR (b : Fin 2) (h : Fin 16) (r : Fin 256) (q : Fin 64) (m : Fin 384) : EReal :=
  Ideal.div (Ideal.exp (sR x0 x1 b h r q m - mR x0 x1 b h r q)) (∑ k : Fin 384, Ideal.exp (sR x0 x1 b h r q k - mR x0 x1 b h r q))

theorem prob (b : Fin 2) (h : Fin 16) (r : Fin 256) (q : Fin 64) (m : Fin 384) :
    val_main_v123 (F := Ideal) x0 x1 (ix5 b h r q m) = pR x0 x1 b h r q m := by
  rw [val_main_v123_apply, val_main_v122_apply, val_main_v121_apply, weight]
  have hi : idx_main_v121 (idx_main_v122 (ix5 b h r q m)) = ix4 b h r q := by
    funext a; match a with
    | ⟨0, _⟩ => rfl
    | ⟨1, _⟩ => rfl
    | ⟨2, _⟩ => rfl
    | ⟨3, _⟩ => rfl
  rw [hi, val_main_v120_apply, val_main_cst_21_apply]
  have hz : (FloatOps.ofBits .f32 0x00000000#32 : Ideal .f32) = (0 : EReal) := by
    show Ideal.ofBits FTy.f32 0x00000000#32 = (0 : EReal)
    simp [Ideal.ofBits, Ideal.ieee]
  rw [hz]
  have hs : ∀ k : Fin 384, val_main_v119 (F := Ideal) x0 x1 (idx_main_v120 (ix4 b h r q) k) = Ideal.exp (sR x0 x1 b h r q k - mR x0 x1 b h r q) := fun k =>
    (congrArg (val_main_v119 (F := Ideal) x0 x1) (by
      funext a; match a with
      | ⟨0, _⟩ => rfl
      | ⟨1, _⟩ => rfl
      | ⟨2, _⟩ => rfl
      | ⟨3, _⟩ => rfl
      | ⟨4, _⟩ => rfl)).trans (weight x0 x1 b h r q k)
  rw [Finset.sum_congr rfl fun k _ => hs k]
  show Ideal.div _ ((0 : EReal) + _) = _
  rw [zero_add]

theorem sum384 (f : Fin 384 → EReal) : ∑ m, f m = (∑ i : Fin 8, ∑ j : Fin 16, f ⟨16 * i.val + j.val, by omega⟩) + ∑ k : Fin 256, f ⟨128 + k.val, by omega⟩ := by
  have h1 := Fin.sum_univ_add (a := 128) (b := 256) (fun m : Fin (128 + 256) => f m)
  refine h1.trans (congrArg₂ _ ?_ rfl)
  have h2 := Equiv.sum_comp (finProdFinEquiv (m := 8) (n := 16)) (fun k : Fin (8 * 16) => f (Fin.castAdd 256 k))
  refine h2.symm.trans ?_
  rw [Fintype.sum_prod_type]
  refine Finset.sum_congr rfl fun i _ => Finset.sum_congr rfl fun j _ => congrArg f (Fin.ext ?_)
  show j.val + 16 * i.val = 16 * i.val + j.val
  omega

theorem near_part (b : Fin 2) (h : Fin 16) (r : Fin 256) (q : Fin 64) (d : Fin 64) :
    val_main_v127 (F := Ideal) x0 x1 (ix5 b h r q d) = ∑ i : Fin 8, ∑ j : Fin 16, pR x0 x1 b h r q ⟨16 * i.val + j.val, by omega⟩ * vR x0 b h r q d ⟨16 * i.val + j.val, by omega⟩ := by
  have hr' := rs_le r.val
  have hc' := cs_lt q.val
  have h125 : ∀ (i : Fin 8) (j : Fin 16), val_main_v125 (F := Ideal) x0 x1 (ix6 b h r q i j) = pR x0 x1 b h r q ⟨16 * i.val + j.val, by omega⟩ := by
    intro i j
    have e : val_main_v125 (F := Ideal) x0 x1 (ix6 b h r q i j) = val_main_v124 (F := Ideal) x0 x1 (ix5 b h r q ⟨16 * i.val + j.val, by omega⟩) := by
      unfold val_main_v125
      generalize val_main_v124 (F := Ideal) x0 x1 = y
      refine shapeCast_apply _ _ _ _ ?_
      rewrite [Shape.rowMajor_val_five, Shape.rowMajor_val_six]
      show (((b.val * 16 + h.val) * 256 + r.val) * 64 + q.val) * 128 + (16 * i.val + j.val) = ((((b.val * 16 + h.val) * 256 + r.val) * 64 + q.val) * 8 + i.val) * 16 + j.val
      omega
    rw [e, val_main_v124_apply]
    refine Eq.trans (congrArg (val_main_v123 (F := Ideal) x0 x1) ?_) (prob x0 x1 b h r q ⟨16 * i.val + j.val, by omega⟩)
    funext a; match a with
    | ⟨0, _⟩ => rfl
    | ⟨1, _⟩ => rfl
    | ⟨2, _⟩ => rfl
    | ⟨3, _⟩ => rfl
    | ⟨4, _⟩ => rfl
  have h87 : ∀ (i : Fin 8) (j : Fin 16), val_main_v87 (F := Ideal) x0 (ix7 b h r q i j d) = vR x0 b h r q d ⟨16 * i.val + j.val, by omega⟩ := by
    intro i j
    unfold val_main_v87
    rw [take7 _ _ b h r q i j d ⟨rs r.val + i.val, by omega⟩ ⟨cs q.val + j.val, by omega⟩
      (by rw [(start86 r q i j).1, toInt_small _ (by omega)])
      (by rw [(start86 r q i j).2, toInt_small _ (by omega)]), vv]
    unfold vR
    refine congrArg x0 ?_
    congr 1
    exact Fin.ext (krow_near r q i j).symm
  unfold val_main_v127
  revert h125 h87
  generalize val_main_v125 (F := Ideal) x0 x1 = y0
  generalize val_main_v87 (F := Ideal) x0 = y1
  intro h125 h87
  simp only [Host.dotGeneral]
  have hr : dot_S2x16x256x64x8x16_S2x16x256x64x8x16x64_S2x16x256x64x64_45_45_n_6_0123_0123.contr.rank = 2 := rfl
  have c0 : dot_S2x16x256x64x8x16_S2x16x256x64x8x16x64_S2x16x256x64x64_45_45_n_6_0123_0123.contr.size ⟨0, by rw [hr]; omega⟩ = 8 := rfl
  have c1 : dot_S2x16x256x64x8x16_S2x16x256x64x8x16x64_S2x16x256x64x64_45_45_n_6_0123_0123.contr.size ⟨1, by rw [hr]; omega⟩ = 16 := rfl
  rw [Ideal.dotGeneral_apply, ← Equiv.sum_comp (ValueIdx.contrEquiv2 _ 8 16 hr c0 c1).symm, Fintype.sum_prod_type]
  refine Finset.sum_congr rfl fun i _ => Finset.sum_congr rfl fun j _ => ?_
  have h0 := ValueIdx.contrEquiv2_symm_val0 _ 8 16 hr c0 c1 (i, j)
  have h1 := ValueIdx.contrEquiv2_symm_val1 _ 8 16 hr c0 c1 (i, j)
  refine congrArg₂ (fun a b : EReal => a * b) (Eq.trans (congrArg y0 ?_) (h125 i j)) (Eq.trans (congrArg y1 ?_) (h87 i j))
  · funext a; refine Fin.ext ?_
    match a with
    | ⟨0, _⟩ => rfl
    | ⟨1, _⟩ => rfl
    | ⟨2, _⟩ => rfl
    | ⟨3, _⟩ => rfl
    | ⟨4, _⟩ => exact h0
    | ⟨5, _⟩ => exact h1
  · funext a; refine Fin.ext ?_
    match a with
    | ⟨0, _⟩ => rfl
    | ⟨1, _⟩ => rfl
    | ⟨2, _⟩ => rfl
    | ⟨3, _⟩ => rfl
    | ⟨4, _⟩ => exact h0
    | ⟨5, _⟩ => exact h1
    | ⟨6, _⟩ => rfl

theorem ctx_part (b : Fin 2) (h : Fin 16) (r : Fin 256) (q : Fin 64) (d : Fin 64) :
    val_main_v128 (F := Ideal) x0 x1 (ix5 b h r q d) = ∑ k : Fin 256, pR x0 x1 b h r q ⟨128 + k.val, by omega⟩ * vR x0 b h r q d ⟨128 + k.val, by omega⟩ := by
  rw [val_main_v128_apply]
  refine Finset.sum_congr rfl fun k _ => ?_
  rw [val_main_v126_apply]
  have h2 : ridx_main_v128 (ix5 b h r q d) k = ix4 b h k d := by
    funext a; match a with
    | ⟨0, _⟩ => rfl
    | ⟨1, _⟩ => rfl
    | ⟨2, _⟩ => rfl
    | ⟨3, _⟩ => rfl
  have h1 : idx_main_v126 (lidx_main_v128 (ix5 b h r q d) k) = ix5 b h r q ⟨128 + k.val, by omega⟩ := by
    funext a; match a with
    | ⟨0, _⟩ => rfl
    | ⟨1, _⟩ => rfl
    | ⟨2, _⟩ => rfl
    | ⟨3, _⟩ => rfl
    | ⟨4, _⟩ => rfl
  rw [h1, h2, prob, vc]
  unfold vR
  refine congrArg₂ _ rfl (congrArg x0 ?_)
  congr 1
  exact Fin.ext (krow_ctx r q k).symm

/-- The reference at batch `b`, token `n` and column `d`. -/
theorem ref_apply (b : Fin 2) (n : Fin 16384) (d : Fin 1024) :
    val_main_v132 (F := Ideal) x0 x1 (ix3 b n d)
      = ∑ m : Fin 384, pR x0 x1 b ⟨d.val / 64, by omega⟩ ⟨n.val / 64, by omega⟩ ⟨n.val % 64, by omega⟩ m * vR x0 b ⟨d.val / 64, by omega⟩ ⟨n.val / 64, by omega⟩ ⟨n.val % 64, by omega⟩ ⟨d.val % 64, by omega⟩ m := by
  rw [val_main_v132_apply, val_main_v131_apply, val_main_v130_apply, val_main_v129_apply]
  have hi : idx_main_v130 (idx_main_v131 (ix3 b n d)) = ix5 b ⟨d.val / 64, by omega⟩ ⟨n.val / 64, by omega⟩ ⟨n.val % 64, by omega⟩ ⟨d.val % 64, by omega⟩ := by
    funext a; refine Fin.ext ?_
    match a with
    | ⟨0, _⟩ => show ((b.val * 16384 + n.val) * 1024 + d.val) / 16777216 = b.val; omega
    | ⟨1, _⟩ => show ((b.val * 16384 + n.val) * 1024 + d.val) / 64 % 16 = d.val / 64; omega
    | ⟨2, _⟩ => show ((b.val * 16384 + n.val) * 1024 + d.val) / 65536 % 256 = n.val / 64; omega
    | ⟨3, _⟩ => show ((b.val * 16384 + n.val) * 1024 + d.val) / 1024 % 64 = n.val % 64; omega
    | ⟨4, _⟩ => show ((b.val * 16384 + n.val) * 1024 + d.val) % 64 = d.val % 64; omega
  rw [hi, near_part, ctx_part, sum384]
  rfl

end Cert.NaRefIdeal.At

end
-- ==== Proof.NaKernel.lean ====
/- One token and column of the neighbourhood attention: the kernel's 1024 masked keys give the reference's softmax over 384. -/
module

public import proofs.«01_k».proof.Proof.NaOut
public import proofs.«01_k».proof.Proof.NaBlocks
public import proofs.«01_k».proof.Proof.NaMath
public import proofs.«01_k».proof.Proof.NaRefOut

@[expose] public section

set_option maxRecDepth 65536

noncomputable section

open Idealize.ShloMosaic Idealize.ShloMosaic.TcCoe Idealize.SL.Sem

namespace Cert.NaIdeal.Value

open Cert.NaIdeal Cert.NaIdeal.Gen
open Cert.NaRefIdeal.At (A0 A1 c8 rs rs_le krow krow_lt sR vR mR pR ninf)

theorem start_facts : ∀ (g : Fin 64) (rr : Fin 4),
    startOf (vof g.val) rr + bs g.val = rs (4 * g.val + rr.val) ∧ 4 * (vof g.val).val + rr.val + bs g.val = 4 * g.val + rr.val
      ∧ startOf (vof g.val) rr ≤ 4 ∧ 4 * (vof g.val).val + rr.val ≤ startOf (vof g.val) rr + 7 := by
  decide +kernel

variable (X0 : A0) (X1 : A1)

/-- The row of the packed array that holds the kernel's key `k` for query block `g`. -/
def kr (g k : ℕ) : ℕ := if k < 256 then 16384 + k else bs g * 64 + (k - 256)

theorem kr_lt (g k : ℕ) (hk : k < 1024) : kr g k < 16640 := by
  have := bs_le g
  unfold kr; split <;> omega

/-- The bias the kernel adds to key `k`. -/
def kb (g : Fin 64) (r : Fin 256) (h : Fin 16) (k : Fin 1024) : EReal :=
  if k.val < 256 then 0
  else tileF (vof g.val) ⟨r.val / 64, by omega⟩ (tiles X1) h ⟨r.val % 64, Nat.mod_lt _ (by decide)⟩ ((k.val - 256) / 64) ⟨(k.val - 256) % 64, Nat.mod_lt _ (by decide)⟩

/-- The kernel's score of key `k` for row `r` of query block `g`. -/
def sK (b : Fin 2) (g : Fin 64) (r : Fin 256) (h : Fin 16) (k : Fin 1024) : EReal :=
  (∑ y : Fin 64, ((X0 (ix3 b ⟨g.val * 256 + r.val, by omega⟩ ⟨64 * h.val + y.val, by omega⟩) : EReal) * c8)
      * (X0 (ix3 b ⟨kr g.val k.val, kr_lt _ _ k.isLt⟩ ⟨1024 + 64 * h.val + y.val, by omega⟩) : EReal)) + kb X1 g r h k

/-- The kernel's value of key `k`. -/
def vK (b : Fin 2) (g : Fin 64) (d : Fin 1024) (k : Fin 1024) : EReal :=
  X0 (ix3 b ⟨kr g.val k.val, kr_lt _ _ k.isLt⟩ ⟨2048 + d.val, by omega⟩)

/-- Where the reference's key `i` stands among the kernel's. -/
def place (g : Fin 64) (r : Fin 256) (i : Fin 384) : Fin 1024 :=
  if h : i.val < 128 then
    ⟨256 + (64 * (startOf (vof g.val) ⟨r.val / 64, by omega⟩ + i.val / 16) + (cs (r.val % 64) + i.val % 16)), by
      have := (start_facts g ⟨r.val / 64, by omega⟩).2.2.1
      have := cs_lt (r.val % 64)
      omega⟩
  else ⟨i.val - 128, by omega⟩

theorem place_near (g : Fin 64) (r : Fin 256) (i : Fin 384) (h : i.val < 128) :
    (place g r i).val = 256 + (64 * (startOf (vof g.val) ⟨r.val / 64, by omega⟩ + i.val / 16) + (cs (r.val % 64) + i.val % 16)) := by
  unfold place; rw [dif_pos h]

theorem place_ctx (g : Fin 64) (r : Fin 256) (i : Fin 384) (h : ¬ i.val < 128) : (place g r i).val = i.val - 128 := by
  unfold place; rw [dif_neg h]

theorem place_inj (g : Fin 64) (r : Fin 256) : Function.Injective (place g r) := by
  intro i j e
  have e' := congrArg Fin.val e
  have := cs_lt (r.val % 64)
  refine Fin.ext ?_
  by_cases hi : i.val < 128 <;> by_cases hj : j.val < 128
  · rw [place_near g r i hi, place_near g r j hj] at e'; omega
  · rw [place_near g r i hi, place_ctx g r j hj] at e'; omega
  · rw [place_ctx g r i hi, place_near g r j hj] at e'; omega
  · rw [place_ctx g r i hi, place_ctx g r j hj] at e'; omega

/-- The token's row and column of the latent grid. -/
abbrev rowN (g : Fin 64) (r : Fin 256) : Fin 256 := ⟨(g.val * 256 + r.val) / 64, by omega⟩
abbrev colN (g : Fin 64) (r : Fin 256) : Fin 64 := ⟨(g.val * 256 + r.val) % 64, by omega⟩

theorem rowN_eq (g : Fin 64) (r : Fin 256) : (rowN g r).val = 4 * g.val + r.val / 64 := by
  show (g.val * 256 + r.val) / 64 = _; omega
theorem colN_eq (g : Fin 64) (r : Fin 256) : (colN g r).val = r.val % 64 := by
  show (g.val * 256 + r.val) % 64 = _; omega

theorem kr_place (g : Fin 64) (r : Fin 256) (i : Fin 384) : kr g.val (place g r i).val = krow (rowN g r).val (colN g r).val i.val := by
  have hs := (start_facts g ⟨r.val / 64, by omega⟩).1
  unfold kr krow
  rw [rowN_eq, colN_eq, ← hs]
  by_cases hi : i.val < 128
  · rw [if_pos hi, place_near g r i hi, if_neg (by omega)]; omega
  · rw [if_neg hi, place_ctx g r i hi, if_pos (by omega)]

theorem score_place (b : Fin 2) (g : Fin 64) (r : Fin 256) (h : Fin 16) (i : Fin 384) :
    sK X0 X1 b g r h (place g r i) = sR X0 X1 b h (rowN g r) (colN g r) i := by
  unfold sK sR
  congr 1
  · refine Finset.sum_congr rfl fun y _ => ?_
    refine congrArg₂ (fun u v : EReal => u * v) (congrArg (fun z : EReal => z * c8) (congrArg X0 ?_)) (congrArg X0 ?_)
    · congr 1
      refine Fin.ext ?_
      show g.val * 256 + r.val = 64 * ((g.val * 256 + r.val) / 64) + (g.val * 256 + r.val) % 64
      omega
    · congr 1
      exact Fin.ext (kr_place g r i)
  · unfold kb
    obtain ⟨f1, f2, f3, f4⟩ := start_facts g ⟨r.val / 64, by omega⟩
    have hc := cs_lt (r.val % 64)
    by_cases hi : i.val < 128
    · have hp := place_near g r i hi
      generalize place g r i = k at hp
      have k1 : (k.val - 256) / 64 = startOf (vof g.val) ⟨r.val / 64, by omega⟩ + i.val / 16 := by omega
      have k2 : (k.val - 256) % 64 = cs (r.val % 64) + i.val % 16 := by omega
      rw [if_pos hi, if_neg (by omega)]
      unfold tileF
      rw [if_pos (by rw [k1]; omega), tiles_apply, if_pos (by show cs (r.val % 64) ≤ (k.val - 256) % 64 ∧ (k.val - 256) % 64 < cs (r.val % 64) + 16; rw [k2]; omega)]
      refine congrArg X1 ?_
      congr 1
      · refine Fin.ext ?_
        show ((k.val - 256) / 64 + 7 - 4 * (vof g.val).val - r.val / 64) % 15 = (rs (rowN g r).val + i.val / 16 + 7 - (rowN g r).val) % 15
        have f1' : startOf (vof g.val) ⟨r.val / 64, by omega⟩ + bs g.val = rs (4 * g.val + r.val / 64) := f1
        have f2' : 4 * (vof g.val).val + r.val / 64 + bs g.val = 4 * g.val + r.val / 64 := f2
        have f4' : 4 * (vof g.val).val + r.val / 64 ≤ startOf (vof g.val) ⟨r.val / 64, by omega⟩ + 7 := f4
        rw [k1, rowN_eq, ← f1']
        congr 1; omega
      · refine Fin.ext ?_
        show ((k.val - 256) % 64 + 15 - r.val % 64) % 31 = (cs (colN g r).val + i.val % 16 + 15 - (colN g r).val) % 31
        rw [k2, colN_eq]
    · rw [if_neg hi, if_pos (by rw [place_ctx g r i hi]; omega)]

theorem add_bot' (x : EReal) : x + ⊥ = ⊥ := EReal.add_bot x

theorem masked (b : Fin 2) (g : Fin 64) (r : Fin 256) (h : Fin 16) (k : Fin 1024) (hk : ∀ i, place g r i ≠ k) : sK X0 X1 b g r h k = ⊥ := by
  have k0 : ¬ k.val < 256 := fun hlt => by
    refine hk ⟨k.val + 128, by omega⟩ (Fin.ext ?_)
    rw [place_ctx g r _ (by show ¬ (k.val + 128 < 128); omega)]
    show k.val + 128 - 128 = k.val
    omega
  have hc := cs_lt (r.val % 64)
  suffices hb : kb X1 g r h k = ⊥ by
    unfold sK; rw [hb]; exact add_bot' _
  unfold kb
  rw [if_neg k0]
  unfold tileF
  by_cases h1 : startOf (vof g.val) ⟨r.val / 64, by omega⟩ ≤ (k.val - 256) / 64 ∧ (k.val - 256) / 64 < startOf (vof g.val) ⟨r.val / 64, by omega⟩ + 8
  · rw [if_pos h1, tiles_apply]
    by_cases h2 : cs (r.val % 64) ≤ (k.val - 256) % 64 ∧ (k.val - 256) % 64 < cs (r.val % 64) + 16
    · exfalso
      refine hk ⟨16 * ((k.val - 256) / 64 - startOf (vof g.val) ⟨r.val / 64, by omega⟩) + ((k.val - 256) % 64 - cs (r.val % 64)), by omega⟩ (Fin.ext ?_)
      rw [place_near g r _ (by show 16 * ((k.val - 256) / 64 - startOf (vof g.val) ⟨r.val / 64, by omega⟩) + ((k.val - 256) % 64 - cs (r.val % 64)) < 128; omega)]
      show 256 + (64 * (startOf (vof g.val) ⟨r.val / 64, by omega⟩ + (16 * ((k.val - 256) / 64 - startOf (vof g.val) ⟨r.val / 64, by omega⟩) + ((k.val - 256) % 64 - cs (r.val % 64))) / 16) + (cs (r.val % 64) + (16 * ((k.val - 256) / 64 - startOf (vof g.val) ⟨r.val / 64, by omega⟩) + ((k.val - 256) % 64 - cs (r.val % 64))) % 16)) = k.val
      omega
    · rw [if_neg h2]; exact ninf
  · rw [if_neg h1]; exact ninf

theorem scale_real : ∃ a : ℝ, c8 = (a : EReal) := by
  refine ⟨8388608 * (2 ^ 26)⁻¹, ?_⟩
  rw [EReal.coe_mul]
  simp [Ideal.ofBits, Ideal.ieee]

/-- The softmax over the kernel's keys is the reference's. -/
theorem token (hx0 : ∀ i, ∃ a : ℝ, (X0 i : EReal) = a) (hx1 : ∀ i, ∃ a : ℝ, (X1 i : EReal) = a)
    (b : Fin 2) (g : Fin 64) (r : Fin 256) (d : Fin 1024) :
    (∑ k, Ideal.exp (sK X0 X1 b g r ⟨d.val / 64, by omega⟩ k - Finset.fold max ⊥ (fun k => sK X0 X1 b g r ⟨d.val / 64, by omega⟩ k) Finset.univ) * vK X0 b g d k)
        * Ideal.div 1 (∑ k, Ideal.exp (sK X0 X1 b g r ⟨d.val / 64, by omega⟩ k - Finset.fold max ⊥ (fun k => sK X0 X1 b g r ⟨d.val / 64, by omega⟩ k) Finset.univ))
      = Cert.NaRefIdeal.Read.val_main_v132 (F := Ideal) X0 X1 (ix3 b ⟨g.val * 256 + r.val, by omega⟩ d) := by
  have hs : ∀ i, ∃ a : ℝ, sR X0 X1 b ⟨d.val / 64, by omega⟩ (rowN g r) (colN g r) i = (a : EReal) := fun i => by
    obtain ⟨c, hc⟩ := scale_real
    choose a0 ha0 using hx0
    choose a1 ha1 using hx1
    unfold sR
    simp only [ha0, ha1, hc, ← EReal.coe_mul, Cert.NaMath.coe_sum]
    split
    · exact ⟨_, (EReal.coe_add _ _).symm⟩
    · exact ⟨_, add_zero _⟩
  choose x hx using hs
  choose a0 ha0 using hx0
  rw [Cert.NaRefIdeal.At.ref_apply]
  refine (Cert.NaMath.bridge (place g r) (place_inj g r) (sK X0 X1 b g r ⟨d.val / 64, by omega⟩) (sR X0 X1 b ⟨d.val / 64, by omega⟩ (rowN g r) (colN g r))
    (score_place X0 X1 b g r ⟨d.val / 64, by omega⟩) (masked X0 X1 b g r ⟨d.val / 64, by omega⟩) x hx (vK X0 b g d) (fun k => a0 _) (fun k => ha0 _)).trans ?_
  refine Finset.sum_congr rfl fun i _ => ?_
  refine congrArg₂ (fun u v : EReal => u * v) rfl ?_
  unfold vK vR
  refine congrArg X0 ?_
  congr 1
  · exact Fin.ext (kr_place g r i)
  · refine Fin.ext ?_
    show 2048 + d.val = 2048 + 64 * (d.val / 64) + d.val % 64
    omega

/-- The lane offset of a column's head within its tile. -/
def off (l : Fin 128) : ℕ := if l.val < 64 then 0 else 64

theorem off_le (l : Fin 128) : off l ≤ 64 := by unfold off; split <;> omega

theorem half (Q : Vec Ideal S1x256x128 .bf16) (r : Fin 256) (l : Fin 128) (K : Fin 128 → EReal) :
    ∑ x, qs Q (rowOf r l) x * K x
      = ∑ y : Fin 64, ((Q (ix3 0 r ⟨off l + y.val, by have := off_le l; omega⟩) : EReal) * c8) * K ⟨off l + y.val, by have := off_le l; omega⟩ := by
  have hmod : (rowOf r l).val % 256 = r.val := by unfold rowOf; simp only []; split <;> omega
  have hlt : ((rowOf r l).val < 256) = (l.val < 64) := by unfold rowOf; simp only []; split <;> simp <;> omega
  have hr : (⟨(rowOf r l).val % 256, Nat.mod_lt _ (by decide)⟩ : Fin 256) = r := Fin.ext hmod
  rw [Cert.NaMath.half_sum (fun x => qs Q (rowOf r l) x * K x) (decide (l.val < 64)) (fun x hx => by
    unfold qs
    rw [if_neg (by rw [hlt]; simpa using hx)]
    exact zero_mul _)]
  refine Finset.sum_congr rfl fun y _ => ?_
  have hi : (⟨(if decide (l.val < 64) = true then 0 else 64) + y.val, by split <;> omega⟩ : Fin 128) = ⟨off l + y.val, by have := off_le l; omega⟩ := by
    refine Fin.ext ?_
    show (if decide (l.val < 64) = true then 0 else 64) + y.val = off l + y.val
    unfold off; simp
  show qs Q (rowOf r l) ⟨(if decide (l.val < 64) = true then 0 else 64) + y.val, _⟩ * K ⟨(if decide (l.val < 64) = true then 0 else 64) + y.val, _⟩ = _
  rw [hi]
  refine congrArg (fun z : EReal => z * K _) ?_
  unfold qs
  rw [if_pos (by
    show ((off l + y.val < 64) = ((rowOf r l).val < 256))
    rw [hlt]
    unfold off; split <;> simp <;> omega), hr]

theorem sum1024 (f : Fin 1024 → EReal) : ∑ k, f k = (∑ k : Fin 256, f ⟨k.val, by omega⟩) + ∑ k : Fin 768, f ⟨k.val + 256, by omega⟩ := by
  have h1 := Fin.sum_univ_add (a := 256) (b := 768) (fun m : Fin (256 + 768) => f m)
  refine h1.trans (congrArg₂ _ rfl (Finset.sum_congr rfl fun k _ => congrArg f (Fin.ext ?_)))
  show 256 + k.val = k.val + 256
  omega

theorem own_lt (g : Fin 64) (r : Fin 256) : g.val * 256 + r.val < 16640 := by omega
theorem col_lt (x : Fin 1024) : x.val < 3072 := by omega
theorem band_lt (g : Fin 64) (p : Fin 768) : bs g.val * 64 + p.val < 16640 := by have := bs_le g.val; omega
theorem ctx_lt (p : Fin 256) : 16384 + p.val < 16640 := by omega
theorem kcol_lt (x : Fin 1024) : 1024 + x.val < 3072 := by omega
theorem vcol_lt (x : Fin 1024) : 2048 + x.val < 3072 := by omega
theorem rr_lt (r : Fin 256) : r.val / 64 < 4 := by omega

section

variable (arg2 : Memref sig .tc .vmem S1x256x1024 .bf16) (harg2 : arg2.IsWhole) (arg3 : Memref sig .tc .vmem S1x768x1024 .bf16) (harg3 : arg3.IsWhole) (arg4 : Memref sig .tc .vmem S1x768x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x16x256x768 .f32) (harg7 : arg7.IsWhole)
    (x0 : Vec Ideal S1x256x1024 .bf16) (x1 : Vec Ideal S1x768x1024 .bf16) (x2 : Vec Ideal S1x768x1024 .bf16) (x3 : Vec Ideal S1x256x1024 .bf16) (x4 : Vec Ideal S1x256x1024 .bf16) (x5 : Vec Ideal S1x16x256x768 .f32)
    (b : Fin 2) (g : Fin 64)
    (h0 : ∀ (r : Fin 256) (x : Fin 1024), x0 (ix3 0 r x) = X0 (ix3 b ⟨g.val * 256 + r.val, own_lt g r⟩ ⟨x.val, col_lt x⟩))
    (h1 : ∀ (p : Fin 768) (x : Fin 1024), x1 (ix3 0 p x) = X0 (ix3 b ⟨bs g.val * 64 + p.val, band_lt g p⟩ ⟨1024 + x.val, kcol_lt x⟩))
    (h2 : ∀ (p : Fin 768) (x : Fin 1024), x2 (ix3 0 p x) = X0 (ix3 b ⟨bs g.val * 64 + p.val, band_lt g p⟩ ⟨2048 + x.val, vcol_lt x⟩))
    (h3 : ∀ (p : Fin 256) (x : Fin 1024), x3 (ix3 0 p x) = X0 (ix3 b ⟨16384 + p.val, ctx_lt p⟩ ⟨1024 + x.val, kcol_lt x⟩))
    (h4 : ∀ (p : Fin 256) (x : Fin 1024), x4 (ix3 0 p x) = X0 (ix3 b ⟨16384 + p.val, ctx_lt p⟩ ⟨2048 + x.val, vcol_lt x⟩))
    (h5 : ∀ (h : Fin 16) (r : Fin 256) (k : Fin 768), x5 (ix4 0 h r k) = tileF (vof g.val) ⟨r.val / 64, rr_lt r⟩ (tiles X1) h ⟨r.val % 64, Nat.mod_lt _ (Nat.succ_pos 63)⟩ (k.val / 64) ⟨k.val % 64, Nat.mod_lt _ (Nat.succ_pos 63)⟩)

include h0 h1 h3 h5 in
theorem score_eq (r : Fin 256) (d : Fin 1024) (k : Fin 1024) :
    tileS arg2 harg2 arg3 harg3 arg5 harg5 arg7 harg7 x0 x1 x3 x5 ⟨d.val / 128, by omega⟩ (rowOf r ⟨d.val % 128, Nat.mod_lt _ (by decide)⟩) k
      = sK X0 X1 b g r ⟨d.val / 64, by omega⟩ k := by
  have hoff : 128 * (d.val / 128) + off ⟨d.val % 128, Nat.mod_lt _ (by decide)⟩ = 64 * (d.val / 64) := by
    unfold off; simp only []; split <;> omega
  have hq : ∀ y : Fin 64, (ld2 arg2 harg2 x0 ⟨d.val / 128, by omega⟩ (ix3 0 r ⟨off ⟨d.val % 128, Nat.mod_lt _ (by decide)⟩ + y.val, by have := off_le ⟨d.val % 128, Nat.mod_lt _ (by decide)⟩; omega⟩) : EReal)
      = X0 (ix3 b ⟨g.val * 256 + r.val, by omega⟩ ⟨64 * (d.val / 64) + y.val, by omega⟩) := fun y => by
    rw [ld2_apply, h0]
    refine congrArg X0 ?_
    congr 1
    refine Fin.ext ?_
    show 128 * (d.val / 128) + (off ⟨d.val % 128, Nat.mod_lt _ (by decide)⟩ + y.val) = 64 * (d.val / 64) + y.val
    omega
  show scoreT _ _ _ _ _ _ _ = _
  unfold scoreT sK
  by_cases hk : k.val < 256
  · rw [dif_pos hk]
    have hb : kb X1 g r ⟨d.val / 64, by omega⟩ k = 0 := by unfold kb; rw [if_pos hk]
    rw [hb, add_zero, half _ r ⟨d.val % 128, Nat.mod_lt _ (by decide)⟩ (fun x => ld2 arg5 harg5 x3 ⟨d.val / 128, by omega⟩ (ix3 0 ⟨k.val, hk⟩ x))]
    refine Finset.sum_congr rfl fun y _ => ?_
    refine congrArg₂ (fun u v : EReal => u * v) (congrArg (fun z : EReal => z * c8) (hq y)) ?_
    show (ld2 arg5 harg5 x3 _ (ix3 0 _ _) : EReal) = _
    rw [ld2_apply, h3]
    refine congrArg X0 ?_
    congr 1
    · refine Fin.ext ?_
      show 16384 + k.val = kr g.val k.val
      unfold kr; rw [if_pos hk]
    · refine Fin.ext ?_
      show 1024 + (128 * (d.val / 128) + (off ⟨d.val % 128, Nat.mod_lt _ (by decide)⟩ + y.val)) = 1024 + 64 * (d.val / 64) + y.val
      omega
  · rw [dif_neg hk]
    congr 1
    · rw [half _ r ⟨d.val % 128, Nat.mod_lt _ (by decide)⟩ (fun x => ld3 arg3 harg3 x1 ⟨d.val / 128, by omega⟩ (ix3 0 ⟨k.val - 256, by omega⟩ x))]
      refine Finset.sum_congr rfl fun y _ => ?_
      refine congrArg₂ (fun u v : EReal => u * v) (congrArg (fun z : EReal => z * c8) (hq y)) ?_
      show (ld3 arg3 harg3 x1 _ (ix3 0 _ _) : EReal) = _
      rw [ld3_apply, h1]
      refine congrArg X0 ?_
      congr 1
      · refine Fin.ext ?_
        show bs g.val * 64 + (k.val - 256) = kr g.val k.val
        unfold kr; rw [if_neg hk]
      · refine Fin.ext ?_
        show 1024 + (128 * (d.val / 128) + (off ⟨d.val % 128, Nat.mod_lt _ (by decide)⟩ + y.val)) = 1024 + 64 * (d.val / 64) + y.val
        omega
    · have hb : ∀ (h : Fin 16) (p : Fin 256), h.val = d.val / 64 → p = r → (ld7 arg7 harg7 x5 h (ix4 0 0 p ⟨k.val - 256, by omega⟩) : EReal) = kb X1 g r ⟨d.val / 64, by omega⟩ k := by
        intro h p hh hp
        subst hp
        have e : h = ⟨d.val / 64, by omega⟩ := Fin.ext hh
        rw [e, ld7_apply, h5]
        unfold kb
        rw [if_neg hk]
      by_cases hl : d.val % 128 < 64
      · have hv : (rowOf r ⟨d.val % 128, Nat.mod_lt _ (by decide)⟩).val = r.val := by unfold rowOf; exact if_pos hl
        rw [dif_pos (by rw [hv]; exact r.isLt)]
        exact hb _ _ (by show 2 * (d.val / 128) = d.val / 64; omega) (Fin.ext hv)
      · have hv : (rowOf r ⟨d.val % 128, Nat.mod_lt _ (by decide)⟩).val = r.val + 256 := by unfold rowOf; exact if_neg hl
        rw [dif_neg (by rw [hv]; omega)]
        exact hb _ _ (by show 2 * (d.val / 128) + 1 = d.val / 64; omega) (Fin.ext (by show (rowOf r ⟨d.val % 128, Nat.mod_lt _ (by decide)⟩).val - 256 = r.val; rw [hv]; omega))

include h0 h1 h2 h3 h4 h5 in
theorem tile_eq (hx0 : ∀ i, ∃ a : ℝ, (X0 i : EReal) = a) (hx1 : ∀ i, ∃ a : ℝ, (X1 i : EReal) = a) (r : Fin 256) (d : Fin 1024) :
    tileE arg2 harg2 arg3 harg3 arg4 harg4 arg5 harg5 arg6 harg6 arg7 harg7 x0 x1 x2 x3 x4 x5 ⟨d.val / 128, by omega⟩ r ⟨d.val % 128, Nat.mod_lt _ (by decide)⟩
      = Cert.NaRefIdeal.Read.val_main_v132 (F := Ideal) X0 X1 (ix3 b ⟨g.val * 256 + r.val, by omega⟩ d) := by
  rw [← token X0 X1 hx0 hx1 b g r d]
  have hS := score_eq X0 X1 arg2 harg2 arg3 harg3 arg5 harg5 arg7 harg7 x0 x1 x3 x5 b g h0 h1 h3 h5 r d
  unfold tileE invT wtT topT
  simp only [hS]
  have hm : Ideal.ofBits FTy.f32 4286578688#32 = (⊥ : EReal) := ninf
  rw [hm, sum1024 (fun k => Ideal.exp (sK X0 X1 b g r ⟨d.val / 64, by omega⟩ k - Finset.fold max ⊥ (fun k => sK X0 X1 b g r ⟨d.val / 64, by omega⟩ k) Finset.univ) * vK X0 b g d k)]
  refine congrArg (fun z : EReal => z * _) ?_
  refine congrArg₂ (fun u v : EReal => u + v) (Finset.sum_congr rfl fun k _ => ?_) (Finset.sum_congr rfl fun k _ => ?_)
  · refine congrArg₂ (fun u v : EReal => u * v) rfl ?_
    rw [ld2_apply, h4]
    unfold vK
    refine congrArg X0 ?_
    congr 1
    · refine Fin.ext ?_
      show 16384 + k.val = kr g.val k.val
      unfold kr; rw [if_pos k.isLt]
    · refine Fin.ext ?_
      show 2048 + (128 * (d.val / 128) + d.val % 128) = 2048 + d.val
      omega
  · refine congrArg₂ (fun u v : EReal => u * v) rfl ?_
    rw [ld3_apply, h2]
    unfold vK
    refine congrArg X0 (congrArg₂ (fun u v => (ix3 b u v : S2x16640x3072.Idx)) ?_ ?_)
    · refine Fin.ext ?_
      show bs g.val * 64 + k.val = kr g.val (k.val + 256)
      unfold kr; rw [if_neg (by omega)]; omega
    · refine Fin.ext ?_
      show 2048 + (128 * (d.val / 128) + d.val % 128) = 2048 + d.val
      omega

end

end Cert.NaIdeal.Value

end
-- ==== Proof.NaValue.lean ====
/- The value of the neighbourhood attention's call: the rows it leaves are the reference's wherever the arguments are finite. -/
module

public import proofs.«01_k».proof.Proof.NaKernel
public import proofs.«01_k».proof.Pre_finite_na
public import proofs.«01_k».proof.Proof.Gen.Pre_finite_na
public import Idealize.ShloMosaic.Lib.StableHlo.Predicate

@[expose] public section

set_option maxRecDepth 65536

noncomputable section

open Idealize.ShloMosaic Idealize.ShloMosaic.TcCoe Idealize.SL.Sem
open Idealize.ShloMosaic.Pipeline (Dat)

namespace Cert.Pre_finite_na

theorem one_of_bool (b : Bool) : BitVec.ofBool b = 1#1 ↔ b = true := by
  revert b; decide

theorem pinf : Ideal.ofBits FTy.f32 0x7F800000#32 = (⊤ : EReal) := by
  simp [Ideal.ofBits, Ideal.ieee]

/-- A number whose absolute value is below infinity is real. -/
theorem real_of_lt (x : EReal) (h : FloatOps.cmpf (F := Ideal) (φ := FTy.f32) .olt (FloatOps.hostAbsf (F := Ideal) (φ := FTy.f32) x) (Ideal.ofBits FTy.f32 0x7F800000#32) = 1#1) :
    ∃ a : ℝ, x = a := by
  rw [pinf] at h
  have h' : BitVec.ofBool (decide (max x (-x) < (⊤ : EReal))) = 1#1 := h
  rw [one_of_bool, decide_eq_true_eq, max_lt_iff] at h'
  refine ⟨x.toReal, (EReal.coe_toReal h'.1.ne fun hb => ?_).symm⟩
  rw [hb] at h'
  exact absurd h'.2 (by simp)

variable [Facts]

theorem real0 (x0 : FVec Ideal S2x16640x3072 .bf16) (x1 : FVec Ideal S16x15x31 .f32) (h : (fn x0 x1).1 = fun _ => 1#1) (i : S2x16640x3072.Idx) :
    ∃ a : ℝ, (x0 i : EReal) = a := real_of_lt _ (congrFun h i)

theorem real1 (x0 : FVec Ideal S2x16640x3072 .bf16) (x1 : FVec Ideal S16x15x31 .f32) (h : (fn x0 x1).2 = fun _ => 1#1) (i : S16x15x31.Idx) :
    ∃ a : ℝ, (x1 i : EReal) = a := real_of_lt _ (congrFun h i)

end Cert.Pre_finite_na

namespace Cert.NaIdeal.Value

open Cert.NaIdeal Cert.NaIdeal.Gen

variable (m : (ℓ : Loc nD τ sig) → Buf (Elt Ideal) ℓ)

theorem at_point (c : Dev nD) (hx0 : ∀ i : S2x16640x3072.Idx, ∃ a : ℝ, ((m ((c : Thread nD τ).loc main_arg0) : FVec Ideal S2x16640x3072 .bf16) i : EReal) = (a : EReal)) (hx1 : ∀ i : S16x15x31.Idx, ∃ a : ℝ, ((m ((c : Thread nD τ).loc main_arg1) : FVec Ideal S16x15x31 .f32) i : EReal) = (a : EReal))
    (t : Fin cfg0.N) (y : S1x256x1024.Idx) :
    outsAt0 m c t y = Cert.NaRefIdeal.Read.val_main_v132 (F := Ideal) (m ((c : Thread nD τ).loc main_arg0)) (m ((c : Thread nD τ).loc main_arg1)) (((View.whole main_v255).slice (win0_6.rect t)).emb y) := by
  have ht : t.val < 128 := t.isLt
  obtain ⟨r, hr⟩ : ∃ r : Fin 256, r = y 1 := ⟨_, rfl⟩
  obtain ⟨d, hd⟩ : ∃ d : Fin 1024, d = y 2 := ⟨_, rfl⟩
  have hy : y = ix3 0 r d := by
    funext a; match a with
    | ⟨0, _⟩ => exact Subsingleton.elim (α := Fin 1) _ _
    | ⟨1, _⟩ => exact hr.symm
    | ⟨2, _⟩ => exact hd.symm
  rw [hy]
  have ho : ((View.whole main_v255).slice (win0_6.rect t)).emb (ix3 0 r d) = ix3 ⟨t.val / 64, by omega⟩ ⟨t.val % 64 * 256 + r.val, by omega⟩ d := by
    blk_ext [idx t]
  rw [ho]
  unfold outsAt0
  refine (out_apply c _ _ _ _ _ _ _ _ _ _ _ _ _ _ _ _ _ _ _ _ _ _ _ _ _ r d).trans ?_
  exact tile_eq (m ((c : Thread nD τ).loc main_arg0)) (m ((c : Thread nD τ).loc main_arg1)) _ _ _ _ _ _ _ _ _ _ _ _ _ _ _ _ _ _ ⟨t.val / 64, by omega⟩ ⟨t.val % 64, by omega⟩
    (blk0 m c t) (blk1 m c t) (blk2 m c t) (blk3 m c t) (blk4 m c t) (blk5 m c t) hx0 hx1 r d

theorem final (c : Dev nD) (hx0 : ∀ i : S2x16640x3072.Idx, ∃ a : ℝ, ((m ((c : Thread nD τ).loc main_arg0) : FVec Ideal S2x16640x3072 .bf16) i : EReal) = (a : EReal)) (hx1 : ∀ i : S16x15x31.Idx, ∃ a : ℝ, ((m ((c : Thread nD τ).loc main_arg1) : FVec Ideal S16x15x31 .f32) i : EReal) = (a : EReal)) :
    (dats m 0 c).arrAt 6 (cfgs 0).N = Cert.NaRefIdeal.Read.val_main_v132 (F := Ideal) (m ((c : Thread nD τ).loc main_arg0)) (m ((c : Thread nD τ).loc main_arg1)) := by
  refine (dats m 0 c).arrAt_eq_of_covers 6 _ (by decide +kernel) fun t _ y => ?_
  blk_simp
  rw [after0_6]
  exact at_point m c hx0 hx1 t y

end Cert.NaIdeal.Value

end
-- ==== Proof.InpValue.lean ====
/- The value of the norm, modulation and projection call on two streams: its result array is the reference's. -/
module

public import proofs.«01_k».proof.Proof.Gen.InpIdeal.Value
public import proofs.«01_k».proof.Proof.Gen.InpRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InpIdeal.Value

open Cert.InpIdeal Cert.InpIdeal.Gen Cert.InpRefIdeal.Read

variable (m : (ℓ : Loc nD τ sig) → Buf (Elt Ideal) ℓ)

theorem idx : ∀ t : Fin cfg0.N,
    win0_0.index t = ![t.val / 65, min (t.val % 65) 63, 0]
    ∧ win0_1.index t = ![t.val / 65, t.val % 65 - 64, 0]
    ∧ win0_2.index t = ![if t.val % 65 < 64 then t.val / 65 else 2, 0, 0]
    ∧ win0_3.index t = ![0, 0] ∧ win0_4.index t = ![0, 0]
    ∧ win0_5.index t = ![t.val / 65, t.val % 65, 0]
    ∧ Scalar.cmpi .sge (BitVec.ofNat 32 (grid0.coords t 1).val) 64#32 = (if t.val % 65 < 64 then 0#1 else 1#1) :=
  (by decide +kernel : ∀ t : Fin grid0.N, _)

theorem point (c : Dev nD) (t : Fin cfg0.N) (y) :
    k0_pay1 (k0_pay2 (grid0.coords t) (iblk m c 1 t) (iblk m c 0 t) (iblk m c 3 t) (View.ld (iblk m c 2 t) r0_2) (View.ld (iblk m c 2 t) r0_3) (iblk m c 4 t)) y
      = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  have e1 : ((((View.whole main_v2).slice ((win0 5).rect t)).emb y 1 : Fin _) : ℕ) = t.val % 65 * 256 + (y 1).val := by
    blk_simp [idx t]
  have hy1 : (y 1).val < 256 := (y 1).isLt
  have im := (idx t).2.2.1
  have hs := (idx t).2.2.2.2.2.2
  have hw : ∀ x, iblk m c 3 t (ix2 0 x) = m ((c : Thread nD τ).loc main_arg3) (ix1 x) := fun x => by
    show V m c main_v0 (((View.whole main_v0).slice (win0_3.rect t)).emb (ix2 0 x)) = _
    entry_read
    pointwise
    blk_ext [idx t]
  by_cases ht : t.val % 65 < 64
  · rw [if_pos ht] at im hs
    pointwise [k0_pay1, k0_pay2, val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_v16, val_main_v17, val_main_v18, val_main_cst_2, val_main_v19, val_main_v20, val_main_v21, val_main_v22, val_main_v23, val_main_v24, val_main_v25, val_main_cst_3, val_main_v26, val_main_v27, val_main_cst_4, val_main_v28, val_main_v29, val_main_cst_5, val_main_v30, val_main_v31, val_main_v32, val_main_v33, val_main_v34, val_main_v35, val_main_v36, val_main_v37, val_main_v38, val_main_v39, val_main_v40, val_main_v41, val_main_cst_6, val_main_v42, val_main_v43, val_main_v44, val_main_v45, val_main_v46, val_main_v47, val_main_v48, val_main_v49, val_main_v50, val_main_v51, val_main_v52, val_main_v53]
    rw [dif_pos (by rw [e1]; omega)]
    have z : ¬ ((0#1 : BitVec 1) = 1) := by decide
    simp only [hw, hs, Scalar.select, if_neg z]
    blk_point [iblk, V, im, (idx t).1, (idx t).2.1, (idx t).2.2.2]
  · rw [if_neg ht] at im hs
    pointwise [k0_pay1, k0_pay2, val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_v16, val_main_v17, val_main_v18, val_main_cst_2, val_main_v19, val_main_v20, val_main_v21, val_main_v22, val_main_v23, val_main_v24, val_main_v25, val_main_cst_3, val_main_v26, val_main_v27, val_main_cst_4, val_main_v28, val_main_v29, val_main_cst_5, val_main_v30, val_main_v31, val_main_v32, val_main_v33, val_main_v34, val_main_v35, val_main_v36, val_main_v37, val_main_v38, val_main_v39, val_main_v40, val_main_v41, val_main_cst_6, val_main_v42, val_main_v43, val_main_v44, val_main_v45, val_main_v46, val_main_v47, val_main_v48, val_main_v49, val_main_v50, val_main_v51, val_main_v52, val_main_v53]
    rw [dif_neg (by rw [e1]; omega)]
    have z : (1#1 : BitVec 1) = 1 := rfl
    simp only [hw, hs, Scalar.select, if_pos z]
    blk_point [iblk, V, im, (idx t).1, (idx t).2.1, (idx t).2.2.2]

theorem final (c : Dev nD) : (dats m 0 c).arrAt 5 (cfgs 0).N = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  frame_out
  exact point m c t y

end Cert.InpIdeal.Value

end
-- ==== Proof.OutValue.lean ====
/- The value of the attention's output projection and residual: its result array is the reference's. -/
module

public import proofs.«01_k».proof.Proof.Gen.OutIdeal.Value
public import proofs.«01_k».proof.Proof.Gen.OutRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutIdeal.Value

open Cert.OutIdeal Cert.OutIdeal.Gen Cert.OutRefIdeal.Read

variable (m : (ℓ : Loc nD τ sig) → Buf (Elt Ideal) ℓ)

theorem idx : ∀ t : Fin cfg0.N,
    win0_0.index t = ![t.val / 16, t.val % 16, 0] ∧ win0_1.index t = ![t.val / 16, t.val % 16, 0]
    ∧ win0_2.index t = ![t.val / 16, 0, 0] ∧ win0_3.index t = ![0, 0] ∧ win0_4.index t = ![t.val / 16, t.val % 16, 0] :=
  (by decide +kernel : ∀ t : Fin grid0.N, _)

/-- What the residual's buffer holds at a point: its block's entry, none of it cut. -/
theorem resid (c : Dev nD) (t : Fin cfg0.N) (y : S1x1024x1024.Idx) (b : Fin 2) (s : Fin 16640) (hb : b.val = t.val / 16) (hs : s.val = t.val % 16 * 1024 + (y 1).val) :
    X0_1 m c t y = m ((c : Thread nD τ).loc main_arg1) (ix3 b s (y 2)) := by
  unfold X0_1 Pipeline.Window.fill
  rw [dif_pos (moved0_1 t _)]
  show V m c main_arg1 (((View.whole main_arg1).slice (win0_1.rect t)).emb _) = _
  rw [V_main_arg1]
  blk_ext [idx t]

theorem final (c : Dev nD) : (dats m 0 c).arrAt 4 (cfgs 0).N = val_main_v8 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  unfold outsAt0
  frame_out
  have hN : t.val < 32 := t.isLt
  have hy : (y 1).val < 1024 := (y 1).isLt
  have hr := resid m c t y ⟨t.val / 16, by omega⟩ ⟨t.val % 16 * 1024 + (y 1).val, by omega⟩ rfl rfl
  pointwise [k0_pay1, val_main_v0, val_main_v1, val_main_v2, val_main_v3, val_main_v4, val_main_v5, val_main_v6, val_main_v7, val_main_v8]
  rw [hr]
  blk_point [iblk, V, idx t]

end Cert.OutIdeal.Value

end
-- ==== Proof.PreExperts.lean ====
/- What the precondition of the experts' call says of each block's expert. -/
module

public import proofs.«01_k».proof.Pre_experts_exist
public import proofs.«01_k».proof.Proof.Gen.Pre_experts_exist
public import Idealize.ShloMosaic.Lib.StableHlo.Predicate
public import Idealize.ShloMosaic.Lib.WordCmp

@[expose] public section

noncomputable section

namespace Cert.Pre_experts_exist

open Idealize.ShloMosaic

theorem both_one (a b : BitVec 1) : IntOp.andi a b = 1#1 ↔ a = 1#1 ∧ b = 1#1 := by
  revert a b; decide

theorem one_of_bool (b : Bool) : BitVec.ofBool b = 1#1 ↔ b = true := by
  revert b; decide

/-- Every block's expert is one of the 32. -/
theorem lt32 {F : FTy → Type} [FloatOps F] [Facts] (x0 : IVec S288 32) (x1 : IVec S1 32) (x2 : FVec F S1179648x128 .f32)
    (x3 : FVec F S2x32x1024x2048 .f32) (x4 : FVec F S2x32x2048 .f32) (x5 : FVec F S2x32x1024x1024 .f32) (x6 : FVec F S2x32x1024 .f32)
    (h : fn x0 x1 x2 x3 x4 x5 x6 = fun _ => 1#1) (x : S288.Idx) : (x0 x).toNat < 32 := by
  have e := congrFun h x
  have e' : IntOp.andi (IntOp.cmpi .sge (x0 x) 0#32) (IntOp.cmpi .sle (x0 x) 31#32) = 1#1 := e
  rw [both_one] at e'
  simp only [IntOp.cmpi, one_of_bool, BitVec.sle, decide_eq_true_eq] at e'
  have h0 : (0#32 : BitVec 32).toInt = 0 := rfl
  have h31 : (31#32 : BitVec 32).toInt = 31 := rfl
  rw [h0, h31, BitVec.toInt_eq_toNat_cond] at e'
  have := (x0 x).isLt
  split at e' <;> omega

end Cert.Pre_experts_exist

end
-- ==== Proof.MoeIdealRuns.lean ====
module

public import proofs.«01_k».proof.Proof.Gen.MoeIdeal.Launch
public import proofs.«01_k».proof.Proof.Gen.MoeIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pointwise

@[expose] public section

set_option maxRecDepth 16384

noncomputable section

namespace Cert.MoeIdeal.Hand

open Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev tbM0_0 : Memref sig .tc .smem S288 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The word a unit rectangle names in the first table, and in the second. -/
abbrev w0 (c : Dev nD) (xt0 : TbBuf0 (F := F) c tbM0_0) (off : Fin 1 → ℕ) (h : ∀ a, off a + S1.size a ≤ S288.size a) : BitVec 32 :=
  (xt0 : S288.Idx → BitVec 32) ((Rect.unit (s := S288) off S1.size h).emb (Shape.Idx.first (numel1_S1.symm ▸ Nat.one_pos)))
abbrev w1 (c : Dev nD) (xt1 : TbBuf0 (F := F) c tbM0_1) : BitVec 32 :=
  (xt1 : S1.Idx → BitVec 32) ((Rect.unit (s := S1) ![0] S1.size inb_S1_S1_0).emb (Shape.Idx.first (numel1_S1.symm ▸ Nat.one_pos)))

/-- The condition under which a grid point recasts the weight blocks, from the table words it reads. -/
abbrev recast (i : grid0.Coords) (n e e' : BitVec 32) : Prop :=
  Scalar.cmpi .ne (Scalar.extui (Scalar.andi (Scalar.cmpi .slt (BitVec.ofNat 32 (i 0).val) n)
    (Scalar.ori (Scalar.cmpi .eq (BitVec.ofNat 32 (i 0).val) 0#32) (Scalar.cmpi .ne e e')))) 0#32 = 1#1

/-! ## What a used grid point stores -/

/-- The rows of the staged block of tokens a strided load takes: every eighth row from row `j`. -/
abbrev slice8 (j : ℕ) (h : ∀ a, S512x128.size a = 0 ∨ (![j, 0] : Fin 2 → Nat) a + (![8, 1] : Fin 2 → Nat) a * (S512x128.size a - 1) < S4096x128.size a) :
    Rect S4096x128 := ⟨⟨![j, 0], S512x128.size, ![8, 1], h⟩, spos_8_1⟩

/-- The hidden layer of a block, from the staged tokens, the recast first weights and the first bias. -/
def hid (x0 : Vec F S4096x128 .f32) (a : Vec F S1024x2048 .bf16) (x2 : Vec F S1x1x1x2048 .f32) : FVec F S512x1024 .bf16 :=
  k0_pay13 (View.ld x0 (slice8 0 inb_S4096x128_S512x128_0_0_s_8_1)) (View.ld x0 (slice8 1 inb_S4096x128_S512x128_1_0_s_8_1))
    (View.ld x0 (slice8 2 inb_S4096x128_S512x128_2_0_s_8_1)) (View.ld x0 (slice8 3 inb_S4096x128_S512x128_3_0_s_8_1))
    (View.ld x0 (slice8 4 inb_S4096x128_S512x128_4_0_s_8_1)) (View.ld x0 (slice8 5 inb_S4096x128_S512x128_5_0_s_8_1))
    (View.ld x0 (slice8 6 inb_S4096x128_S512x128_6_0_s_8_1)) (View.ld x0 (slice8 7 inb_S4096x128_S512x128_7_0_s_8_1)) a x2

/-- A block of 512 tokens of 1024 features laid out as 4096 rows of 128 lanes: token `r / 8`, feature `128 (r % 8) + l`. -/
def rows (g : FVec F S512x1024 .f32) : Vec F S4096x128 .f32 :=
  fun y => g (ix2 ⟨(y 0).val / 8, by have : (y 0).val < 4096 := (y 0).isLt; omega⟩
    ⟨(y 0).val % 8 * 128 + (y 1).val, by have : (y 1).val < 128 := (y 1).isLt; omega⟩)

/-- What a used point leaves in the output's block. -/
def outV (x0 : Vec F S4096x128 .f32) (a : Vec F S1024x2048 .bf16) (x2 : Vec F S1x1x1x2048 .f32) (b : Vec F S1024x1024 .bf16)
    (x4 : Vec F S1x1x1x1024 .f32) : Vec F S4096x128 .f32 :=
  rows (k0_pay3 (hid x0 a x2) b x4)

/-- One of the eight stores writes the block's rows it covers. -/
theorem rows_slice (g : FVec F S512x1024 .f32) (j o : ℕ) (hj : j < 8) (ho : o = j * 128) (h) (hs : S512x1024.Slices ![0, o] S512x128) (x : S512x128.Idx) :
    extractStridedSlice S512x128 ![0, o] g hs x = rows g ((slice8 j h).emb x) := by
  refine congrArg g (funext fun a => Fin.ext ?_)
  have hx : (x 1).val < 128 := (x 1).isLt
  match a with
  | ⟨0, _⟩ =>
    show 0 + (x 0).val = (j + 8 * (x 0).val) / 8
    omega
  | ⟨1, _⟩ =>
    show o + (x 1).val = (j + 8 * (x 0).val) % 8 * 128 + (0 + 1 * (x 1).val)
    omega

/-- The eight strided stores together cover the block and leave its rows. -/
theorem read_rows {κ : Kind} {sp : Space} (v : View sig κ sp S4096x128 .f32) (f : v.ty.Contents (Elt F)) (p : FVec F S512x1024 .bf16) (b : Vec F S1024x1024 .bf16)
    (x4 : Vec F S1x1x1x1024 .f32) :
    v.read (Elt F) (v.writes (Elt F) f
      [⟨slice8 7 inb_S4096x128_S512x128_7_0_s_8_1, k0_pay11 p b x4⟩, ⟨slice8 6 inb_S4096x128_S512x128_6_0_s_8_1, k0_pay10 p b x4⟩,
       ⟨slice8 5 inb_S4096x128_S512x128_5_0_s_8_1, k0_pay9 p b x4⟩, ⟨slice8 4 inb_S4096x128_S512x128_4_0_s_8_1, k0_pay8 p b x4⟩,
       ⟨slice8 3 inb_S4096x128_S512x128_3_0_s_8_1, k0_pay7 p b x4⟩, ⟨slice8 2 inb_S4096x128_S512x128_2_0_s_8_1, k0_pay6 p b x4⟩,
       ⟨slice8 1 inb_S4096x128_S512x128_1_0_s_8_1, k0_pay5 p b x4⟩, ⟨slice8 0 inb_S4096x128_S512x128_0_0_s_8_1, k0_pay4 p b x4⟩])
      = rows (k0_pay3 p b x4) := by
  funext y
  refine View.read_writes_apply_of_pieces (v := v) (f := f) (rows (k0_pay3 p b x4)) _ ?_ y ?_
  · simp only [List.forall_mem_cons]
    exact ⟨fun x => rows_slice (k0_pay3 p b x4) 7 896 (by decide) rfl _ slices_S512x1024_o0_896_S512x128 x, fun x => rows_slice (k0_pay3 p b x4) 6 768 (by decide) rfl _ slices_S512x1024_o0_768_S512x128 x, fun x => rows_slice (k0_pay3 p b x4) 5 640 (by decide) rfl _ slices_S512x1024_o0_640_S512x128 x,
      fun x => rows_slice (k0_pay3 p b x4) 4 512 (by decide) rfl _ slices_S512x1024_o0_512_S512x128 x, fun x => rows_slice (k0_pay3 p b x4) 3 384 (by decide) rfl _ slices_S512x1024_o0_384_S512x128 x, fun x => rows_slice (k0_pay3 p b x4) 2 256 (by decide) rfl _ slices_S512x1024_o0_256_S512x128 x,
      fun x => rows_slice (k0_pay3 p b x4) 1 128 (by decide) rfl _ slices_S512x1024_o0_128_S512x128 x, fun x => rows_slice (k0_pay3 p b x4) 0 0 (by decide) rfl _ slices_S512x1024_o0_0_S512x128 x, fun _ h => absurd h List.not_mem_nil⟩
  · have h0 : (y 0).val < 4096 := (y 0).isLt
    have h1 : (y 1).val < 128 := (y 1).isLt
    have key : ∀ (j : ℕ) (h), (y 0).val % 8 = j → y ∈ (slice8 j h).set := fun j h e => (LoadRect.mem_set _).mpr fun a =>
      match a with
      | ⟨0, _⟩ => ⟨(y 0).val / 8, by show _ < 512; omega, by show (y 0).val = j + 8 * ((y 0).val / 8); omega⟩
      | ⟨1, _⟩ => ⟨(y 1).val, h1, by show (y 1).val = 0 + 1 * (y 1).val; omega⟩
    have hlt : (y 0).val % 8 < 8 := Nat.mod_lt _ (by decide)
    simp only [List.exists_mem_cons_iff]
    rcases (by omega : (y 0).val % 8 = 7 ∨ (y 0).val % 8 = 6 ∨ (y 0).val % 8 = 5 ∨ (y 0).val % 8 = 4 ∨ (y 0).val % 8 = 3 ∨ (y 0).val % 8 = 2
      ∨ (y 0).val % 8 = 1 ∨ (y 0).val % 8 = 0) with e | e | e | e | e | e | e | e
    · exact .inl (key _ _ e)
    · exact .inr (.inl (key _ _ e))
    · exact .inr (.inr (.inl (key _ _ e)))
    · exact .inr (.inr (.inr (.inl (key _ _ e))))
    · exact .inr (.inr (.inr (.inr (.inl (key _ _ e)))))
    · exact .inr (.inr (.inr (.inr (.inr (.inl (key _ _ e))))))
    · exact .inr (.inr (.inr (.inr (.inr (.inr (.inl (key _ _ e)))))))
    · exact .inr (.inr (.inr (.inr (.inr (.inr (.inr (.inl (key _ _ e))))))))

/-- A strided load of a buffer held at `x` reads `x` at the rectangle's places. -/
theorem rd_slice {κ : Kind} {sp : Space} (M : Memref sig κ sp S4096x128 .f32) (h : M.IsWhole) (x : Vec F S4096x128 .f32) (j : ℕ) (hj) :
    M.view.readAt (Elt F) (slice8 j hj).toLoadRect (h.unread x) = View.ld x (slice8 j hj) := by
  refine (View.readAt_eq_ld M.view (h.unread x) (slice8 j hj)).trans ?_
  rw [h.read_unread]

/-- A load of a whole buffer held at `x` reads `x`. -/
theorem rd_full {κ : Kind} {sp : Space} {S : Shape} {e : EltTy} (M : Memref sig κ sp S e) (h : M.IsWhole) (x : Vec F S e) {off : Fin S.rank → ℕ}
    (inb : ∀ a, off a + S.size a ≤ S.size a) : M.view.readAt (Elt F) (Rect.unit off S.size inb).toLoadRect (h.unread x) = x := by
  rw [View.readAt_full, h.read_unread]

/-- An unused point stores zeros. -/
theorem runC (c : Dev nD) (i : grid0.Coords) (arg3 : Memref sig .tc .vmem S4096x128 .f32) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole) (arg7 : Memref sig .tc .vmem S1x1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S4096x128 .f32) (x1 : Vec F S1x1x1024x2048 .f32) (x2 : Vec F S1x1x1x2048 .f32) (x3 : Vec F S1x1x1024x1024 .f32) (x4 : Vec F S1x1x1x1024 .f32)
    (xt0 : TbBuf0 (F := F) c tbM0_0) (xt1 : TbBuf0 (F := F) c tbM0_1)
    (hc1 : ¬recast i (w1 c xt1) (w0 c xt0 (k0_off1 i) (k0_off1_inb i)) (w0 c xt0 (k0_off2 i) (k0_off2_inb i))) (hc2 : ¬k0_cond2 i (w1 c xt1) = 1#1) (hc3 : k0_cond3 i (w1 c xt1) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay12 (F := F)) ∗ (∃ d, owns (c : Thread nD τ) arg9 fullShare d) ∗ (∃ d, owns (c : Thread nD τ) arg10 fullShare d) ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, HT0, HT1, Hk⟩
  obtain rfl := harg3.eq_unread hf0; obtain rfl := harg4.eq_unread hf1; obtain rfl := harg5.eq_unread hf2; obtain rfl := harg6.eq_unread hf3; obtain rfl := harg7.eq_unread hf4
  sl_exec (disch := first | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    exact View.read_writes_full _ _ _ _ _
  isplitl [HS0]
  · iexists _, _; isplitr; swap; · iexact HS0
    ipureintro; rfl
  isplitl [HS1]
  · iexists _, _; isplitr; swap; · iexact HS1
    ipureintro; rfl
  isplitl [HT0]; · iexact HT0
  iexact HT1

/-- A used point whose expert is the point before's: the weights the scratches hold. -/
theorem runB (c : Dev nD) (i : grid0.Coords) (arg3 : Memref sig .tc .vmem S4096x128 .f32) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole) (arg7 : Memref sig .tc .vmem S1x1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S4096x128 .f32) (x1 : Vec F S1x1x1024x2048 .f32) (x2 : Vec F S1x1x1x2048 .f32) (x3 : Vec F S1x1x1024x1024 .f32) (x4 : Vec F S1x1x1x1024 .f32)
    (xt0 : TbBuf0 (F := F) c tbM0_0) (xt1 : TbBuf0 (F := F) c tbM0_1)
    (a : Vec F S1024x2048 .bf16) (b : Vec F S1024x1024 .bf16)
    (hc1 : ¬recast i (w1 c xt1) (w0 c xt0 (k0_off1 i) (k0_off1_inb i)) (w0 c xt0 (k0_off2 i) (k0_off2_inb i))) (hc2 : k0_cond2 i (w1 c xt1) = 1#1) (hc3 : ¬k0_cond3 i (w1 c xt1) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare a ∗ owns (c : Thread nD τ) arg10 fullShare b ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outV x0 a x2 b x4) ∗ owns (c : Thread nD τ) arg9 fullShare a ∗ owns (c : Thread nD τ) arg10 fullShare b ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, HT0, HT1, Hk⟩
  obtain rfl := harg3.eq_unread hf0; obtain rfl := harg4.eq_unread hf1; obtain rfl := harg5.eq_unread hf2; obtain rfl := harg6.eq_unread hf3; obtain rfl := harg7.eq_unread hf4
  obtain rfl := harg9.eq_unread hs0; obtain rfl := harg10.eq_unread hs1
  sl_exec (disch := first | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    refine (read_rows _ _ _ _ _).trans ?_
    unfold outV hid
    delta runB.sl.r_3
    rw [rd_slice _ harg3 x0 0, rd_slice _ harg3 x0 1, rd_slice _ harg3 x0 2, rd_slice _ harg3 x0 3, rd_slice _ harg3 x0 4, rd_slice _ harg3 x0 5,
      rd_slice _ harg3 x0 6, rd_slice _ harg3 x0 7, rd_full _ harg5, rd_full _ harg7, rd_full _ harg9, rd_full _ harg10]
  isplitl [HS0]
  · iexists _; isplitr; · ipureintro; exact harg9.read_unread _
    iexact HS0
  isplitl [HS1]
  · iexists _; isplitr; · ipureintro; exact harg10.read_unread _
    iexact HS1
  isplitl [HT0]; · iexact HT0
  iexact HT1

/-- A used point of a new expert: the weight blocks are recast first. -/
theorem runA (c : Dev nD) (i : grid0.Coords) (arg3 : Memref sig .tc .vmem S4096x128 .f32) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole) (arg7 : Memref sig .tc .vmem S1x1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S4096x128 .f32) (x1 : Vec F S1x1x1024x2048 .f32) (x2 : Vec F S1x1x1x2048 .f32) (x3 : Vec F S1x1x1024x1024 .f32) (x4 : Vec F S1x1x1x1024 .f32)
    (xt0 : TbBuf0 (F := F) c tbM0_0) (xt1 : TbBuf0 (F := F) c tbM0_1)
    (hc1 : recast i (w1 c xt1) (w0 c xt0 (k0_off1 i) (k0_off1_inb i)) (w0 c xt0 (k0_off2 i) (k0_off2_inb i))) (hc2 : k0_cond2 i (w1 c xt1) = 1#1) (hc3 : ¬k0_cond3 i (w1 c xt1) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outV x0 (k0_pay1 x1) x2 (k0_pay2 x3) x4) ∗ owns (c : Thread nD τ) arg9 fullShare (k0_pay1 x1) ∗ owns (c : Thread nD τ) arg10 fullShare (k0_pay2 x3) ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, HT0, HT1, Hk⟩
  obtain rfl := harg3.eq_unread hf0; obtain rfl := harg4.eq_unread hf1; obtain rfl := harg5.eq_unread hf2; obtain rfl := harg6.eq_unread hf3; obtain rfl := harg7.eq_unread hf4
  sl_exec (disch := first | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    refine (read_rows _ _ _ _ _).trans ?_
    unfold outV hid
    delta runA.sl.r_3 runA.sl.v51 runA.sl.v29 runA.sl.HS0_1 runA.sl.HS1_1
    rw [rd_slice _ harg3 x0 0, rd_slice _ harg3 x0 1, rd_slice _ harg3 x0 2, rd_slice _ harg3 x0 3, rd_slice _ harg3 x0 4, rd_slice _ harg3 x0 5,
      rd_slice _ harg3 x0 6, rd_slice _ harg3 x0 7, rd_full _ harg5, rd_full _ harg7, View.readCov_full, View.readCov_full, rd_full _ harg4, rd_full _ harg6]
  isplitl [HS0]
  · iexists _; isplitr; swap; · iexact HS0
    ipureintro; delta runA.sl.HS0_1; refine (View.read_writes_full _ _ _ _ _).trans ?_; rw [rd_full _ harg4]
  isplitl [HS1]
  · iexists _; isplitr; swap; · iexact HS1
    ipureintro; refine (View.read_writes_full _ _ _ _ _).trans ?_; rw [rd_full _ harg6]
  isplitl [HT0]; · iexact HT0
  iexact HT1

end Cert.MoeIdeal.Hand

end
-- ==== Proof.MoeIdealFrame.lean ====
module

public import proofs.«01_k».proof.Proof.MoeIdealRuns
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pointwise

@[expose] public section

set_option maxRecDepth 16384

noncomputable section

namespace Cert.MoeIdeal.Hand

open Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the region -/

/-- What each array holds when the region is entered: the two biases reshaped, the rest as launched. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- An array neither reshape writes is found as launched. -/
theorem V_keep (c : Dev nD) (r : Ref sig .tc) (h : r ≠ main_v0 ∧ r ≠ main_v1) : V m c r = m ((c : Thread nD τ).loc r) :=
  StableHlo.after_of_forall_not_mem (b := Proc.devRef .tc r) _ _ (List.forall_iff_forall_mem.mp (by
    simp only [hostOps0, List.Forall, StableHlo.reshape_writes, Finset.mem_singleton]
    exact ⟨StableHlo.devRef_ne_of_ne h.1, StableHlo.devRef_ne_of_ne h.2⟩))

/-! ## The tables -/

/-- The tables' contents when the region is entered. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- The tables name blocks inside the arrays. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The words the body branches on -/

theorem ne_zero_iff (b : BitVec 1) : Scalar.cmpi .ne (Scalar.extui b : BitVec 32) 0#32 = 1#1 ↔ b = 1#1 := by
  revert b; decide
theorem xor_one_iff (b : BitVec 1) : Scalar.xori b 1#1 = 1#1 ↔ b ≠ 1#1 := by
  revert b; decide
theorem and_or_iff (b p q : BitVec 1) : Scalar.andi b (Scalar.ori p q) = 1#1 ↔ b = 1#1 ∧ (p = 1#1 ∨ q = 1#1) := by
  revert b p q; decide
theorem ofBool_one (b : Bool) : BitVec.ofBool b = 1#1 ↔ b = true := by
  revert b; decide
theorem slt_iff (a b : BitVec 32) : Scalar.cmpi .slt a b = 1#1 ↔ a.toInt < b.toInt := by
  simp only [Scalar.cmpi, IntOp.cmpi, ofBool_one, BitVec.slt, decide_eq_true_eq]
theorem eq_iff (a b : BitVec 32) : Scalar.cmpi .eq a b = 1#1 ↔ a = b := by
  simp only [Scalar.cmpi, IntOp.cmpi, ofBool_one, beq_iff_eq]
theorem ne_iff (a b : BitVec 32) : Scalar.cmpi .ne a b = 1#1 ↔ a ≠ b := by
  simp only [Scalar.cmpi, IntOp.cmpi, ofBool_one, bne_iff_ne]

/-- A point is used when its number lies below the second table's word. -/
abbrev lt1 (i : grid0.Coords) (n : BitVec 32) : Prop := (BitVec.ofNat 32 (i 0).val).toInt < n.toInt

theorem cond2_iff (i : grid0.Coords) (n : BitVec 32) : k0_cond2 i n = 1#1 ↔ lt1 i n := by
  unfold k0_cond2; exact (ne_zero_iff _).trans (slt_iff _ _)
theorem cond3_iff (i : grid0.Coords) (n : BitVec 32) : k0_cond3 i n = 1#1 ↔ ¬lt1 i n := by
  unfold k0_cond3; exact (ne_zero_iff _).trans ((xor_one_iff _).trans (slt_iff _ _).not)
theorem recast_iff (i : grid0.Coords) (n e e' : BitVec 32) :
    recast i n e e' ↔ lt1 i n ∧ (BitVec.ofNat 32 (i 0).val = 0#32 ∨ e ≠ e') :=
  (ne_zero_iff _).trans ((and_or_iff _ _ _).trans (and_congr (slt_iff _ _) (or_congr (eq_iff _ _) (ne_iff _ _))))

theorem coords_val (t : Fin grid0.N) : (grid0.coords t 0).val = t.val := by
  have ht : t.val < 288 := Nat.lt_of_lt_of_eq t.isLt N_0
  have e0 : (grid0.coords t 0).val = t.val / 1 % 288 := Pipeline.Grid.coords_val t 0 (by decide) rfl
  omega

theorem toInt_small (k : ℕ) (h : k < 288) : (BitVec.ofNat 32 k).toInt = k := by
  rw [BitVec.toInt_eq_toNat_cond, BitVec.toNat_ofNat, Nat.mod_eq_of_lt (by omega), if_pos (by omega)]

/-- The entry the body compares with its own is the one of the point before. -/
theorem off2_eq (k : Fin grid0.N) (k' : Fin grid0.N) (h : k.val = k'.val + 1) : k0_off2 (grid0.coords k) = k0_off1 (grid0.coords k') := by
  have hk : k.val < 288 := Nat.lt_of_lt_of_eq k.isLt N_0
  unfold k0_off1 k0_off2
  rw [coords_val, coords_val]
  have e : Scalar.maxsi (Scalar.subi (BitVec.ofNat 32 k.val) 1#32) 0#32 = BitVec.ofNat 32 k'.val := by
    have e1 : Scalar.subi (BitVec.ofNat 32 k.val) 1#32 = BitVec.ofNat 32 k'.val := by
      show BitVec.ofNat 32 k.val - 1#32 = _
      rw [h]; apply BitVec.eq_of_toNat_eq
      simp only [BitVec.toNat_sub, BitVec.toNat_ofNat]; omega
    rw [e1]
    have e2 : (BitVec.ofNat 32 k'.val).toInt = k'.val := toInt_small _ (by omega)
    simp only [Scalar.maxsi, IntOp.maxsi, BitVec.slt, BitVec.sle, e2]
    simp
    intro h0; rw [h0]
  simp only [e]

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The words at point `t`: its block's expert, the number of used blocks, and whether it is used. -/
abbrev expW (c : Dev nD) (t : Fin grid0.N) : BitVec 32 := w0 c (tbl m 0) (k0_off1 (grid0.coords t)) (k0_off1_inb (grid0.coords t))
abbrev cntW (c : Dev nD) : BitVec 32 := w1 c (tbl m 1)
abbrev Used (c : Dev nD) (t : Fin grid0.N) : Prop := lt1 (grid0.coords t) (cntW m c)

theorem w0_congr (c : Dev nD) (xt0 : TbBuf0 (F := F) c tbM0_0) (o o' : Fin 1 → ℕ) (h h') (e : o = o') : w0 c xt0 o h = w0 c xt0 o' h' := by
  subst e; rfl

/-- Two points naming the same block of an array read the same contents. -/
theorem read_congr {S : Shape} {e : EltTy} (M : Memref sig .tc .hbm S e) (f : M.view.ty.Contents (Elt F)) (B : Fin S.rank → ℕ) (ix ix' : Fin S.rank → ℕ) (h h') (hh : ix = ix') :
    ((M.slice (Rect.block B ix h) fun _ => rfl).view.read (Elt F) f : (Shape.mk S.rank B).Idx → Elt F e) = (M.slice (Rect.block B ix' h') fun _ => rfl).view.read (Elt F) f := by
  subst hh; rfl

theorem ix_eq {t t' : Fin grid0.N} (c : Dev nD) (h : expW m c t = expW m c t') :
    cc0_transform_1 k0_off1_inb numel1_S1 (tbl m) (grid0.coords t) = cc0_transform_1 k0_off1_inb numel1_S1 (tbl m) (grid0.coords t') := by
  have h' : ∀ e e' : BitVec 32, e = e' → (![1, e.toNat, 0, 0] : Fin 4 → ℕ) = ![1, e'.toNat, 0, 0] := fun _ _ h => by rw [h]
  exact h' _ _ h

theorem iblk1_congr (hO : Ok m) (c : Dev nD) (t t' : Fin (cfgM m hO).N) (h : expW m c t = expW m c t') :
    (iblk m hO c 1 t : Vec F S1x1x1024x2048 .f32) = iblk m hO c 1 t' :=
  read_congr (spec0 1).arr (V m c (Pipeline.arrRef spec0 1)) (spec0 1).size _ _ (hinb0 (tbl m) hO 1 (grid0.coords t)) (hinb0 (tbl m) hO 1 (grid0.coords t')) (ix_eq m c h)
theorem iblk3_congr (hO : Ok m) (c : Dev nD) (t t' : Fin (cfgM m hO).N) (h : expW m c t = expW m c t') :
    (iblk m hO c 3 t : Vec F S1x1x1024x1024 .f32) = iblk m hO c 3 t' :=
  read_congr (spec0 3).arr (V m c (Pipeline.arrRef spec0 3)) (spec0 3).size _ _ (hinb0 (tbl m) hO 3 (grid0.coords t)) (hinb0 (tbl m) hO 3 (grid0.coords t')) (ix_eq m c h)

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The staging and scratch memrefs -/

abbrev ms0_0 (hO : Ok m) (t : Fin (cfgM m hO).N) : Memref sig .tc .vmem S4096x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1024x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1024x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S4096x128 .f32 := spec0_5.stage ((cfgM m hO).slots t 5)
abbrev hs0_5 (hO : Ok m) (t : Fin (cfgM m hO).N) : (ms0_5 m hO t).IsWhole := hstage0_5 (((cfgM m hO).slots t 5).cast nbuf0_5)

abbrev scM0_0 : Memref sig .tc .vmem S1024x2048 .bf16 := Memref.whole cc0_scratch0
abbrev scM0_1 : Memref sig .tc .vmem S1024x1024 .bf16 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The body at point `t`, on the buffers the pipeline calls it with. -/
abbrev bodyAt (hO : Ok m) (t : Fin (cfgM m hO).N) : Prog (TpuEff nD τ sig (Elt F) Λ₀ .tc) PUnit :=
  cc0_moe_experts (grid0.coords t) tbM0_0 htbM0_0 tbM0_1 htbM0_1 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _)

/-! ## What each point leaves -/

/-- The output's block after point `t`: the experts' answer at a used point, zeros elsewhere. -/
def outA (hO : Ok m) (c : Dev nD) (t : Fin (cfgM m hO).N) : Vec F S4096x128 .f32 :=
  if Used m c t then outV (iblk m hO c 0 t) (k0_pay1 (iblk m hO c 1 t)) (iblk m hO c 2 t) (k0_pay2 (iblk m hO c 3 t)) (iblk m hO c 4 t)
  else k0_pay12

/-- What the two scratch buffers hold after point `t`: at a used point the recast weights of its expert. -/
def Kept (hO : Ok m) (c : Dev nD) (t : Fin (cfgM m hO).N) (f : Vec F S1024x2048 .bf16) (g : Vec F S1024x1024 .bf16) : Prop :=
  Used m c t → f = k0_pay1 (iblk m hO c 1 t) ∧ g = k0_pay2 (iblk m hO c 3 t)

/-- The invariant before position `n`. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop((∃ f g, ⌜Kept m hO c ⟨n, hn⟩ f g⌝ ∗ owns (c : Thread nD τ) scM0_0 fullShare f ∗ owns (c : Thread nD τ) scM0_1 fullShare g) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl
theorem PhiS_succ (hO : Ok m) (c : Dev nD) (t : Fin (cfgM m hO).N) :
    PhiS m hO c (t.val + 1) t.isLt = iprop(iprop((∃ f g, ⌜Kept m hO c t f g⌝ ∗ owns (c : Thread nD τ) scM0_0 fullShare f ∗ owns (c : Thread nD τ) scM0_1 fullShare g) ∗ (∃ r, prngReg c r)) ∗ Pipeline.ΦT pre0 (tbl m) c) := rfl
theorem PhiS_pos (hO : Ok m) (c : Dev nD) (t : Fin (cfgM m hO).N) (n : ℕ) (h : n ≤ (cfgM m hO).N) (hz : n = t.val + 1) :
    PhiS m hO c n h = iprop(iprop((∃ f g, ⌜Kept m hO c t f g⌝ ∗ owns (c : Thread nD τ) scM0_0 fullShare f ∗ owns (c : Thread nD τ) scM0_1 fullShare g) ∗ (∃ r, prngReg c r)) ∗ Pipeline.ΦT pre0 (tbl m) c) := by
  subst hz; rfl

/-- At any position the scratch buffers are held at something. -/
theorem PhiS_any (hO : Ok m) (c : Dev nD) (n : ℕ) (h : n ≤ (cfgM m hO).N) :
    PhiS m hO c n h ⊢ iprop(iprop(iprop((∃ d, owns (c : Thread nD τ) scM0_0 fullShare d) ∗ (∃ d, owns (c : Thread nD τ) scM0_1 fullShare d)) ∗ (∃ r, prngReg c r)) ∗ Pipeline.ΦT pre0 (tbl m) c) := by
  cases n with
  | zero => rw [PhiS_zero m hO c 0 h rfl, PhiA0_eq]
  | succ n =>
    rw [PhiS_pos m hO c ⟨n, h⟩ (n + 1) h rfl]
    iintro ⟨⟨⟨%f, %g, -, H0, H1⟩, Hg⟩, HT⟩
    isplitr [HT]; swap; · iexact HT
    isplitr [Hg]; swap; · iexact Hg
    isplitl [H0]
    · iexists _; iexact H0
    iexists _; iexact H1

/-! ## The pipeline's proof data -/

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outA m hO c t
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outA m hO c t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

end Cert.MoeIdeal.Hand

end
-- ==== Proof.MoeIdealBody.lean ====
module

public import proofs.«01_k».proof.Proof.MoeIdealFrame
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pointwise

@[expose] public section

set_option maxRecDepth 16384

noncomputable section

namespace Cert.MoeIdeal.Hand

open Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

/-- A used point that does not recast follows a used point of the same expert. -/
theorem same_expert (c : Dev nD) (t : Fin grid0.N) (hu : Used m c t)
    (hr : ¬recast (grid0.coords t) (cntW m c) (expW m c t) (w0 c (tbl m 0) (k0_off2 (grid0.coords t)) (k0_off2_inb (grid0.coords t)))) :
    ∃ t' : Fin grid0.N, t.val = t'.val + 1 ∧ Used m c t' ∧ expW m c t = expW m c t' := by
  have ht : t.val < 288 := Nat.lt_of_lt_of_eq t.isLt N_0
  rw [recast_iff] at hr
  have hz : t.val ≠ 0 := fun h => hr ⟨hu, .inl (by rw [coords_val, h])⟩
  have he : expW m c t = w0 c (tbl m 0) (k0_off2 (grid0.coords t)) (k0_off2_inb (grid0.coords t)) := by
    by_contra h; exact hr ⟨hu, .inr h⟩
  refine ⟨⟨t.val - 1, Nat.lt_of_le_of_lt (Nat.sub_le _ _) t.isLt⟩, by dsimp only; omega, ?_, ?_⟩
  · have hu' := hu
    unfold Used lt1 at hu' ⊢
    rw [coords_val, toInt_small _ ht] at hu'
    rw [coords_val, toInt_small _ (by dsimp only; omega)]
    dsimp only; omega
  · exact he.trans (w0_congr c (tbl m 0) _ _ _ _ (off2_eq t ⟨t.val - 1, Nat.lt_of_le_of_lt (Nat.sub_le _ _) t.isLt⟩ (by dsimp only; omega)))

set_option maxHeartbeats 3200000 in
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0_0, before0_1, before0_2, before0_3, before0_4]
  rw [show (dats m hO 0 c).owesAt () t.succ = (dats m hO 0 c).owesAt () t.castSucc from rfl,
    after0_0, after0_1, after0_2, after0_3, after0_4, after0_5]
  rw [show (dats m hO 0 c).Φ t.succ = PhiS m hO c (t.val + 1) t.isLt from rfl, PhiS_succ, PhiT0_eq, PhiS_castSucc]
  by_cases hu : Used m c t
  · rw [show outA m hO c t = _ from if_pos hu]
    by_cases hr : recast (grid0.coords t) (cntW m c) (expW m c t) (w0 c (tbl m 0) (k0_off2 (grid0.coords t)) (k0_off2_inb (grid0.coords t)))
    · refine BIBase.Entails.trans (BIClass.sep_mono (PhiS_any m hO c _ _) .rfl) ?_
      rw [PhiT0_eq]
      iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
      iapply (runA c (grid0.coords t) _ (hs0_0 m hO t) _ (hs0_1 m hO t) _ (hs0_2 m hO t) _ (hs0_3 m hO t) _ (hs0_4 m hO t) _ (hs0_5 m hO t) _ (Memref.isWhole_whole _) _ (Memref.isWhole_whole _)
        (iblk m hO c 0 t) (iblk m hO c 1 t) (iblk m hO c 2 t) (iblk m hO c 3 t) (iblk m hO c 4 t) (tbl m 0) (tbl m 1) hr ((cond2_iff _ _).mpr hu) (fun h => (cond3_iff _ _).mp h hu) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HT0]; · iexact HT0
      isplitl [HT1]; · iexact HT1
      iintro ⟨H0, H1, H2, H3, H4, H5, HS0, HS1, HT0, HT1⟩
      isplitl [HS0 HS1 Hg HT0 HT1]
      · isplitl [HS0 HS1 Hg]
        · isplitl [HS0 HS1]
          · iexists _, _
            isplitr
            · ipureintro; exact fun _ => ⟨rfl, rfl⟩
            isplitl [HS0]; · iexact HS0
            iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      iexact H5
    · obtain ⟨t', htt, hu', he⟩ := same_expert m c t hu hr
      rw [PhiS_pos m hO c t' _ _ htt, PhiT0_eq]
      iintro ⟨⟨⟨⟨%f, %g, %hk, HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
      obtain ⟨hf, hg⟩ := hk hu'
      replace hf : f = k0_pay1 (iblk m hO c 1 t) := hf.trans (congrArg k0_pay1 (iblk1_congr m hO c t t' he).symm)
      replace hg : g = k0_pay2 (iblk m hO c 3 t) := hg.trans (congrArg k0_pay2 (iblk3_congr m hO c t t' he).symm)
      subst hf hg
      iapply (runB c (grid0.coords t) _ (hs0_0 m hO t) _ (hs0_1 m hO t) _ (hs0_2 m hO t) _ (hs0_3 m hO t) _ (hs0_4 m hO t) _ (hs0_5 m hO t) _ (Memref.isWhole_whole _) _ (Memref.isWhole_whole _)
        (iblk m hO c 0 t) (iblk m hO c 1 t) (iblk m hO c 2 t) (iblk m hO c 3 t) (iblk m hO c 4 t) (tbl m 0) (tbl m 1) _ _ hr ((cond2_iff _ _).mpr hu) (fun h => (cond3_iff _ _).mp h hu) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HT0]; · iexact HT0
      isplitl [HT1]; · iexact HT1
      iintro ⟨H0, H1, H2, H3, H4, H5, HS0, HS1, HT0, HT1⟩
      isplitl [HS0 HS1 Hg HT0 HT1]
      · isplitl [HS0 HS1 Hg]
        · isplitl [HS0 HS1]
          · iexists _, _
            isplitr
            · ipureintro; exact fun _ => ⟨rfl, rfl⟩
            isplitl [HS0]; · iexact HS0
            iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      iexact H5
  · rw [show outA m hO c t = _ from if_neg hu]
    refine BIBase.Entails.trans (BIClass.sep_mono (PhiS_any m hO c _ _) .rfl) ?_
    rw [PhiT0_eq]
    iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
    iapply (runC c (grid0.coords t) _ (hs0_0 m hO t) _ (hs0_1 m hO t) _ (hs0_2 m hO t) _ (hs0_3 m hO t) _ (hs0_4 m hO t) _ (hs0_5 m hO t) _ (Memref.isWhole_whole _) _ (Memref.isWhole_whole _)
      (iblk m hO c 0 t) (iblk m hO c 1 t) (iblk m hO c 2 t) (iblk m hO c 3 t) (iblk m hO c 4 t) (tbl m 0) (tbl m 1) (fun h => hu ((recast_iff _ _ _ _).mp h).1) (fun h => hu ((cond2_iff _ _).mp h)) ((cond3_iff _ _).mpr hu) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HT0]; · iexact HT0
    isplitl [HT1]; · iexact HT1
    iintro ⟨H0, H1, H2, H3, H4, H5, ⟨%e0, HS0⟩, ⟨%e1, HS1⟩, HT0, HT1⟩
    isplitl [HS0 HS1 Hg HT0 HT1]
    · isplitl [HS0 HS1 Hg]
      · isplitl [HS0 HS1]
        · iexists e0, e1
          isplitr
          · ipureintro; exact fun h => absurd h hu
          isplitl [HS0]; · iexact HS0
          iexact HS1
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    iexact H5

end Cert.MoeIdeal.Hand

end
-- ==== Proof.MoeIdealMain.lean ====
module

public import proofs.«01_k».proof.Proof.MoeIdealBody
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pointwise

@[expose] public section

set_option maxRecDepth 16384

noncomputable section

namespace Cert.MoeIdeal.Hand

open Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The output is stored at every point: one of its two guards holds. -/
theorem idle0_5 (pf : pre0.Contents (Elt F)) (i : grid0.Coords) : idle0 pf 5 i = false := by
  have h : ∀ n : BitVec 32, (!(k0_cond2 i n == 1#1) && !(k0_cond3 i n == 1#1)) = false := fun n => by
    by_cases hn : lt1 i n
    · rw [(cond2_iff _ _).mpr hn]; rfl
    · rw [(cond3_iff _ _).mpr hn, Bool.and_comm]; rfl
  exact h _
theorem idle5 (a : (pcfg0 (F := F)).Adm) (i : grid0.Coords) : (cfg0 a).idle 5 i = false := idle0_5 a.1 i

/-- Where no window is ever idle, the body's obligation is the plain one: each buffer from its contents before to its contents after. -/
theorem obligation_of_busy {cfg : Pipeline.Cfg sig Λ₀} {c : Dev nD} (dat : Dat τ (Elt F) Unit ℕ (UR sig nD τ) ℕ cfg c)
    (hidle : ∀ w (t : Fin cfg.N), cfg.idle w (cfg.grid.coords t) = false)
    (h : ∀ t : Fin cfg.N, iprop(dat.Φ t.castSucc ∗ dat.owesAt () t.castSucc
        ∗ bigSep Finset.univ fun w : Fin cfg.W => iprop(∃ d, owns (c : Thread nD τ) ((cfg.win w).stage (cfg.slots t w)) fullShare (dat.before w t d)))
      ⊢ wp frame (wpE (defs₀ (F := F)) Variants.none c none) Set.univ (defs₀ .tc cfg.body (cfg.bodyArgs t (cfg.slots t))) fun _ =>
          iprop(dat.Φ t.succ ∗ dat.owesAt () t.succ
            ∗ bigSep Finset.univ fun w : Fin cfg.W => owns (c : Thread nD τ) ((cfg.win w).stage (cfg.slots t w)) fullShare (dat.after w t))) :
    BodyObligation dat (defs₀ (F := F)) Variants.none () Set.univ := fun t =>
  triple_restated (h t) rfl .rfl fun _ => BIClass.sep_mono .rfl (BIClass.sep_mono .rfl (bigSep_mono fun w _ => by
    dsimp only
    rw [hidle w t]
    exact .refl _))

theorem body_obligation (hO : Ok m) (c : Dev nD) : BodyObligation (dats (F := F) m hO 0 c) (defs₀ (F := F)) Variants.none () Set.univ :=
  obligation_of_busy (dats m hO 0 c)
    (fun w t => match w with
      | 0 => rfl | 1 => rfl | 2 => rfl | 3 => rfl | 4 => rfl | 5 => idle5 (adm m hO) (grid0.coords t))
    fun t => by
      rw [bigSep_W0, bigSep_W0, defs₀_row m hO]
      exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]

theorem hout (hO : Ok m) (c : Dev nD) : (dats m hO 0 c).Φ (Fin.last (cfgM m hO).N) ⊢ Pipeline.ΦA spec0 c := by
  rw [show (dats m hO 0 c).Φ (Fin.last (cfgM m hO).N) = PhiS m hO c (cfgM m hO).N le_rfl from rfl, PhiA0_eq]
  refine (PhiS_any m hO c _ _).trans ?_
  iintro ⟨H, -⟩
  iexact H

/-! ## The run and the frame -/

set_option backward.isDefEq.respectTransparency.types false in
/-- The run: every array ends at what the points' write-backs leave in it, and every counter at zero. -/
theorem run_main (hO : Ok m) : θ_run defs (onTc (τ := τ) (main (F := F))) (s₀ m ρ)
    (fun r => Pipeline.FramePost (Pipeline.pin pcfgs fun _ => adm m hO) (dats m hO) (0 : Fin 1) (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

/-- What the run leaves: the result array at the points' write-backs, the arguments as launched, the counters at zero. -/
theorem run_all (hO : Ok m) : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.mem ((c.tc : Thread nD τ).loc main_v2) = (dats m hO 0 c).arrAt 5 (cfgM m hO).N)
      ∧ r.2.sem = fun _ => 0) :=
  (θ_run defs _ _).mono (fun r h => ⟨fun c => ⟨⟨
      ((h.1 c).2 main_arg0 (by decide : main_arg0 ∈ Pipeline.restRefs sig spec0)).trans (V_keep m c main_arg0 (by decide)),
      ((h.1 c).2 main_arg1 (by decide : main_arg1 ∈ Pipeline.restRefs sig spec0)).trans (V_keep m c main_arg1 (by decide)),
      (((h.1 c).1 0).trans (((dats m hO 0 c).arrAt_in 0 rfl _).trans (A_eq m hO c 0))).trans (V_keep m c main_arg2 (by decide)),
      (((h.1 c).1 1).trans (((dats m hO 0 c).arrAt_in 1 rfl _).trans (A_eq m hO c 1))).trans (V_keep m c main_arg3 (by decide)),
      ((h.1 c).2 main_arg4 (by decide : main_arg4 ∈ Pipeline.restRefs sig spec0)).trans (V_keep m c main_arg4 (by decide)),
      (((h.1 c).1 3).trans (((dats m hO 0 c).arrAt_in 3 rfl _).trans (A_eq m hO c 3))).trans (V_keep m c main_arg5 (by decide)),
      ((h.1 c).2 main_arg6 (by decide : main_arg6 ∈ Pipeline.restRefs sig spec0)).trans (V_keep m c main_arg6 (by decide))⟩,
      (h.1 c).1 5⟩, h.2⟩) (run_main m ρ hO)

end Cert.MoeIdeal.Hand

end
-- ==== Proof.MoeIdealOk.lean ====
/- The precondition puts every block the tables name inside its array. -/
module

public import proofs.«01_k».proof.Proof.MoeIdealFrame
public import proofs.«01_k».proof.Proof.PreExperts

@[expose] public section

set_option maxRecDepth 16384

noncomputable section

namespace Cert.MoeIdeal.Hand

open Cert.MoeIdeal.Gen
open Idealize.ShloMosaic Idealize.ShloMosaic.TcCoe

variable {F : FTy → Type} [FloatOps F]
variable (m : (ℓ : Loc nD τ sig) → Buf (Elt F) ℓ)

/-- Block `e` of layer 1 lies in a stack of two layers of 32 blocks. -/
theorem layer_inb (e a b : ℕ) (he : e < 32) : ∀ k : Fin 4, ((![1, e, 0, 0] : Fin 4 → ℕ) k + 1) * (![1, 1, a, b] : Fin 4 → ℕ) k ≤ (![2, 32, a, b] : Fin 4 → ℕ) k
  | 0 => by show (1 + 1) * 1 ≤ 2; omega
  | 1 => by show (e + 1) * 1 ≤ 32; omega
  | 2 => by show (0 + 1) * a ≤ a; omega
  | 3 => by show (0 + 1) * b ≤ b; omega

theorem tokens_inb (e : ℕ) (he : e < 288) : ∀ k : Fin 2, ((![e, 0] : Fin 2 → ℕ) k + 1) * (![4096, 128] : Fin 2 → ℕ) k ≤ (![1179648, 128] : Fin 2 → ℕ) k
  | 0 => by show (e + 1) * 4096 ≤ 1179648; omega
  | 1 => by show (0 + 1) * 128 ≤ 128; omega

/-- The block of tokens a point reads is its own or the first. -/
theorem own_or_first (b : BitVec 1) (i : grid0.Coords) : (Scalar.select b (BitVec.ofNat 32 (i 0).val) 0#32).toNat < 288 := by
  have h : (i 0).val < 288 := (i 0).isLt
  have e : (BitVec.ofNat 32 (i 0).val).toNat = (i 0).val := by rw [BitVec.toNat_ofNat, Nat.mod_eq_of_lt (by omega)]
  unfold Scalar.select
  split
  · rw [e]; exact h
  · decide

theorem ok_of (h : ∀ x : S288.Idx, ((tbl m 0 : S288.Idx → BitVec 32) x).toNat < 32) : Ok m :=
  ⟨fun i => ⟨tokens_inb _ (own_or_first _ i), .inl rfl⟩, fun _ => ⟨layer_inb _ 1024 2048 (h _), .inl rfl⟩, fun _ => ⟨layer_inb _ 1 2048 (h _), .inl rfl⟩,
    fun _ => ⟨layer_inb _ 1024 1024 (h _), .inl rfl⟩, fun _ => ⟨layer_inb _ 1 1024 (h _), .inl rfl⟩⟩

theorem tbl0_eq : tbl m 0 = m (((0 : Dev nD) : Thread nD τ).loc main_arg0) := V_keep m 0 main_arg0 (by decide)
theorem tbl1_eq : tbl m 1 = m (((0 : Dev nD) : Thread nD τ).loc main_arg1) := V_keep m 0 main_arg1 (by decide)

end Cert.MoeIdeal.Hand

end
-- ==== Proof.MoeSpec.lean ====
/- One token through one expert, in exact arithmetic. -/
module

public import Idealize.ShloMosaic.PureOps
public import Idealize.ShloMosaic.Lib.StableHlo
public import Idealize.ShloMosaic.Lib.Pointwise

@[expose] public section

noncomputable section

namespace Cert.Experts

open Idealize.ShloMosaic

/-- The gated unit: the gate clipped above at 7, times its sigmoid at 1.702, times the other half clipped at ±7 plus one. -/
def act (p q : EReal) : EReal :=
  min p (Ideal.ofBits FTy.f32 1088421888#32) * Ideal.logistic (Ideal.ofBits FTy.f32 1071242019#32 * min p (Ideal.ofBits FTy.f32 1088421888#32))
    * (min (Ideal.ofBits FTy.f32 1088421888#32) (max (Ideal.ofBits FTy.f32 3235905536#32) q) + 1)

/-- The first layer's output `f`. -/
def first (tok : Fin 1024 → EReal) (w1 : Fin 1024 → Fin 2048 → EReal) (b1 : Fin 2048 → EReal) (f : Fin 2048) : EReal :=
  (∑ k : Fin 1024, tok k * w1 k f) + b1 f

/-- The hidden unit `f`. -/
def unit (tok : Fin 1024 → EReal) (w1 : Fin 1024 → Fin 2048 → EReal) (b1 : Fin 2048 → EReal) (f : Fin 1024) : EReal :=
  act (first tok w1 b1 ⟨f.val, by omega⟩) (first tok w1 b1 ⟨1024 + f.val, by omega⟩)

/-- The answer's feature `d`. -/
def expert (tok : Fin 1024 → EReal) (w1 : Fin 1024 → Fin 2048 → EReal) (b1 : Fin 2048 → EReal) (w2 : Fin 1024 → Fin 1024 → EReal)
    (b2 : Fin 1024 → EReal) (d : Fin 1024) : EReal :=
  (∑ f : Fin 1024, unit tok w1 b1 f * w2 f d) + b2 d

end Cert.Experts

end
-- ==== Proof.MoeIdealPoint.lean ====
/- What a used point of the experts' call stores, at an index. -/
module

public import proofs.«01_k».proof.Proof.MoeIdealRuns
public import proofs.«01_k».proof.Proof.MoeSpec
public import Idealize.ShloMosaic.Lib.Pointwise

@[expose] public section

set_option maxRecDepth 16384

noncomputable section

namespace Cert.MoeIdeal.Hand

open Cert.MoeIdeal.Gen Cert.Experts
open Idealize.ShloMosaic Idealize.ShloMosaic.TcCoe

theorem pay1_apply (x : Vec Ideal S1x1x1024x2048 .f32) (k : Fin 1024) (f : Fin 2048) : k0_pay1 x (ix2 k f) = x (ix4 0 0 k f) := by
  pointwise [k0_pay1]
theorem pay2_apply (x : Vec Ideal S1x1x1024x1024 .f32) (k : Fin 1024) (f : Fin 1024) : k0_pay2 x (ix2 k f) = x (ix4 0 0 k f) := by
  pointwise [k0_pay2]
theorem pay3_apply (p : FVec Ideal S512x1024 .bf16) (b : Vec Ideal S1024x1024 .bf16) (x4 : Vec Ideal S1x1x1x1024 .f32) (r : Fin 512) (d : Fin 1024) :
    k0_pay3 p b x4 (ix2 r d) = (∑ f : Fin 1024, p (ix2 r f) * b (ix2 f d) : EReal) + x4 (ix4 0 0 0 d) := by
  pointwise [k0_pay3]

/-- Token `r` of a staged block. -/
def tok (x : Vec Ideal S4096x128 .f32) (r : Fin 512) (k : Fin 1024) : EReal :=
  x (ix2 ⟨r.val * 8 + k.val / 128, by omega⟩ ⟨k.val % 128, by omega⟩)

theorem ld_slice8 (x : Vec Ideal S4096x128 .f32) (j : ℕ) (hj : j < 8) (h) (r : Fin 512) (l : Fin 128) (a : Fin 4096) (ha : a.val = r.val * 8 + j) :
    View.ld x (slice8 j h) (ix2 r l) = x (ix2 a l) :=
  congrArg x (funext fun b => Fin.ext (match b with
    | ⟨0, _⟩ => by show j + 8 * r.val = a.val; omega
    | ⟨1, _⟩ => by show 0 + 1 * l.val = l.val; omega))

/-- Eight pieces side by side, at a feature that each piece it lies in holds as `z`. -/
theorem eight (v0 v1 v2 v3 v4 v5 v6 v7 : Vec Ideal S512x128 .f32) (z : EReal) (r : Fin 512) (k : Fin 1024) (h)
    (h0 : ∀ l : Fin 128, k.val = 0 * 128 + l.val → v0 (ix2 r l) = z) (h1 : ∀ l : Fin 128, k.val = 1 * 128 + l.val → v1 (ix2 r l) = z)
    (h2 : ∀ l : Fin 128, k.val = 2 * 128 + l.val → v2 (ix2 r l) = z) (h3 : ∀ l : Fin 128, k.val = 3 * 128 + l.val → v3 (ix2 r l) = z)
    (h4 : ∀ l : Fin 128, k.val = 4 * 128 + l.val → v4 (ix2 r l) = z) (h5 : ∀ l : Fin 128, k.val = 5 * 128 + l.val → v5 (ix2 r l) = z)
    (h6 : ∀ l : Fin 128, k.val = 6 * 128 + l.val → v6 (ix2 r l) = z) (h7 : ∀ l : Fin 128, k.val = 7 * 128 + l.val → v7 (ix2 r l) = z) :
    concatenate S512x1024 1 [⟨S512x128, v0⟩, ⟨S512x128, v1⟩, ⟨S512x128, v2⟩, ⟨S512x128, v3⟩, ⟨S512x128, v4⟩, ⟨S512x128, v5⟩, ⟨S512x128, v6⟩, ⟨S512x128, v7⟩] h (ix2 r k)
      = z := by
  have hk := k.isLt
  pointwise
  split_ifs
  all_goals first
    | exact h0 _ (by dsimp only; omega)
    | exact h1 _ (by dsimp only; omega)
    | exact h2 _ (by dsimp only; omega)
    | exact h3 _ (by dsimp only; omega)
    | exact h4 _ (by dsimp only; omega)
    | exact h5 _ (by dsimp only; omega)
    | exact h6 _ (by dsimp only; omega)
    | exact h7 _ (by dsimp only; omega)

/-- A strided load holds its features of the block's tokens. -/
theorem ld_tok (x : Vec Ideal S4096x128 .f32) (r : Fin 512) (k : Fin 1024) (j : ℕ) (hj : j < 8) (h) (l : Fin 128) (e : k.val = j * 128 + l.val) :
    View.ld x (slice8 j h) (ix2 r l) = tok x r k := by
  have hl : (⟨k.val % 128, by omega⟩ : Fin 128) = l := Fin.ext (by show k.val % 128 = l.val; omega)
  unfold tok
  rw [hl]
  exact ld_slice8 x j hj h r l _ (by show r.val * 8 + k.val / 128 = _; omega)

/-- The eight strided loads side by side are the block's tokens. -/
theorem side_by_side (x : Vec Ideal S4096x128 .f32) (h) (r : Fin 512) (k : Fin 1024) :
    concatenate S512x1024 1 [⟨S512x128, View.ld x (slice8 0 inb_S4096x128_S512x128_0_0_s_8_1)⟩, ⟨S512x128, View.ld x (slice8 1 inb_S4096x128_S512x128_1_0_s_8_1)⟩,
      ⟨S512x128, View.ld x (slice8 2 inb_S4096x128_S512x128_2_0_s_8_1)⟩, ⟨S512x128, View.ld x (slice8 3 inb_S4096x128_S512x128_3_0_s_8_1)⟩,
      ⟨S512x128, View.ld x (slice8 4 inb_S4096x128_S512x128_4_0_s_8_1)⟩, ⟨S512x128, View.ld x (slice8 5 inb_S4096x128_S512x128_5_0_s_8_1)⟩,
      ⟨S512x128, View.ld x (slice8 6 inb_S4096x128_S512x128_6_0_s_8_1)⟩, ⟨S512x128, View.ld x (slice8 7 inb_S4096x128_S512x128_7_0_s_8_1)⟩] h (ix2 r k)
      = tok x r k :=
  eight _ _ _ _ _ _ _ _ _ r k h (ld_tok x r k 0 (by decide) _) (ld_tok x r k 1 (by decide) _) (ld_tok x r k 2 (by decide) _) (ld_tok x r k 3 (by decide) _)
    (ld_tok x r k 4 (by decide) _) (ld_tok x r k 5 (by decide) _) (ld_tok x r k 6 (by decide) _) (ld_tok x r k 7 (by decide) _)

theorem hid_apply (x0 : Vec Ideal S4096x128 .f32) (a : Vec Ideal S1024x2048 .bf16) (x2 : Vec Ideal S1x1x1x2048 .f32) (r : Fin 512) (f : Fin 1024) :
    hid x0 a x2 (ix2 r f) = unit (tok x0 r) (fun k f => a (ix2 k f)) (fun f => x2 (ix4 0 0 0 f)) f := by
  have e := fun h => (funext fun i => by
    obtain ⟨r, k, rfl⟩ : ∃ r k, i = ix2 r k := ⟨i 0, i 1, funext fun a => match a with | ⟨0, _⟩ => rfl | ⟨1, _⟩ => rfl⟩
    exact side_by_side x0 h r k : (concatenate S512x1024 1 _ h : S512x1024.Idx → EReal) = fun i => tok x0 (i 0) (i 1))
  unfold hid k0_pay13
  rw [e]
  pointwise [unit, act, first]

/-- The stored block at row `8 r + d / 128`, lane `d % 128`: the expert's answer for token `r`. -/
theorem outV_apply (x0 : Vec Ideal S4096x128 .f32) (x1 : Vec Ideal S1x1x1024x2048 .f32) (x2 : Vec Ideal S1x1x1x2048 .f32) (x3 : Vec Ideal S1x1x1024x1024 .f32)
    (x4 : Vec Ideal S1x1x1x1024 .f32) (y : S4096x128.Idx) :
    outV x0 (k0_pay1 x1) x2 (k0_pay2 x3) x4 y
      = expert (tok x0 ⟨(y 0).val / 8, by have : (y 0).val < 4096 := (y 0).isLt; omega⟩) (fun k f => x1 (ix4 0 0 k f)) (fun f => x2 (ix4 0 0 0 f)) (fun f d => x3 (ix4 0 0 f d))
          (fun d => x4 (ix4 0 0 0 d)) ⟨(y 0).val % 8 * 128 + (y 1).val, by have : (y 1).val < 128 := (y 1).isLt; omega⟩ := by
  unfold outV rows expert
  rw [pay3_apply]
  simp only [hid_apply, pay1_apply, pay2_apply]

end Cert.MoeIdeal.Hand

end
-- ==== Proof.MoeRef.lean ====
/- The reference of the experts' call, read at an index. -/
module

public import proofs.«01_k».proof.Proof.Gen.MoeRefIdeal.Read
public import proofs.«01_k».proof.Proof.Gather
public import proofs.«01_k».proof.Proof.MoeSpec
public import Idealize.ShloMosaic.Lib.Pointwise

@[expose] public section

set_option maxRecDepth 16384

noncomputable section

namespace Cert.MoeRefIdeal.Hand

open Cert.MoeRefIdeal Cert.MoeRefIdeal.Gen Cert.MoeRefIdeal.Read Cert.Experts
open Idealize.ShloMosaic

theorem pick (v : BitVec 32) (h : v.toNat < 32) : (Scalar.select (IntOp.cmpi .slt v 0#32) (IntOp.addi v 32#32) v).toInt = (v.toNat : ℤ) := by
  have e : v.toInt = v.toNat := by rw [BitVec.toInt_eq_toNat_cond, if_pos (by omega)]
  have : IntOp.cmpi .slt v 0#32 = 0#1 := by
    have : ¬ (v.toInt < (0#32 : BitVec 32).toInt) := by
      rw [e]; show ¬ ((v.toNat : ℤ) < 0); omega
    simp only [IntOp.cmpi, BitVec.slt, decide_eq_false this]
    rfl
  rw [this]
  exact e

theorem col14 (x0 : IVec S288 32) (h0 : ∀ x, (x0 x).toNat < 32) (n : Fin 288) :
    (val_main_v14 (F := Ideal) x0 (ix2 n (0 : Fin 1))).toInt = ((x0 (ix1 n)).toNat : ℤ) := by
  refine Eq.trans (congrArg BitVec.toInt ?_) (pick _ (h0 _))
  pointwise [val_main_v14, val_main_v13, val_main_v12, val_main_v11, val_main_v10, val_main_v9, val_main_c, val_main_c_0]
theorem col22 (x0 : IVec S288 32) (h0 : ∀ x, (x0 x).toNat < 32) (n : Fin 288) :
    (val_main_v22 (F := Ideal) x0 (ix2 n (0 : Fin 1))).toInt = ((x0 (ix1 n)).toNat : ℤ) := by
  refine Eq.trans (congrArg BitVec.toInt ?_) (pick _ (h0 _))
  pointwise [val_main_v22, val_main_v21, val_main_v20, val_main_v19, val_main_v18, val_main_v17, val_main_c_1, val_main_c_2]
theorem col49 (x0 : IVec S288 32) (h0 : ∀ x, (x0 x).toNat < 32) (n : Fin 288) :
    (val_main_v49 (F := Ideal) x0 (ix2 n (0 : Fin 1))).toInt = ((x0 (ix1 n)).toNat : ℤ) := by
  refine Eq.trans (congrArg BitVec.toInt ?_) (pick _ (h0 _))
  pointwise [val_main_v49, val_main_v48, val_main_v47, val_main_v46, val_main_v45, val_main_v44, val_main_c_9, val_main_c_10]
theorem col57 (x0 : IVec S288 32) (h0 : ∀ x, (x0 x).toNat < 32) (n : Fin 288) :
    (val_main_v57 (F := Ideal) x0 (ix2 n (0 : Fin 1))).toInt = ((x0 (ix1 n)).toNat : ℤ) := by
  refine Eq.trans (congrArg BitVec.toInt ?_) (pick _ (h0 _))
  pointwise [val_main_v57, val_main_v56, val_main_v55, val_main_v54, val_main_v53, val_main_v52, val_main_c_11, val_main_c_12]

/-- The expert of block `n`. -/
abbrev exp (x0 : IVec S288 32) (h0 : ∀ x, (x0 x).toNat < 32) (n : Fin 288) : Fin 32 := ⟨(x0 (ix1 n)).toNat, h0 _⟩

theorem w1_apply (x0 : IVec S288 32) (h0 : ∀ x, (x0 x).toNat < 32) (x3 : FVec Ideal S2x32x1024x2048 .f32) (n : Fin 288) (k : Fin 1024) (f : Fin 2048) :
    val_main_v15 (F := Ideal) x0 x3 (ix3 n k f) = x3 (ix4 1 (exp x0 h0 n) k f) := by
  refine (Cert.Take.take3 _ (val_main_v1 (F := Ideal) x3) (val_main_v14 (F := Ideal) x0) n k f (exp x0 h0 n) (col14 x0 h0 n)).trans ?_
  pointwise [val_main_v1, val_main_v0]
theorem b1_apply (x0 : IVec S288 32) (h0 : ∀ x, (x0 x).toNat < 32) (x4 : FVec Ideal S2x32x2048 .f32) (n : Fin 288) (f : Fin 2048) :
    val_main_v23 (F := Ideal) x0 x4 (ix2 n f) = x4 (ix3 1 (exp x0 h0 n) f) := by
  refine (Cert.Take.take2 _ (val_main_v3 (F := Ideal) x4) (val_main_v22 (F := Ideal) x0) n f (exp x0 h0 n) (col22 x0 h0 n)).trans ?_
  pointwise [val_main_v3, val_main_v2]
theorem w2_apply (x0 : IVec S288 32) (h0 : ∀ x, (x0 x).toNat < 32) (x5 : FVec Ideal S2x32x1024x1024 .f32) (n : Fin 288) (f : Fin 1024) (d : Fin 1024) :
    val_main_v50 (F := Ideal) x0 x5 (ix3 n f d) = x5 (ix4 1 (exp x0 h0 n) f d) := by
  refine (Cert.Take.take3 _ (val_main_v5 (F := Ideal) x5) (val_main_v49 (F := Ideal) x0) n f d (exp x0 h0 n) (col49 x0 h0 n)).trans ?_
  pointwise [val_main_v5, val_main_v4]
theorem b2_apply (x0 : IVec S288 32) (h0 : ∀ x, (x0 x).toNat < 32) (x6 : FVec Ideal S2x32x1024 .f32) (n : Fin 288) (d : Fin 1024) :
    val_main_v58 (F := Ideal) x0 x6 (ix2 n d) = x6 (ix3 1 (exp x0 h0 n) d) := by
  refine (Cert.Take.take2 _ (val_main_v7 (F := Ideal) x6) (val_main_v57 (F := Ideal) x0) n d (exp x0 h0 n) (col57 x0 h0 n)).trans ?_
  pointwise [val_main_v7, val_main_v6]

/-- Token `b` of block `n`. -/
def token (x2 : FVec Ideal S1179648x128 .f32) (n : Fin 288) (b : Fin 512) (k : Fin 1024) : EReal :=
  x2 (ix2 ⟨n.val * 4096 + b.val * 8 + k.val / 128, by omega⟩ ⟨k.val % 128, by omega⟩)

theorem first_apply (x0 : IVec S288 32) (h0 : ∀ x, (x0 x).toNat < 32) (x2 : FVec Ideal S1179648x128 .f32) (x3 : FVec Ideal S2x32x1024x2048 .f32)
    (x4 : FVec Ideal S2x32x2048 .f32) (n : Fin 288) (b : Fin 512) (f : Fin 2048) :
    val_main_v26 (F := Ideal) x0 x2 x3 x4 (ix3 n b f)
      = first (token x2 n b) (fun k f => x3 (ix4 1 (exp x0 h0 n) k f)) (fun f => x4 (ix3 1 (exp x0 h0 n) f)) f := by
  pointwise [val_main_v26, val_main_v25, val_main_v24, val_main_v16, val_main_v8]
  simp only [w1_apply x0 h0, b1_apply x0 h0]
  rfl

theorem hidden_apply (x0 : IVec S288 32) (h0 : ∀ x, (x0 x).toNat < 32) (x2 : FVec Ideal S1179648x128 .f32) (x3 : FVec Ideal S2x32x1024x2048 .f32)
    (x4 : FVec Ideal S2x32x2048 .f32) (n : Fin 288) (b : Fin 512) (f : Fin 1024) :
    val_main_v43 (F := Ideal) x0 x2 x3 x4 (ix3 n b f)
      = unit (token x2 n b) (fun k f => x3 (ix4 1 (exp x0 h0 n) k f)) (fun f => x4 (ix3 1 (exp x0 h0 n) f)) f := by
  pointwise [val_main_v43, val_main_v42, val_main_v41, val_main_v40, val_main_v39, val_main_v38, val_main_v37, val_main_v36, val_main_v35,
    val_main_v34, val_main_v33, val_main_v32, val_main_v31, val_main_v30, val_main_v29, val_main_v28, val_main_v27, val_main_cst, val_main_cst_3,
    val_main_cst_4, val_main_cst_5, val_main_cst_6, val_main_cst_7, val_main_cst_8, val_main_call0_v0, val_main_call0_v1, val_main_call0_v2,
    val_main_call0_v3, val_main_call0_v4]
  simp only [first_apply x0 h0]
  rfl

/-- A block's answer: each token through the block's expert. -/
theorem answer_apply (x0 : IVec S288 32) (h0 : ∀ x, (x0 x).toNat < 32) (x2 : FVec Ideal S1179648x128 .f32) (x3 : FVec Ideal S2x32x1024x2048 .f32)
    (x4 : FVec Ideal S2x32x2048 .f32) (x5 : FVec Ideal S2x32x1024x1024 .f32) (x6 : FVec Ideal S2x32x1024 .f32) (n : Fin 288) (b : Fin 512) (d : Fin 1024) :
    val_main_v61 (F := Ideal) x0 x2 x3 x4 x5 x6 (ix3 n b d)
      = expert (token x2 n b) (fun k f => x3 (ix4 1 (exp x0 h0 n) k f)) (fun f => x4 (ix3 1 (exp x0 h0 n) f)) (fun f d => x5 (ix4 1 (exp x0 h0 n) f d))
          (fun d => x6 (ix3 1 (exp x0 h0 n) d)) d := by
  pointwise [val_main_v61, val_main_v60, val_main_v59, val_main_v51]
  simp only [hidden_apply x0 h0, w2_apply x0 h0, b2_apply x0 h0]
  rfl

/-- The result at row `r`, lane `l`: the answer of its token where the token's block is used, zero where not. -/
theorem result_apply (x0 : IVec S288 32) (h0 : ∀ x, (x0 x).toNat < 32) (x1 : IVec S1 32) (x2 : FVec Ideal S1179648x128 .f32) (x3 : FVec Ideal S2x32x1024x2048 .f32)
    (x4 : FVec Ideal S2x32x2048 .f32) (x5 : FVec Ideal S2x32x1024x1024 .f32) (x6 : FVec Ideal S2x32x1024 .f32) (r : Fin 1179648) (l : Fin 128)
    (n : Fin 288) (b : Fin 512) (d : Fin 1024) (hrl : r.val * 128 + l.val = (n.val * 512 + b.val) * 1024 + d.val) :
    val_main_v68 (F := Ideal) x0 x1 x2 x3 x4 x5 x6 (ix2 r l)
      = if (BitVec.ofNat 32 n.val).toInt < (x1 (ix1 0)).toInt then
          expert (token x2 n b) (fun k f => x3 (ix4 1 (exp x0 h0 n) k f)) (fun f => x4 (ix3 1 (exp x0 h0 n) f)) (fun f d => x5 (ix4 1 (exp x0 h0 n) f d))
            (fun d => x6 (ix3 1 (exp x0 h0 n) d)) d
        else 0 := by
  have e : idx_main_v68 (ix2 r l) = ix3 n b d := funext fun a => Fin.ext (match a with
    | ⟨0, _⟩ => by show (r.val * 128 + l.val) / 524288 = n.val; omega
    | ⟨1, _⟩ => by show (r.val * 128 + l.val) / 1024 % 512 = b.val; omega
    | ⟨2, _⟩ => by show (r.val * 128 + l.val) % 1024 = d.val; omega)
  rw [val_main_v68_apply, e, val_main_v67_apply, answer_apply x0 h0]
  pointwise [val_main_call1_v1, val_main_call1_v2, val_main_call1_v0, val_main_v66, val_main_v65, val_main_v64, val_main_v63, val_main_v62, val_main_cst_13]
  have ez : id (constant (F := Ideal) S_ .f32 0#32) ix0 = (0 : EReal) := Ideal.ofBits_zero .f32
  rw [ez]
  by_cases h : (BitVec.ofNat 32 n.val).toInt < (x1 (ix1 0)).toInt
  · rw [if_pos h, show IntOp.cmpi .slt (BitVec.ofNat 32 n.val) (x1 (ix1 0)) = 1#1 by simp only [IntOp.cmpi, BitVec.slt, decide_eq_true h]; rfl]
    rfl
  · rw [if_neg h, show IntOp.cmpi .slt (BitVec.ofNat 32 n.val) (x1 (ix1 0)) = 0#1 by simp only [IntOp.cmpi, BitVec.slt, decide_eq_false h]; rfl]
    rfl

end Cert.MoeRefIdeal.Hand

end
-- ==== Proof.MoeIdealValue.lean ====
/- The value of the experts' call: its result array is the reference's. -/
module

public import proofs.«01_k».proof.Proof.MoeIdealMain
public import proofs.«01_k».proof.Proof.MoeIdealOk
public import proofs.«01_k».proof.Proof.MoeIdealPoint
public import proofs.«01_k».proof.Proof.MoeRef
public import Idealize.ShloMosaic.Lib.Pipeline.ValueKit
public import Idealize.ShloMosaic.Lib.Pointwise

@[expose] public section

set_option maxRecDepth 16384

noncomputable section

namespace Cert.MoeIdeal.Hand

open Cert.MoeIdeal.Gen Cert.Experts
open Idealize.ShloMosaic Idealize.ShloMosaic.TcCoe

variable (m : (ℓ : Loc nD τ sig) → Buf (Elt Ideal) ℓ)

/-- A point's expert is its entry of the first table. -/
theorem expW_eq (c : Dev nD) (t : Fin grid0.N) (n : Fin 288) (hn : t.val = n.val) :
    expW m c t = (tbl m 0 : S288.Idx → BitVec 32) (ix1 n) := by
  refine congrArg (tbl m 0 : S288.Idx → BitVec 32) (funext fun a => Fin.ext ?_)
  match a with
  | ⟨0, _⟩ =>
    show (BitVec.ofNat 32 (grid0.coords t 0).val).toNat + 1 * 0 = n.val
    rw [coords_val, BitVec.toNat_ofNat, Nat.mod_eq_of_lt (by omega)]; omega

theorem cntW_eq (c : Dev nD) : cntW m c = (tbl m 1 : S1.Idx → BitVec 32) (ix1 0) := by
  refine congrArg (tbl m 1 : S1.Idx → BitVec 32) (funext fun a => Fin.ext ?_)
  match a with
  | ⟨0, _⟩ => rfl

theorem iblk1_at (hO : Ok m) (c : Dev nD) (t : Fin (cfgM m hO).N) (e : Fin 32) (he : (expW m c t).toNat = e.val) (k : Fin 1024) (f : Fin 2048) :
    (iblk m hO c 1 t : Vec Ideal S1x1x1024x2048 .f32) (ix4 0 0 k f) = (m ((c : Thread nD τ).loc main_arg3) : Vec Ideal S2x32x1024x2048 .f32) (ix4 1 e k f) := by
  refine Eq.trans ?_ (congrFun (V_keep m c main_arg3 (by decide)) _)
  refine congrArg (V m c main_arg3) (funext fun a => Fin.ext ?_)
  match a with
  | ⟨0, _⟩ => rfl
  | ⟨1, _⟩ => show (expW m c t).toNat * 1 + 1 * 0 = e.val; omega
  | ⟨2, _⟩ => show 0 * 1024 + 1 * k.val = k.val; omega
  | ⟨3, _⟩ => show 0 * 2048 + 1 * f.val = f.val; omega

theorem iblk3_at (hO : Ok m) (c : Dev nD) (t : Fin (cfgM m hO).N) (e : Fin 32) (he : (expW m c t).toNat = e.val) (f : Fin 1024) (d : Fin 1024) :
    (iblk m hO c 3 t : Vec Ideal S1x1x1024x1024 .f32) (ix4 0 0 f d) = (m ((c : Thread nD τ).loc main_arg5) : Vec Ideal S2x32x1024x1024 .f32) (ix4 1 e f d) := by
  refine Eq.trans ?_ (congrFun (V_keep m c main_arg5 (by decide)) _)
  refine congrArg (V m c main_arg5) (funext fun a => Fin.ext ?_)
  match a with
  | ⟨0, _⟩ => rfl
  | ⟨1, _⟩ => show (expW m c t).toNat * 1 + 1 * 0 = e.val; omega
  | ⟨2, _⟩ => show 0 * 1024 + 1 * f.val = f.val; omega
  | ⟨3, _⟩ => show 0 * 1024 + 1 * d.val = d.val; omega

/-- The biases reach the call with an axis of one row put in. -/
theorem V_v0_at (c : Dev nD) (e : Fin 32) (f : Fin 2048) :
    (V m c main_v0 : Vec Ideal S2x32x1x2048 .f32) (ix4 1 e 0 f) = (m ((c : Thread nD τ).loc main_arg4) : Vec Ideal S2x32x2048 .f32) (ix3 1 e f) := by
  entry_read
  pointwise
theorem V_v1_at (c : Dev nD) (e : Fin 32) (d : Fin 1024) :
    (V m c main_v1 : Vec Ideal S2x32x1x1024 .f32) (ix4 1 e 0 d) = (m ((c : Thread nD τ).loc main_arg6) : Vec Ideal S2x32x1024 .f32) (ix3 1 e d) := by
  entry_read
  pointwise

theorem iblk2_at (hO : Ok m) (c : Dev nD) (t : Fin (cfgM m hO).N) (e : Fin 32) (he : (expW m c t).toNat = e.val) (f : Fin 2048) :
    (iblk m hO c 2 t : Vec Ideal S1x1x1x2048 .f32) (ix4 0 0 0 f) = (m ((c : Thread nD τ).loc main_arg4) : Vec Ideal S2x32x2048 .f32) (ix3 1 e f) := by
  refine Eq.trans ?_ (V_v0_at m c e f)
  refine congrArg (V m c main_v0) (funext fun a => Fin.ext ?_)
  match a with
  | ⟨0, _⟩ => rfl
  | ⟨1, _⟩ => show (expW m c t).toNat * 1 + 1 * 0 = e.val; omega
  | ⟨2, _⟩ => rfl
  | ⟨3, _⟩ => show 0 * 2048 + 1 * f.val = f.val; omega

theorem iblk4_at (hO : Ok m) (c : Dev nD) (t : Fin (cfgM m hO).N) (e : Fin 32) (he : (expW m c t).toNat = e.val) (d : Fin 1024) :
    (iblk m hO c 4 t : Vec Ideal S1x1x1x1024 .f32) (ix4 0 0 0 d) = (m ((c : Thread nD τ).loc main_arg6) : Vec Ideal S2x32x1024 .f32) (ix3 1 e d) := by
  refine Eq.trans ?_ (V_v1_at m c e d)
  refine congrArg (V m c main_v1) (funext fun a => Fin.ext ?_)
  match a with
  | ⟨0, _⟩ => rfl
  | ⟨1, _⟩ => show (expW m c t).toNat * 1 + 1 * 0 = e.val; omega
  | ⟨2, _⟩ => rfl
  | ⟨3, _⟩ => show 0 * 1024 + 1 * d.val = d.val; omega

/-- The block of tokens a used point reads is its own. -/
theorem own (i : grid0.Coords) (n : BitVec 32) (h : lt1 i n) :
    (Scalar.select (Scalar.cmpi .slt (BitVec.ofNat 32 (i 0).val) n) (BitVec.ofNat 32 (i 0).val) 0#32).toNat = (i 0).val := by
  rw [(slt_iff _ _).mpr h]
  show (BitVec.ofNat 32 (i 0).val).toNat = _
  have : (i 0).val < 288 := (i 0).isLt
  rw [BitVec.toNat_ofNat, Nat.mod_eq_of_lt (by omega)]

theorem iblk0_at (hO : Ok m) (c : Dev nD) (t : Fin (cfgM m hO).N) (hu : Used m c t) (n : Fin 288) (hn : t.val = n.val) (b : Fin 512) (k : Fin 1024) :
    tok (iblk m hO c 0 t : Vec Ideal S4096x128 .f32) b k = Cert.MoeRefIdeal.Hand.token (m ((c : Thread nD τ).loc main_arg2) : Vec Ideal S1179648x128 .f32) n b k := by
  unfold tok Cert.MoeRefIdeal.Hand.token
  refine Eq.trans ?_ (congrFun (V_keep m c main_arg2 (by decide)) _)
  refine congrArg (V m c main_arg2) (funext fun a => Fin.ext ?_)
  have e : (Scalar.select (Scalar.cmpi .slt (BitVec.ofNat 32 (grid0.coords t 0).val) (cntW m c)) (BitVec.ofNat 32 (grid0.coords t 0).val) 0#32).toNat = n.val :=
    (own _ _ hu).trans ((coords_val t).trans hn)
  match a with
  | ⟨0, _⟩ =>
    show (Scalar.select (Scalar.cmpi .slt (BitVec.ofNat 32 (grid0.coords t 0).val) (cntW m c)) (BitVec.ofNat 32 (grid0.coords t 0).val) 0#32).toNat * 4096
      + 1 * (b.val * 8 + k.val / 128) = n.val * 4096 + b.val * 8 + k.val / 128
    rw [e]; omega
  | ⟨1, _⟩ => show 0 * 128 + 1 * (k.val % 128) = k.val % 128; omega

theorem pay12_apply (y : S4096x128.Idx) : k0_pay12 (F := Ideal) y = (0 : EReal) := Ideal.ofBits_zero .f32

theorem expert_congr {tok tok' : Fin 1024 → EReal} {w1 w1' : Fin 1024 → Fin 2048 → EReal} {b1 b1' : Fin 2048 → EReal} {w2 w2' : Fin 1024 → Fin 1024 → EReal}
    {b2 b2' : Fin 1024 → EReal} (d : Fin 1024) (h : tok = tok') (h1 : w1 = w1') (h2 : b1 = b1') (h3 : w2 = w2') (h4 : b2 = b2') :
    expert tok w1 b1 w2 b2 d = expert tok' w1' b1' w2' b2' d := by
  subst h h1 h2 h3 h4; rfl

/-- What point `t` stores at row `y 0`, lane `y 1` of its block is the reference's result at row `4096 t + y 0`. -/
theorem outA_apply (h0 : ∀ x : S288.Idx, ((tbl m 0 : S288.Idx → BitVec 32) x).toNat < 32) (hO : Ok m) (c : Dev nD) (t : Fin (cfgM m hO).N) (y : S4096x128.Idx)
    (r : Fin 1179648) (l : Fin 128) (hr : r.val = t.val * 4096 + (y 0).val) (hl : l.val = (y 1).val) :
    outA m hO c t y = Cert.MoeRefIdeal.Read.val_main_v68 (F := Ideal) (tbl m 0) (tbl m 1) (m ((c : Thread nD τ).loc main_arg2)) (m ((c : Thread nD τ).loc main_arg3))
      (m ((c : Thread nD τ).loc main_arg4)) (m ((c : Thread nD τ).loc main_arg5)) (m ((c : Thread nD τ).loc main_arg6)) (ix2 r l) := by
  have ht : t.val < 288 := Nat.lt_of_lt_of_eq t.isLt N_0
  have hy0 : (y 0).val < 4096 := (y 0).isLt
  have hy1 : (y 1).val < 128 := (y 1).isLt
  refine Eq.trans ?_ (Cert.MoeRefIdeal.Hand.result_apply (tbl m 0) h0 (tbl m 1) _ _ _ _ _ r l ⟨t.val, ht⟩ ⟨(y 0).val / 8, by omega⟩
    ⟨(y 0).val % 8 * 128 + (y 1).val, by omega⟩ (by dsimp only; omega)).symm
  have he : (expW m c t).toNat = (Cert.MoeRefIdeal.Hand.exp (tbl m 0) h0 ⟨t.val, ht⟩).val := congrArg BitVec.toNat (expW_eq m c t ⟨t.val, ht⟩ rfl)
  have hiff : Used m c t ↔ (BitVec.ofNat 32 t.val).toInt < ((tbl m 1 : S1.Idx → BitVec 32) (ix1 0)).toInt := by
    unfold Used lt1
    rw [cntW_eq, coords_val]
  by_cases hu : Used m c t
  · rw [if_pos (hiff.mp hu)]
    refine ((congrFun (if_pos hu) y).trans (outV_apply _ _ _ _ _ y)).trans ?_
    exact expert_congr _ (funext fun k => iblk0_at m hO c t hu ⟨t.val, ht⟩ rfl _ k) (funext fun k => funext fun f => iblk1_at m hO c t _ he k f)
      (funext fun f => iblk2_at m hO c t _ he f) (funext fun f => funext fun d => iblk3_at m hO c t _ he f d) (funext fun d => iblk4_at m hO c t _ he d)
  · rw [show outA m hO c t = _ from if_neg hu, if_neg (fun h => hu (hiff.mpr h))]
    exact pay12_apply y

theorem flush5 (a : (pcfg0 (F := Ideal)).Adm) (t : Fin (cfg0 a).N) : ((cfg0 a).win 5).flush t = true :=
  (Pipeline.Window.flushOf_reads cc0_transform_5 reads0_5 hreads0_5 0 (by decide) (by decide) (Pipeline.Window.sep_of_coord cc0_transform_5 0 0 (fun _ => rfl) (by decide))
    (P := 1) (m := 0) (by decide) rfl t).mpr (Nat.mod_one _)

/-- Every row of the result is some point's. -/
theorem covers5 (a : (pcfg0 (F := Ideal)).Adm) : ((cfg0 a).win 5).Covers := by
  refine ⟨fun b => match b with | ⟨0, _⟩ => by show 0 < 4096; omega | ⟨1, _⟩ => by show 0 < 128; omega, fun β => ?_⟩
  have h0 : (β (0 : Fin 2)).val < (1179648 + 4096 - 1) / 4096 := (β (0 : Fin 2)).isLt
  have h1 : (β (1 : Fin 2)).val < (128 + 128 - 1) / 128 := (β (1 : Fin 2)).isLt
  replace h0 : (β (0 : Fin 2)).val < 288 := by omega
  replace h1 : (β (1 : Fin 2)).val < 1 := by omega
  refine ⟨⟨(β (0 : Fin 2)).val, Nat.lt_of_lt_of_eq h0 N_0.symm⟩, flush5 a _, fun b => ⟨?_, .inl rfl⟩⟩
  match b with
  | ⟨0, _⟩ =>
    show (BitVec.ofNat 32 (grid0.coords ⟨(β (0 : Fin 2)).val, Nat.lt_of_lt_of_eq h0 N_0.symm⟩ 0).val).toNat = (β (0 : Fin 2)).val
    rw [coords_val, BitVec.toNat_ofNat, Nat.mod_eq_of_lt (by dsimp only; omega)]
  | ⟨1, _⟩ => show 0 = (β (1 : Fin 2)).val; omega

/-- The result array is the reference's. -/
theorem final (h0 : ∀ x : S288.Idx, ((tbl m 0 : S288.Idx → BitVec 32) x).toNat < 32) (hO : Ok m) (c : Dev nD) :
    (dats m hO 0 c).arrAt 5 (cfgM m hO).N
      = Cert.MoeRefIdeal.Read.val_main_v68 (F := Ideal) (tbl m 0) (tbl m 1) (m ((c : Thread nD τ).loc main_arg2)) (m ((c : Thread nD τ).loc main_arg3))
          (m ((c : Thread nD τ).loc main_arg4)) (m ((c : Thread nD τ).loc main_arg5)) (m ((c : Thread nD τ).loc main_arg6)) := by
  refine (dats m hO 0 c).arrAt_eq_of_covers 5 _ (covers5 (adm m hO)) fun t hf (y : S4096x128.Idx) => ?_
  have ht : t.val < 288 := Nat.lt_of_lt_of_eq t.isLt N_0
  have hy0 : (y 0).val < 4096 := (y 0).isLt
  have hy1 : (y 1).val < 128 := (y 1).isLt
  have e : (((cfgM m hO).win 5).blk t).view.emb y = ix2 (⟨t.val * 4096 + (y 0).val, by omega⟩ : Fin 1179648) (⟨(y 1).val, hy1⟩ : Fin 128) :=
    funext fun a => Fin.ext (match a with
      | ⟨0, _⟩ => by
        show (BitVec.ofNat 32 (grid0.coords t 0).val).toNat * 4096 + 1 * (y 0).val = t.val * 4096 + (y 0).val
        rw [coords_val, BitVec.toNat_ofNat, Nat.mod_eq_of_lt (by omega)]; omega
      | ⟨1, _⟩ => by show 0 * 128 + 1 * (y 1).val = (y 1).val; omega)
  rw [after0_5, e]
  exact outA_apply m h0 hO c t y _ _ rfl rfl

end Cert.MoeIdeal.Hand

end
-- ==== Proof.lean ====
module

public import proofs.«01_k».proof.Defs
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvIdeal.Value
public import proofs.«01_k».proof.Proof.Gen.QkvRefIdeal.Run
public import proofs.«01_k».proof.Proof.Gen.QkvRefIdeal.Read
public import proofs.«01_k».proof.Proof.Gen.Moe
public import proofs.«01_k».proof.Proof.Gen.Moe.Skeleton
public import proofs.«01_k».proof.Proof.Gen.Moe.Launch
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeRefIdeal
public import proofs.«01_k».proof.Proof.Gen.MoeRefIdeal.Run
public import proofs.«01_k».proof.Proof.Gen.MoeRefIdeal.Read
public import proofs.«01_k».proof.Proof.Gen.Pre_experts_exist
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Inp
public import proofs.«01_k».proof.Proof.Gen.Inp.Skeleton
public import proofs.«01_k».proof.Proof.Gen.Inp.Launch
public import proofs.«01_k».proof.Proof.Gen.Inp.Points
public import proofs.«01_k».proof.Proof.Gen.Inp.Frame
public import proofs.«01_k».proof.Proof.Gen.InpIdeal
public import proofs.«01_k».proof.Proof.Gen.InpIdeal.Skeleton
public import proofs.«01_k».proof.Proof.Gen.InpIdeal.Launch
public import proofs.«01_k».proof.Proof.Gen.InpIdeal.Points
public import proofs.«01_k».proof.Proof.Gen.InpIdeal.Frame
public import proofs.«01_k».proof.Proof.Gen.InpRefIdeal
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.OutIdeal.Value
public import proofs.«01_k».proof.Proof.Gen.OutRefIdeal.Run
public import proofs.«01_k».proof.Proof.Gen.OutRefIdeal.Read
public import proofs.«01_k».proof.Proof.Gen.InpIdeal.Value
public import proofs.«01_k».proof.Proof.Gen.InpRefIdeal.Run
public import proofs.«01_k».proof.Proof.Gen.InpRefIdeal.Read
public import proofs.«01_k».proof.Proof.Gen.MixIdeal.Value
public import proofs.«01_k».proof.Proof.Gen.MixRefIdeal.Run
public import proofs.«01_k».proof.Proof.Gen.MixRefIdeal.Read
public import proofs.«01_k».proof.Proof.QkvValue
public import proofs.«01_k».proof.Proof.MixValue
public import proofs.«01_k».proof.Proof.AdaValue
public import proofs.«01_k».proof.Proof.NaValue
public import proofs.«01_k».proof.Proof.InpValue
public import proofs.«01_k».proof.Proof.OutValue
public import proofs.«01_k».proof.Proof.MoeMain
public import proofs.«01_k».proof.Proof.MoeOk
public import proofs.«01_k».proof.Proof.MoeIdealValue
public import Idealize.ShloMosaic.Adequacy
public import Idealize.ShloMosaic.Init
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaRefIdeal
public import proofs.«01_k».proof.Proof.Gen.AdaRefIdeal.Run
public import proofs.«01_k».proof.Proof.Gen.AdaRefIdeal.Read
public import proofs.«01_k».proof.Proof.Gen.Na
public import proofs.«01_k».proof.Proof.Gen.Na.Skeleton
public import proofs.«01_k».proof.Proof.Gen.Na.Launch
public import proofs.«01_k».proof.Proof.Gen.Na.Points
public import proofs.«01_k».proof.Proof.Gen.Na.Frame
public import proofs.«01_k».proof.Proof.Gen.NaIdeal
public import proofs.«01_k».proof.Proof.Gen.NaIdeal.Skeleton
public import proofs.«01_k».proof.Proof.Gen.NaIdeal.Launch
public import proofs.«01_k».proof.Proof.Gen.NaIdeal.Points
public import proofs.«01_k».proof.Proof.Gen.NaIdeal.Frame
public import proofs.«01_k».proof.Proof.Gen.NaIdeal.Value
public import proofs.«01_k».proof.Proof.Gen.NaRefIdeal
public import proofs.«01_k».proof.Proof.Gen.NaRefIdeal.Run
public import proofs.«01_k».proof.Proof.Gen.NaRefIdeal.Read
public import proofs.«01_k».proof.Proof.Gen.Pre_finite_na

@[expose] public section

noncomputable section

namespace Cert.Proof

open Idealize.ShloMosaic Idealize.SL.Sem

theorem frame_qkvRef : quiescent_QkvRefIdeal (hQkvRefIdeal := Cert.QkvRefIdeal.Gen.facts) := fun m g _ => by
  run_from Cert.QkvRefIdeal.Value.run m g
  · exact fun _ => ⟨trivial, trivial, trivial, trivial⟩
  · exact sem_eq_zero_of_no_sems (sig := Cert.QkvRefIdeal.sig) (by decide) _

theorem value_qkv : algebraic_QkvIdeal_QkvRefIdeal (hQkvIdeal := Cert.QkvIdeal.Gen.facts)
    (hQkvRefIdeal := Cert.QkvRefIdeal.Gen.facts) := by
  pair_intro
  · run_from Cert.QkvIdeal.Gen.run_main m g
  · run_from Cert.QkvRefIdeal.Value.run m' g'
    refine (Cert.QkvRefIdeal.Read.val_main_v55_eq _ _ _ _).trans (.trans ?_ (Cert.QkvIdeal.Value.final m _).symm)
    rw [(hagree _).2.2.2]

/-- The precondition read on the first table of the call. -/
theorem experts_lt (m : (ℓ : Loc Cert.MoeIdeal.nD Cert.MoeIdeal.τ Cert.MoeIdeal.sig) → Buf (Elt Ideal) ℓ)
    (h : Pre_MoeIdeal (hPre_experts_exist := Cert.Pre_experts_exist.Gen.facts) m) (x : Cert.MoeIdeal.S288.Idx) :
    ((Cert.MoeIdeal.Hand.tbl m 0 : Cert.MoeIdeal.S288.Idx → BitVec 32) x).toNat < 32 := by
  rw [Cert.MoeIdeal.Hand.tbl0_eq]
  exact Cert.Pre_experts_exist.lt32 _ _ _ _ _ _ _ (h 0) x

theorem frame_moe : quiescent_Moe (hMoe := Cert.Moe.Gen.facts) (hPre_experts_exist := Cert.Pre_experts_exist.Gen.facts) := fun m g h => by
  have h0 : ∀ x : Cert.Moe.S288.Idx, ((Cert.Moe.Hand.tbl m 0 : Cert.Moe.S288.Idx → BitVec 32) x).toNat < 32 := fun x => by
    rw [Cert.Moe.Hand.tbl0_eq]
    exact Cert.Pre_experts_exist.lt32 _ _ _ _ _ _ _ (h 0) x
  exact (θ_run _ _ _).mono (fun r h => ⟨fun c => (h.1 c).1, h.2⟩) (Cert.Moe.Hand.run_all m g (Cert.Moe.Hand.ok_of m h0))

theorem frame_moeIdeal : quiescent_MoeIdeal (hMoeIdeal := Cert.MoeIdeal.Gen.facts) (hPre_experts_exist := Cert.Pre_experts_exist.Gen.facts) := fun m g h =>
  (θ_run _ _ _).mono (fun r h => ⟨fun c => (h.1 c).1, h.2⟩) (Cert.MoeIdeal.Hand.run_all m g (Cert.MoeIdeal.Hand.ok_of m (experts_lt m h)))

theorem frame_moeRef : quiescent_MoeRefIdeal (hMoeRefIdeal := Cert.MoeRefIdeal.Gen.facts) (hPre_experts_exist := Cert.Pre_experts_exist.Gen.facts) := fun m g _ => by
  run_from Cert.MoeRefIdeal.Value.run m g
  · exact fun _ => ⟨trivial, trivial, trivial, trivial, trivial, trivial, trivial⟩
  · exact sem_eq_zero_of_no_sems (sig := Cert.MoeRefIdeal.sig) (by decide) _

theorem value_moe : algebraic_MoeIdeal_MoeRefIdeal (hMoeIdeal := Cert.MoeIdeal.Gen.facts)
    (hMoeRefIdeal := Cert.MoeRefIdeal.Gen.facts) (hPre_experts_exist := Cert.Pre_experts_exist.Gen.facts) := fun m g m' g' h hagree =>
  ⟨fun c => Cert.MoeRefIdeal.Value.res_main_v68 m' c,
    (θ_run _ _ _).mono (fun r hr c => ⟨(hr.1 c).2.trans (by
      obtain rfl : c = 0 := Subsingleton.elim _ _
      rw [Cert.MoeIdeal.Hand.final m (experts_lt m h), Cert.MoeIdeal.Hand.tbl0_eq, Cert.MoeIdeal.Hand.tbl1_eq]
      refine Eq.trans ?_ (Cert.MoeRefIdeal.Read.val_main_v68_eq m' 0).symm
      obtain ⟨e0, e1, e2, e3, e4, e5, e6⟩ := hagree 0
      rw [e0, e1, e2, e3, e4, e5, e6]), (hr.1 c).1⟩) (Cert.MoeIdeal.Hand.run_all m g (Cert.MoeIdeal.Hand.ok_of m (experts_lt m h))),
    by
      run_from Cert.MoeRefIdeal.Value.run m' g'⟩

theorem frame_outRef : quiescent_OutRefIdeal (hOutRefIdeal := Cert.OutRefIdeal.Gen.facts) := fun m g _ => by
  run_from Cert.OutRefIdeal.Value.run m g
  · exact fun _ => ⟨trivial, trivial, trivial, trivial⟩
  · exact sem_eq_zero_of_no_sems (sig := Cert.OutRefIdeal.sig) (by decide) _

theorem value_out : algebraic_OutIdeal_OutRefIdeal (hOutIdeal := Cert.OutIdeal.Gen.facts)
    (hOutRefIdeal := Cert.OutRefIdeal.Gen.facts) := by
  pair_intro
  · run_from Cert.OutIdeal.Gen.run_main m g
  · run_from Cert.OutRefIdeal.Value.run m' g'
    refine (Cert.OutRefIdeal.Read.val_main_v8_eq _ _ _ _).trans (.trans ?_ (Cert.OutIdeal.Value.final m _).symm)
    rfl

theorem frame_inpRef : quiescent_InpRefIdeal (hInpRefIdeal := Cert.InpRefIdeal.Gen.facts) := fun m g _ => by
  run_from Cert.InpRefIdeal.Value.run m g
  · exact fun _ => ⟨trivial, trivial, trivial, trivial, trivial⟩
  · exact sem_eq_zero_of_no_sems (sig := Cert.InpRefIdeal.sig) (by decide) _

theorem value_inp : algebraic_InpIdeal_InpRefIdeal (hInpIdeal := Cert.InpIdeal.Gen.facts)
    (hInpRefIdeal := Cert.InpRefIdeal.Gen.facts) := by
  pair_intro
  · run_from Cert.InpIdeal.Gen.run_main m g
  · run_from Cert.InpRefIdeal.Value.run m' g'
    refine (Cert.InpRefIdeal.Read.val_main_v53_eq _ _ _ _ _).trans (.trans ?_ (Cert.InpIdeal.Value.final m _).symm)
    rw [(hagree _).2.2.2.2]

theorem frame_mixRef : quiescent_MixRefIdeal (hMixRefIdeal := Cert.MixRefIdeal.Gen.facts) := fun m g _ => by
  run_from Cert.MixRefIdeal.Value.run m g
  · exact fun _ => ⟨trivial, trivial, trivial, trivial, trivial, trivial, trivial, trivial, trivial⟩
  · exact sem_eq_zero_of_no_sems (sig := Cert.MixRefIdeal.sig) (by decide) _

theorem value_mix : algebraic_MixIdeal_MixRefIdeal (hMixIdeal := Cert.MixIdeal.Gen.facts)
    (hMixRefIdeal := Cert.MixRefIdeal.Gen.facts) := by
  pair_intro
  · run_from Cert.MixIdeal.Gen.run_main m g
  · run_from Cert.MixRefIdeal.Value.run m' g'
    refine (Cert.MixRefIdeal.Read.val_main_v70_eq _ _).trans (.trans ?_ (Cert.MixIdeal.Value.final m _).symm)
    rw [(hagree _).1, (hagree _).2.1, (hagree _).2.2.1, (hagree _).2.2.2.1, (hagree _).2.2.2.2.1, (hagree _).2.2.2.2.2.1, (hagree _).2.2.2.2.2.2.1, (hagree _).2.2.2.2.2.2.2.1, (hagree _).2.2.2.2.2.2.2.2]

theorem frame_adaRef : quiescent_AdaRefIdeal (hAdaRefIdeal := Cert.AdaRefIdeal.Gen.facts) := fun m g _ => by
  run_from Cert.AdaRefIdeal.Value.run m g
  · exact fun _ => ⟨trivial, trivial, trivial, trivial⟩
  · exact sem_eq_zero_of_no_sems (sig := Cert.AdaRefIdeal.sig) (by decide) _

theorem value_ada : algebraic_AdaIdeal_AdaRefIdeal (hAdaIdeal := Cert.AdaIdeal.Gen.facts)
    (hAdaRefIdeal := Cert.AdaRefIdeal.Gen.facts) := by
  pair_intro
  · run_from Cert.AdaIdeal.Gen.run_main m g
    · exact Cert.AdaIdeal.Gen.W_main_arg0 m _ _
    · exact Cert.AdaIdeal.Gen.W_main_arg1 m _ _
    · exact Cert.AdaIdeal.Gen.W_main_arg3 m _ _
  · run_from Cert.AdaRefIdeal.Value.run m' g'
    refine (Cert.AdaRefIdeal.Read.val_main_v12_eq _ _ _ _).trans (.trans ?_ (Cert.AdaIdeal.Value.final m _).symm)
    rw [(hagree _).2.2.2]

theorem frame_naRef : quiescent_NaRefIdeal (hNaRefIdeal := Cert.NaRefIdeal.Gen.facts) := fun m g _ => by
  run_from Cert.NaRefIdeal.Value.run m g
  · exact fun _ => ⟨trivial, trivial⟩
  · exact sem_eq_zero_of_no_sems (sig := Cert.NaRefIdeal.sig) (by decide) _

theorem frame_naRef_finite : quiescent_NaRefIdeal_pre_finite_na (hNaRefIdeal := Cert.NaRefIdeal.Gen.facts) (hPre_finite_na := Cert.Pre_finite_na.Gen.facts) := fun m g _ => by
  run_from Cert.NaRefIdeal.Value.run m g
  · exact fun _ => ⟨trivial, trivial⟩
  · exact sem_eq_zero_of_no_sems (sig := Cert.NaRefIdeal.sig) (by decide) _

theorem value_na : algebraic_NaIdeal_NaRefIdeal_pre_finite_na (hNaIdeal := Cert.NaIdeal.Gen.facts)
    (hNaRefIdeal := Cert.NaRefIdeal.Gen.facts) (hPre_finite_na := Cert.Pre_finite_na.Gen.facts) := by
  pair_intro
  · run_from Cert.NaIdeal.Gen.run_main m g
    exact Cert.NaIdeal.Gen.V_main_arg1 m _
  · run_from Cert.NaRefIdeal.Value.run m' g'
    refine (Cert.NaRefIdeal.Read.val_main_v132_eq _).trans (.trans ?_ (Cert.NaIdeal.Value.final m _ (Cert.Pre_finite_na.real0 _ _ (hpre _).1) (Cert.Pre_finite_na.real1 _ _ (hpre _).2)).symm)
    exact congrArg₂ (fun u v => Cert.NaRefIdeal.Read.val_main_v132 (F := Ideal) u v) (hagree _).1 (hagree _).2

theorem claim : Cert.Claim :=
  ⟨Cert.Qkv.Gen.facts, Cert.QkvIdeal.Gen.facts, Cert.QkvRefIdeal.Gen.facts, Cert.Moe.Gen.facts, Cert.MoeIdeal.Gen.facts, Cert.MoeRefIdeal.Gen.facts,
    Cert.Out.Gen.facts, Cert.OutIdeal.Gen.facts, Cert.OutRefIdeal.Gen.facts, Cert.Inp.Gen.facts, Cert.InpIdeal.Gen.facts, Cert.InpRefIdeal.Gen.facts,
    Cert.Mix.Gen.facts, Cert.MixIdeal.Gen.facts, Cert.MixRefIdeal.Gen.facts, Cert.Ada.Gen.facts, Cert.AdaIdeal.Gen.facts, Cert.AdaRefIdeal.Gen.facts, Cert.Na.Gen.facts, Cert.NaIdeal.Gen.facts, Cert.NaRefIdeal.Gen.facts, Cert.Pre_experts_exist.Gen.facts, Cert.Pre_finite_na.Gen.facts,
    fun m ρ _ => Cert.Qkv.Gen.frame m ρ, fun m ρ _ => Cert.QkvIdeal.Gen.frame m ρ, frame_qkvRef,
    frame_moe, frame_moeIdeal, frame_moeRef,
    fun m ρ _ => Cert.Out.Gen.frame m ρ, fun m ρ _ => Cert.OutIdeal.Gen.frame m ρ, frame_outRef,
    fun m ρ _ => Cert.Inp.Gen.frame m ρ, fun m ρ _ => Cert.InpIdeal.Gen.frame m ρ, frame_inpRef,
    fun m ρ _ => Cert.Mix.Gen.frame m ρ, fun m ρ _ => Cert.MixIdeal.Gen.frame m ρ, frame_mixRef,
    fun m ρ _ => Cert.Ada.Gen.frame m ρ, fun m ρ _ => Cert.AdaIdeal.Gen.frame m ρ, frame_adaRef,
    fun m ρ _ => Cert.Na.Gen.frame m ρ, fun m ρ _ => Cert.NaIdeal.Gen.frame m ρ, fun m ρ _ => Cert.NaIdeal.Gen.frame m ρ, frame_naRef, frame_naRef_finite,
    trivial, value_qkv, trivial, value_moe, trivial, value_out, trivial, value_inp, trivial, value_mix, trivial, value_ada, trivial, value_na⟩

end Cert.Proof

end
